-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gt_boxes_below_infinity [hPre_gt_boxes_below_infinity : Cert.Pre_gt_boxes_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gt_boxes_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gt_boxes_below_infinity [hPre_gt_boxes_below_infinity : Cert.Pre_gt_boxes_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gt_boxes_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gt_boxes_below_infinity [hKernelIdeal : Cert.KernelIdeal.Facts] [hPre_gt_boxes_below_infinity : Cert.Pre_gt_boxes_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gt_boxes_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gt_boxes_below_infinity [hReferenceIdeal : Cert.ReferenceIdeal.Facts] [hPre_gt_boxes_below_infinity : Cert.Pre_gt_boxes_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gt_boxes_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gt_boxes_below_infinity [hKernelIdeal : Cert.KernelIdeal.Facts] [hReferenceIdeal : Cert.ReferenceIdeal.Facts] [hPre_gt_boxes_below_infinity : Cert.Pre_gt_boxes_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gt_boxes_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gt_boxes_below_infinity : Cert.Pre_gt_boxes_below_infinity.Facts),
    quiescent_Kernel (hKernel := hKernel)
    ∧ quiescent_KernelIdeal (hKernelIdeal := hKernelIdeal)
    ∧ quiescent_KernelIdeal_pre_gt_boxes_below_infinity (hKernelIdeal := hKernelIdeal) (hPre_gt_boxes_below_infinity := hPre_gt_boxes_below_infinity)
    ∧ quiescent_ReferenceIdeal (hReferenceIdeal := hReferenceIdeal)
    ∧ quiescent_ReferenceIdeal_pre_gt_boxes_below_infinity (hReferenceIdeal := hReferenceIdeal) (hPre_gt_boxes_below_infinity := hPre_gt_boxes_below_infinity)
    ∧ preserves_Kernel_KernelIdeal
    ∧ algebraic_KernelIdeal_ReferenceIdeal_pre_gt_boxes_below_infinity (hKernelIdeal := hKernelIdeal) (hReferenceIdeal := hReferenceIdeal) (hPre_gt_boxes_below_infinity := hPre_gt_boxes_below_infinity)
-- ==== Pre_gt_boxes_below_infinity.lean ====
abbrev S20000x7 : Shape := ⟨2, ![20000, 7]⟩
abbrev S128x7 : Shape := ⟨2, ![128, 7]⟩
abbrev S128 : Shape := ⟨1, ![128]⟩
abbrev S_ : Shape := ⟨0, ![]⟩

class Facts : Prop where
  bcast_S_S128x7 : S_.BroadcastsInDim S128x7 (![] : Fin 0 → Fin S128x7.rank)
  reducesTo_S128x7_S_d0_1 : S128x7.ReducesTo [0, 1] S_
  h_S_ : 0 < S_.numel

variable [Facts]

def fn {F : FTy → Type} [FloatOps F] (main_arg0 : FVec F S20000x7 .f32) (main_arg1 : FVec F S128x7 .f32) (main_arg2 : IVec S128 32) : IVec S_ 1 :=
  let main_cst : FVec F S_ .f32 := constant S_ .f32 0x7F800000#32
  let main_v0 : FVec F S128x7 .f32 := broadcastInDim S128x7 ![] bcast_S_S128x7 main_cst
  let main_v1 : IVec S128x7 1 := cmpf .olt main_arg1 main_v0
  let main_c : IVec S_ 1 := constantI S_ 1 1#1
  let main_v2 : IVec S_ 1 := (fun x v => Host.reduce IntOp.andi x v reducesTo_S128x7_S_d0_1 h_S_) main_v1 main_c
  main_v2
-- ==== Kernel.lean ====
abbrev S20000x7 : Shape := ⟨2, ![20000, 7]⟩
abbrev S128x7 : Shape := ⟨2, ![128, 7]⟩
abbrev S128 : Shape := ⟨1, ![128]⟩
abbrev S7x20000 : Shape := ⟨2, ![7, 20000]⟩
abbrev S7x128 : Shape := ⟨2, ![7, 128]⟩
abbrev S1x128 : Shape := ⟨2, ![1, 128]⟩
abbrev S8x128 : Shape := ⟨2, ![8, 128]⟩
abbrev S1x20000 : Shape := ⟨2, ![1, 20000]⟩
abbrev S128x1 : Shape := ⟨2, ![128, 1]⟩
abbrev S128x4096 : Shape := ⟨2, ![128, 4096]⟩
abbrev S1x4096 : Shape := ⟨2, ![1, 4096]⟩
abbrev S4096 : Shape := ⟨1, ![4096]⟩
abbrev S128x3616 : Shape := ⟨2, ![128, 3616]⟩
abbrev S1x3616 : Shape := ⟨2, ![1, 3616]⟩
abbrev S3616 : Shape := ⟨1, ![3616]⟩
abbrev S8x4096 : Shape := ⟨2, ![8, 4096]⟩
abbrev S8x3616 : Shape := ⟨2, ![8, 3616]⟩
abbrev S20000 : Shape := ⟨1, ![20000]⟩

abbrev nBuf : Space → Nat
  | .hbm => 14
  | .vmem => 6
  | .smem => 0
  | _ => 0

abbrev bufTy : (tb : Table) → Fin (tcTables nBuf tb) → BufTy
  | .hbm, ⟨0, _⟩ => ⟨S20000x7, .f32⟩
  | .hbm, ⟨1, _⟩ => ⟨S128x7, .f32⟩
  | .hbm, ⟨2, _⟩ => ⟨S128, .i32⟩
  | .hbm, ⟨3, _⟩ => ⟨S7x20000, .f32⟩
  | .hbm, ⟨4, _⟩ => ⟨S7x128, .f32⟩
  | .hbm, ⟨5, _⟩ => ⟨S128, .f32⟩
  | .hbm, ⟨6, _⟩ => ⟨S1x128, .f32⟩
  | .hbm, ⟨7, _⟩ => ⟨S8x128, .f32⟩
  | .hbm, ⟨8, _⟩ => ⟨S7x20000, .f32⟩
  | .hbm, ⟨9, _⟩ => ⟨S1x20000, .i32⟩
  | .hbm, ⟨10, _⟩ => ⟨S1x20000, .f32⟩
  | .hbm, ⟨11, _⟩ => ⟨S20000x7, .f32⟩
  | .hbm, ⟨12, _⟩ => ⟨S20000, .i32⟩
  | .hbm, ⟨13, _⟩ => ⟨S20000, .f32⟩
  | .local _ .vmem, ⟨0, _⟩ => ⟨S7x20000, .f32⟩
  | .local _ .vmem, ⟨1, _⟩ => ⟨S128x7, .f32⟩
  | .local _ .vmem, ⟨2, _⟩ => ⟨S8x128, .f32⟩
  | .local _ .vmem, ⟨3, _⟩ => ⟨S7x20000, .f32⟩
  | .local _ .vmem, ⟨4, _⟩ => ⟨S1x20000, .i32⟩
  | .local _ .vmem, ⟨5, _⟩ => ⟨S1x20000, .f32⟩
  | _, _ => ⟨S20000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S7x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x20000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x20000 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x20000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S20000x7 : Shape := ⟨2, ![20000, 7]⟩
abbrev S128x7 : Shape := ⟨2, ![128, 7]⟩
abbrev S128 : Shape := ⟨1, ![128]⟩
abbrev S5 : Shape := ⟨1, ![5]⟩
abbrev S2 : Shape := ⟨1, ![2]⟩
abbrev S_ : Shape := ⟨0, ![]⟩
abbrev S5x1 : Shape := ⟨2, ![5, 1]⟩
abbrev S20000x5 : Shape := ⟨2, ![20000, 5]⟩
abbrev S128x5 : Shape := ⟨2, ![128, 5]⟩
abbrev S20000x1 : Shape := ⟨2, ![20000, 1]⟩
abbrev S20000 : Shape := ⟨1, ![20000]⟩
abbrev S20000x2 : Shape := ⟨2, ![20000, 2]⟩
abbrev S2x1 : Shape := ⟨2, ![2, 1]⟩
abbrev S20000x4 : Shape := ⟨2, ![20000, 4]⟩
abbrev S128x1 : Shape := ⟨2, ![128, 1]⟩
abbrev S128x2 : Shape := ⟨2, ![128, 2]⟩
abbrev S128x4 : Shape := ⟨2, ![128, 4]⟩
abbrev S20000x1x2 : Shape := ⟨3, ![20000, 1, 2]⟩
abbrev S1x128x2 : Shape := ⟨3, ![1, 128, 2]⟩
abbrev S20000x128x2 : Shape := ⟨3, ![20000, 128, 2]⟩
abbrev S20000x128x1 : Shape := ⟨3, ![20000, 128, 1]⟩
abbrev S20000x128 : Shape := ⟨2, ![20000, 128]⟩
abbrev S1x128 : Shape := ⟨2, ![1, 128]⟩
abbrev S1 : Shape := ⟨1, ![1]⟩
abbrev S1x1 : Shape := ⟨2, ![1, 1]⟩

abbrev nBuf : Space → Nat
  | .hbm => 308
  | .vmem => 0
  | .smem => 0
  | _ => 0

abbrev hbmTy0_0 (i : Nat) : BufTy := match i % 128 with
  | 0 => ⟨S20000x7, .f32⟩
  | 1 => ⟨S128x7, .f32⟩
  | 2 => ⟨S128, .i32⟩
  | 3 => ⟨S5, .i32⟩
  | 4 => ⟨S5, .i32⟩
  | 5 => ⟨S2, .i32⟩
  | 6 => ⟨S2, .i32⟩
  | 7 => ⟨S2, .i32⟩
  | 8 => ⟨S2, .i32⟩
  | 9 => ⟨S_, .i32⟩
  | 10 => ⟨S5, .i32⟩
  | 11 => ⟨S5, .i1⟩
  | 12 => ⟨S_, .i32⟩
  | 13 => ⟨S5, .i32⟩
  | 14 => ⟨S5, .i32⟩
  | 15 => ⟨S5, .i32⟩
  | 16 => ⟨S5x1, .i32⟩
  | 17 => ⟨S20000x5, .f32⟩
  | 18 => ⟨S_, .i32⟩
  | 19 => ⟨S5, .i32⟩
  | 20 => ⟨S5, .i1⟩
  | 21 => ⟨S_, .i32⟩
  | 22 => ⟨S5, .i32⟩
  | 23 => ⟨S5, .i32⟩
  | 24 => ⟨S5, .i32⟩
  | 25 => ⟨S5x1, .i32⟩
  | 26 => ⟨S128x5, .f32⟩
  | 27 => ⟨S20000x1, .f32⟩
  | 28 => ⟨S20000, .f32⟩
  | 29 => ⟨S_, .f32⟩
  | 30 => ⟨S20000, .f32⟩
  | 31 => ⟨S20000, .f32⟩
  | 32 => ⟨S_, .f32⟩
  | 33 => ⟨S20000, .f32⟩
  | 34 => ⟨S20000, .f32⟩
  | 35 => ⟨S20000, .f32⟩
  | 36 => ⟨S_, .f32⟩
  | 37 => ⟨S20000, .f32⟩
  | 38 => ⟨S20000, .f32⟩
  | 39 => ⟨S20000, .f32⟩
  | 40 => ⟨S20000, .f32⟩
  | 41 => ⟨S_, .f32⟩
  | 42 => ⟨S20000, .f32⟩
  | 43 => ⟨S20000, .i1⟩
  | 44 => ⟨S20000x1, .i1⟩
  | 45 => ⟨S20000x2, .f32⟩
  | 46 => ⟨S_, .i32⟩
  | 47 => ⟨S2, .i32⟩
  | 48 => ⟨S2, .i1⟩
  | 49 => ⟨S_, .i32⟩
  | 50 => ⟨S2, .i32⟩
  | 51 => ⟨S2, .i32⟩
  | 52 => ⟨S2, .i32⟩
  | 53 => ⟨S2x1, .i32⟩
  | 54 => ⟨S20000x2, .f32⟩
  | 55 => ⟨S_, .i32⟩
  | 56 => ⟨S2, .i32⟩
  | 57 => ⟨S2, .i1⟩
  | 58 => ⟨S_, .i32⟩
  | 59 => ⟨S2, .i32⟩
  | 60 => ⟨S2, .i32⟩
  | 61 => ⟨S2, .i32⟩
  | 62 => ⟨S2x1, .i32⟩
  | 63 => ⟨S20000x2, .f32⟩
  | 64 => ⟨S20000x2, .i1⟩
  | 65 => ⟨S20000x2, .f32⟩
  | 66 => ⟨S_, .f32⟩
  | 67 => ⟨S20000x2, .f32⟩
  | 68 => ⟨S20000x2, .f32⟩
  | 69 => ⟨S20000x2, .f32⟩
  | 70 => ⟨S_, .f32⟩
  | 71 => ⟨S20000x2, .f32⟩
  | 72 => ⟨S20000x2, .f32⟩
  | 73 => ⟨S20000x2, .f32⟩
  | 74 => ⟨S20000x4, .f32⟩
  | 75 => ⟨S128x1, .f32⟩
  | 76 => ⟨S128, .f32⟩
  | 77 => ⟨S_, .f32⟩
  | 78 => ⟨S128, .f32⟩
  | 79 => ⟨S128, .f32⟩
  | 80 => ⟨S_, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S128, .f32⟩
  | 88 => ⟨S128, .f32⟩
  | 89 => ⟨S_, .f32⟩
  | 90 => ⟨S128, .f32⟩
  | 91 => ⟨S128, .i1⟩
  | 92 => ⟨S128x1, .i1⟩
  | 93 => ⟨S128x2, .f32⟩
  | 94 => ⟨S_, .i32⟩
  | 95 => ⟨S2, .i32⟩
  | 96 => ⟨S2, .i1⟩
  | 97 => ⟨S_, .i32⟩
  | 98 => ⟨S2, .i32⟩
  | 99 => ⟨S2, .i32⟩
  | 100 => ⟨S2, .i32⟩
  | 101 => ⟨S2x1, .i32⟩
  | 102 => ⟨S128x2, .f32⟩
  | 103 => ⟨S_, .i32⟩
  | 104 => ⟨S2, .i32⟩
  | 105 => ⟨S2, .i1⟩
  | 106 => ⟨S_, .i32⟩
  | 107 => ⟨S2, .i32⟩
  | 108 => ⟨S2, .i32⟩
  | 109 => ⟨S2, .i32⟩
  | 110 => ⟨S2x1, .i32⟩
  | 111 => ⟨S128x2, .f32⟩
  | 112 => ⟨S128x2, .i1⟩
  | 113 => ⟨S128x2, .f32⟩
  | 114 => ⟨S_, .f32⟩
  | 115 => ⟨S128x2, .f32⟩
  | 116 => ⟨S128x2, .f32⟩
  | 117 => ⟨S128x2, .f32⟩
  | 118 => ⟨S_, .f32⟩
  | 119 => ⟨S128x2, .f32⟩
  | 120 => ⟨S128x2, .f32⟩
  | 121 => ⟨S128x2, .f32⟩
  | 122 => ⟨S128x4, .f32⟩
  | 123 => ⟨S20000x2, .f32⟩
  | 124 => ⟨S20000x1x2, .f32⟩
  | 125 => ⟨S128x2, .f32⟩
  | 126 => ⟨S1x128x2, .f32⟩
  | 127 => ⟨S20000x128x2, .f32⟩
  | _ => ⟨S20000x7, .f32⟩

abbrev hbmTy0_1 (i : Nat) : BufTy := match i % 128 with
  | 0 => ⟨S20000x128x2, .f32⟩
  | 1 => ⟨S20000x128x2, .f32⟩
  | 2 => ⟨S20000x2, .f32⟩
  | 3 => ⟨S20000x1x2, .f32⟩
  | 4 => ⟨S128x2, .f32⟩
  | 5 => ⟨S1x128x2, .f32⟩
  | 6 => ⟨S20000x128x2, .f32⟩
  | 7 => ⟨S20000x128x2, .f32⟩
  | 8 => ⟨S20000x128x2, .f32⟩
  | 9 => ⟨S20000x128x2, .f32⟩
  | 10 => ⟨S_, .f32⟩
  | 11 => ⟨S_, .f32⟩
  | 12 => ⟨S20000x128x2, .f32⟩
  | 13 => ⟨S20000x128x2, .f32⟩
  | 14 => ⟨S20000x128x1, .f32⟩
  | 15 => ⟨S20000x128, .f32⟩
  | 16 => ⟨S20000x128x1, .f32⟩
  | 17 => ⟨S20000x128, .f32⟩
  | 18 => ⟨S20000x128, .f32⟩
  | 19 => ⟨S20000x1, .f32⟩
  | 20 => ⟨S20000, .f32⟩
  | 21 => ⟨S20000x1, .f32⟩
  | 22 => ⟨S20000, .f32⟩
  | 23 => ⟨S20000, .f32⟩
  | 24 => ⟨S20000x1, .f32⟩
  | 25 => ⟨S20000, .f32⟩
  | 26 => ⟨S20000x1, .f32⟩
  | 27 => ⟨S20000, .f32⟩
  | 28 => ⟨S20000, .f32⟩
  | 29 => ⟨S20000, .f32⟩
  | 30 => ⟨S128x1, .f32⟩
  | 31 => ⟨S128, .f32⟩
  | 32 => ⟨S128x1, .f32⟩
  | 33 => ⟨S128, .f32⟩
  | 34 => ⟨S128, .f32⟩
  | 35 => ⟨S128x1, .f32⟩
  | 36 => ⟨S128, .f32⟩
  | 37 => ⟨S128x1, .f32⟩
  | 38 => ⟨S128, .f32⟩
  | 39 => ⟨S128, .f32⟩
  | 40 => ⟨S128, .f32⟩
  | 41 => ⟨S20000x1, .f32⟩
  | 42 => ⟨S1x128, .f32⟩
  | 43 => ⟨S20000x128, .f32⟩
  | 44 => ⟨S20000x128, .f32⟩
  | 45 => ⟨S20000x128, .f32⟩
  | 46 => ⟨S20000x128, .f32⟩
  | 47 => ⟨S_, .f32⟩
  | 48 => ⟨S20000x128, .f32⟩
  | 49 => ⟨S20000x128, .f32⟩
  | 50 => ⟨S20000x128, .f32⟩
  | 51 => ⟨S20000x128, .i32⟩
  | 52 => ⟨S_, .f32⟩
  | 53 => ⟨S_, .i32⟩
  | 54 => ⟨S20000, .f32⟩
  | 55 => ⟨S20000, .i32⟩
  | 56 => ⟨S_, .f32⟩
  | 57 => ⟨S20000, .f32⟩
  | 58 => ⟨S20000x128, .i32⟩
  | 59 => ⟨S_, .f32⟩
  | 60 => ⟨S_, .i32⟩
  | 61 => ⟨S128, .f32⟩
  | 62 => ⟨S128, .i32⟩
  | 63 => ⟨S_, .f32⟩
  | 64 => ⟨S20000, .f32⟩
  | 65 => ⟨S20000, .i1⟩
  | 66 => ⟨S_, .i32⟩
  | 67 => ⟨S_, .i32⟩
  | 68 => ⟨S20000, .i32⟩
  | 69 => ⟨S20000, .i32⟩
  | 70 => ⟨S20000, .i32⟩
  | 71 => ⟨S_, .f32⟩
  | 72 => ⟨S20000, .f32⟩
  | 73 => ⟨S20000, .i1⟩
  | 74 => ⟨S_, .i32⟩
  | 75 => ⟨S20000, .i32⟩
  | 76 => ⟨S20000, .i1⟩
  | 77 => ⟨S_, .i32⟩
  | 78 => ⟨S20000, .i32⟩
  | 79 => ⟨S20000, .i32⟩
  | 80 => ⟨S20000, .i32⟩
  | 81 => ⟨S20000x1, .i32⟩
  | 82 => ⟨S1, .i32⟩
  | 83 => ⟨S_, .i32⟩
  | 84 => ⟨S20000x1, .i32⟩
  | 85 => ⟨S20000x1, .i1⟩
  | 86 => ⟨S1x1, .i32⟩
  | 87 => ⟨S20000x1, .i32⟩
  | 88 => ⟨S20000x1, .i1⟩
  | 89 => ⟨S20000x1, .i1⟩
  | 90 => ⟨S_, .i1⟩
  | 91 => ⟨S20000, .i1⟩
  | 92 => ⟨S20000, .i32⟩
  | 93 => ⟨S_, .i32⟩
  | 94 => ⟨S20000, .i32⟩
  | 95 => ⟨S20000, .i32⟩
  | 96 => ⟨S20000, .i32⟩
  | 97 => ⟨S20000, .i32⟩
  | 98 => ⟨S_, .i32⟩
  | 99 => ⟨S128, .i32⟩
  | 100 => ⟨S128, .i1⟩
  | 101 => ⟨S_, .i32⟩
  | 102 => ⟨S128, .i32⟩
  | 103 => ⟨S128, .i32⟩
  | 104 => ⟨S128, .i32⟩
  | 105 => ⟨S128x1, .i32⟩
  | 106 => ⟨S20000, .i32⟩
  | 107 => ⟨S128, .i32⟩
  | 108 => ⟨S_, .i32⟩
  | 109 => ⟨S128, .i32⟩
  | 110 => ⟨S128, .i1⟩
  | 111 => ⟨S_, .i32⟩
  | 112 => ⟨S128, .i32⟩
  | 113 => ⟨S128, .i32⟩
  | 114 => ⟨S128, .i32⟩
  | 115 => ⟨S128x1, .i32⟩
  | 116 => ⟨S20000, .i32⟩
  | 117 => ⟨S_, .i32⟩
  | 118 => ⟨S20000, .i32⟩
  | 119 => ⟨S20000, .i1⟩
  | 120 => ⟨S_, .i32⟩
  | 121 => ⟨S20000, .i32⟩
  | 122 => ⟨S20000, .i32⟩
  | 123 => ⟨S20000, .i32⟩
  | 124 => ⟨S20000x1, .i32⟩
  | 125 => ⟨S1, .i32⟩
  | 126 => ⟨S_, .i32⟩
  | 127 => ⟨S20000x1, .i32⟩
  | _ => ⟨S20000x7, .f32⟩

abbrev hbmTy0_2 (i : Nat) : BufTy := match i % 128 with
  | 0 => ⟨S20000x1, .i1⟩
  | 1 => ⟨S1x1, .i32⟩
  | 2 => ⟨S20000x1, .i32⟩
  | 3 => ⟨S20000x1, .i1⟩
  | 4 => ⟨S20000x1, .i1⟩
  | 5 => ⟨S_, .i1⟩
  | 6 => ⟨S20000, .i1⟩
  | 7 => ⟨S20000x7, .f32⟩
  | 8 => ⟨S20000x7, .i1⟩
  | 9 => ⟨S_, .f32⟩
  | 10 => ⟨S20000x7, .f32⟩
  | 11 => ⟨S20000x7, .f32⟩
  | 12 => ⟨S_, .i32⟩
  | 13 => ⟨S20000, .i32⟩
  | 14 => ⟨S20000, .i1⟩
  | 15 => ⟨S20000x1, .f32⟩
  | 16 => ⟨S20000x1, .f32⟩
  | 17 => ⟨S20000x1, .f32⟩
  | 18 => ⟨S20000x1, .f32⟩
  | 19 => ⟨S20000x1, .f32⟩
  | 20 => ⟨S20000x1, .f32⟩
  | 21 => ⟨S20000x1, .f32⟩
  | 22 => ⟨S20000x1, .f32⟩
  | 23 => ⟨S20000x1, .f32⟩
  | 24 => ⟨S20000x1, .f32⟩
  | 25 => ⟨S20000x1, .f32⟩
  | 26 => ⟨S20000x1, .f32⟩
  | 27 => ⟨S20000x1, .f32⟩
  | 28 => ⟨S20000x1, .f32⟩
  | 29 => ⟨S20000x1, .f32⟩
  | 30 => ⟨S20000x1, .f32⟩
  | 31 => ⟨S20000x1, .f32⟩
  | 32 => ⟨S20000x1, .f32⟩
  | 33 => ⟨S20000x1, .f32⟩
  | 34 => ⟨S20000x1, .f32⟩
  | 35 => ⟨S20000x1, .f32⟩
  | 36 => ⟨S20000x1, .f32⟩
  | 37 => ⟨S20000x1, .f32⟩
  | 38 => ⟨S20000x1, .f32⟩
  | 39 => ⟨S20000x1, .f32⟩
  | 40 => ⟨S20000x1, .f32⟩
  | 41 => ⟨S20000x1, .f32⟩
  | 42 => ⟨S20000x1, .f32⟩
  | 43 => ⟨S20000x1, .f32⟩
  | 44 => ⟨S20000x1, .f32⟩
  | 45 => ⟨S20000x1, .f32⟩
  | 46 => ⟨S20000x7, .f32⟩
  | 47 => ⟨S20000x1, .i1⟩
  | 48 => ⟨S20000x1, .f32⟩
  | 49 => ⟨S20000x7, .f32⟩
  | 50 => ⟨S20000x7, .f32⟩
  | 51 => ⟨S20000, .f32⟩
  | _ => ⟨S20000x7, .f32⟩

abbrev hbmTy (i : Nat) : BufTy := match i / 128 with
  | 0 => hbmTy0_0 i
  | 1 => hbmTy0_1 i
  | 2 => hbmTy0_2 i
  | _ => ⟨S20000x7, .f32⟩

abbrev bufTy : (tb : Table) → Fin (tcTables nBuf tb) → BufTy
  | .hbm, ⟨i, _⟩ => hbmTy i
  | _, _ => ⟨S20000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_v0 : Ref sig .tc := ⟨.hbm, 10, rfl⟩
abbrev main_v1 : Ref sig .tc := ⟨.hbm, 11, rfl⟩
abbrev main_c_6 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_7 : Ref sig .tc := ⟨.hbm, 18, rfl⟩
abbrev main_v7 : Ref sig .tc := ⟨.hbm, 19, rfl⟩
abbrev main_v8 : Ref sig .tc := ⟨.hbm, 20, rfl⟩
abbrev main_c_8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_10 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_11 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_12 : Ref sig .tc := ⟨.hbm, 46, rfl⟩
abbrev main_v29 : Ref sig .tc := ⟨.hbm, 47, rfl⟩
abbrev main_v30 : Ref sig .tc := ⟨.hbm, 48, rfl⟩
abbrev main_c_13 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_14 : Ref sig .tc := ⟨.hbm, 55, rfl⟩
abbrev main_v36 : Ref sig .tc := ⟨.hbm, 56, rfl⟩
abbrev main_v37 : Ref sig .tc := ⟨.hbm, 57, rfl⟩
abbrev main_c_15 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_v0 : Ref sig .tc := ⟨.hbm, 64, rfl⟩
abbrev main_v43 : Ref sig .tc := ⟨.hbm, 65, rfl⟩
abbrev main_cst_16 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_17 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_18 : Ref sig .tc := ⟨.hbm, 77, rfl⟩
abbrev main_v53 : Ref sig .tc := ⟨.hbm, 78, rfl⟩
abbrev main_v54 : Ref sig .tc := ⟨.hbm, 79, rfl⟩
abbrev main_cst_19 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_20 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_21 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_22 : Ref sig .tc := ⟨.hbm, 94, rfl⟩
abbrev main_v66 : Ref sig .tc := ⟨.hbm, 95, rfl⟩
abbrev main_v67 : Ref sig .tc := ⟨.hbm, 96, rfl⟩
abbrev main_c_23 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_24 : Ref sig .tc := ⟨.hbm, 103, rfl⟩
abbrev main_v73 : Ref sig .tc := ⟨.hbm, 104, rfl⟩
abbrev main_v74 : Ref sig .tc := ⟨.hbm, 105, rfl⟩
abbrev main_c_25 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call1_v0 : Ref sig .tc := ⟨.hbm, 112, rfl⟩
abbrev main_v80 : Ref sig .tc := ⟨.hbm, 113, rfl⟩
abbrev main_cst_26 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_27 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_28 : Ref sig .tc := ⟨.hbm, 138, rfl⟩
abbrev main_call2_v0 : Ref sig .tc := ⟨.hbm, 139, rfl⟩
abbrev main_call2_v1 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_29 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_call3_v0 : Ref sig .tc := ⟨.hbm, 179, rfl⟩
abbrev main_call3_cst : Ref sig .tc := ⟨.hbm, 180, rfl⟩
abbrev main_call3_c : Ref sig .tc := ⟨.hbm, 181, rfl⟩
abbrev main_call3_v1_0 : Ref sig .tc := ⟨.hbm, 182, rfl⟩
abbrev main_v140 : Ref sig .tc := ⟨.hbm, 183, rfl⟩
abbrev main_cst_30 : Ref sig .tc := ⟨.hbm, 184, rfl⟩
abbrev main_v141 : Ref sig .tc := ⟨.hbm, 185, rfl⟩
abbrev main_call4_v0 : Ref sig .tc := ⟨.hbm, 186, rfl⟩
abbrev main_call4_cst : Ref sig .tc := ⟨.hbm, 187, rfl⟩
abbrev main_call4_c : Ref sig .tc := ⟨.hbm, 188, rfl⟩
abbrev main_call4_v1_0 : Ref sig .tc := ⟨.hbm, 189, rfl⟩
abbrev main_v142 : Ref sig .tc := ⟨.hbm, 190, rfl⟩
abbrev main_cst_31 : Ref sig .tc := ⟨.hbm, 191, rfl⟩
abbrev main_v143 : Ref sig .tc := ⟨.hbm, 192, rfl⟩
abbrev main_v144 : Ref sig .tc := ⟨.hbm, 193, rfl⟩
abbrev main_c_32 : Ref sig .tc := ⟨.hbm, 194, rfl⟩
abbrev main_c_33 : Ref sig .tc := ⟨.hbm, 195, rfl⟩
abbrev main_call5_v0 : Ref sig .tc := ⟨.hbm, 196, rfl⟩
abbrev main_call5_v1 : Ref sig .tc := ⟨.hbm, 197, rfl⟩
abbrev main_v145 : Ref sig .tc := ⟨.hbm, 198, rfl⟩
abbrev main_cst_34 : Ref sig .tc := ⟨.hbm, 199, rfl⟩
abbrev main_v146 : Ref sig .tc := ⟨.hbm, 200, rfl⟩
abbrev main_v147 : Ref sig .tc := ⟨.hbm, 201, rfl⟩
abbrev main_call6_c : Ref sig .tc := ⟨.hbm, 202, rfl⟩
abbrev main_call6_v0 : Ref sig .tc := ⟨.hbm, 203, rfl⟩
abbrev main_call6_v1 : Ref sig .tc := ⟨.hbm, 204, rfl⟩
abbrev main_call6_c_0 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_c_1 : Ref sig .tc := ⟨.hbm, 210, rfl⟩
abbrev main_call6_c_2 : Ref sig .tc := ⟨.hbm, 211, rfl⟩
abbrev main_call6_v6 : Ref sig .tc := ⟨.hbm, 212, rfl⟩
abbrev main_call6_v7 : Ref sig .tc := ⟨.hbm, 213, rfl⟩
abbrev main_call6_v8 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_call6_c_3 : Ref sig .tc := ⟨.hbm, 218, rfl⟩
abbrev main_call6_v12 : Ref sig .tc := ⟨.hbm, 219, rfl⟩
abbrev main_call6_v13 : Ref sig .tc := ⟨.hbm, 220, rfl⟩
abbrev main_call6_c_4 : Ref sig .tc := ⟨.hbm, 221, rfl⟩
abbrev main_call6_v14 : Ref sig .tc := ⟨.hbm, 222, rfl⟩
abbrev main_v148 : Ref sig .tc := ⟨.hbm, 223, rfl⟩
abbrev main_call7_v0 : Ref sig .tc := ⟨.hbm, 224, rfl⟩
abbrev main_v149 : Ref sig .tc := ⟨.hbm, 225, rfl⟩
abbrev main_c_35 : Ref sig .tc := ⟨.hbm, 226, rfl⟩
abbrev main_v150 : Ref sig .tc := ⟨.hbm, 227, rfl⟩
abbrev main_v151 : Ref sig .tc := ⟨.hbm, 228, rfl⟩
abbrev main_c_36 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_c_37 : Ref sig .tc := ⟨.hbm, 236, rfl⟩
abbrev main_v158 : Ref sig .tc := ⟨.hbm, 237, rfl⟩
abbrev main_v159 : Ref sig .tc := ⟨.hbm, 238, rfl⟩
abbrev main_c_38 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_call8_c : Ref sig .tc := ⟨.hbm, 245, rfl⟩
abbrev main_call8_v0 : Ref sig .tc := ⟨.hbm, 246, rfl⟩
abbrev main_call8_v1 : Ref sig .tc := ⟨.hbm, 247, rfl⟩
abbrev main_call8_c_0 : Ref sig .tc := ⟨.hbm, 248, rfl⟩
abbrev main_call8_v2 : Ref sig .tc := ⟨.hbm, 249, rfl⟩
abbrev main_call8_v3 : Ref sig .tc := ⟨.hbm, 250, rfl⟩
abbrev main_call8_v4 : Ref sig .tc := ⟨.hbm, 251, rfl⟩
abbrev main_call8_v5 : Ref sig .tc := ⟨.hbm, 252, rfl⟩
abbrev main_call8_c_1 : Ref sig .tc := ⟨.hbm, 253, rfl⟩
abbrev main_call8_c_2 : Ref sig .tc := ⟨.hbm, 254, rfl⟩
abbrev main_call8_v6 : Ref sig .tc := ⟨.hbm, 255, rfl⟩
abbrev main_call8_v7 : Ref sig .tc := ⟨.hbm, 256, rfl⟩
abbrev main_call8_v8 : Ref sig .tc := ⟨.hbm, 257, rfl⟩
abbrev main_call8_v9 : Ref sig .tc := ⟨.hbm, 258, rfl⟩
abbrev main_call8_v10 : Ref sig .tc := ⟨.hbm, 259, rfl⟩
abbrev main_call8_v11 : Ref sig .tc := ⟨.hbm, 260, rfl⟩
abbrev main_call8_c_3 : Ref sig .tc := ⟨.hbm, 261, rfl⟩
abbrev main_call8_v12 : Ref sig .tc := ⟨.hbm, 262, rfl⟩
abbrev main_call8_v13 : Ref sig .tc := ⟨.hbm, 263, rfl⟩
abbrev main_call8_v14 : Ref sig .tc := ⟨.hbm, 264, rfl⟩
abbrev main_call8_cst : Ref sig .tc := ⟨.hbm, 265, rfl⟩
abbrev main_call8_v15 : Ref sig .tc := ⟨.hbm, 266, rfl⟩
abbrev main_v165 : Ref sig .tc := ⟨.hbm, 267, rfl⟩
abbrev main_c_39 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩

abbrev nD : Nat := 1
abbrev τ : Topo := Topo.v7x

variable {F : FTy → Type} [FloatOps F]
-- ==== Proof.Pick.lean ====
/- Facts about choosing: the first place where a finite family is largest, the same found block by block, the last
   index that hits a place, and the folds over 32-bit words that the two programs use to find them. -/
module

public import Idealize.ShloMosaic.Lib.Pointwise
public import Idealize.ShloMosaic.PureOps.Ideal.Laws

@[expose] public section

noncomputable section

namespace Cert.Pick

open Idealize.ShloMosaic

/-! ### The first largest place -/

/-- `k` is the first place where the family is largest. -/
def First {n : ℕ} (f : Fin n → EReal) (k : Fin n) : Prop :=
  (∀ i, f i ≤ f k) ∧ ∀ i, i < k → f i < f k

/-- A non-empty finite family has a first largest place. -/
theorem exists_first {n : ℕ} (hn : 0 < n) (f : Fin n → EReal) : ∃ k, First f k := by
  haveI : Nonempty (Fin n) := ⟨⟨0, hn⟩⟩
  obtain ⟨m, hm⟩ := Finite.exists_max f
  have hne : (Finset.univ.filter fun i => f i = f m).Nonempty := ⟨m, by simp⟩
  refine ⟨(Finset.univ.filter fun i => f i = f m).min' hne, ?_, ?_⟩
  · have h := Finset.min'_mem _ hne
    simp only [Finset.mem_filter, Finset.mem_univ, true_and] at h
    intro i; rw [h]; exact hm i
  · have h := Finset.min'_mem _ hne
    simp only [Finset.mem_filter, Finset.mem_univ, true_and] at h
    intro i hi
    refine lt_of_le_of_ne (by rw [h]; exact hm i) fun he => ?_
    exact absurd (Finset.min'_le _ i (by simp [he, h])) (not_le.2 hi)

/-- The first largest place of a family over a positive number of places. -/
def first {n : ℕ} (f : Fin (n + 1) → EReal) : Fin (n + 1) :=
  Classical.choose (exists_first (Nat.succ_pos n) f)

/-- It is one. -/
theorem first_spec {n : ℕ} (f : Fin (n + 1) → EReal) : First f (first f) :=
  Classical.choose_spec (exists_first (Nat.succ_pos n) f)

/-- There is only one. -/
theorem First.unique {n : ℕ} {f : Fin n → EReal} {k l : Fin n} (hk : First f k) (hl : First f l) : k = l := by
  rcases lt_trichotomy k l with h | h | h
  · exact absurd (hl.2 k h) (not_lt.2 (hk.1 l))
  · exact h
  · exact absurd (hk.2 l h) (not_lt.2 (hl.1 k))

/-- `k` is the first place of the first `N` where the family is largest. -/
def FirstTo {n : ℕ} (f : Fin n → EReal) (N : ℕ) (k : Fin n) : Prop :=
  k.val < N ∧ (∀ i : Fin n, i.val < N → f i ≤ f k) ∧ ∀ i : Fin n, i < k → f i < f k

/-- Over all the places it is the first largest place. -/
theorem FirstTo.first {n : ℕ} {f : Fin n → EReal} {N : ℕ} {k : Fin n} (hN : n ≤ N) (h : FirstTo f N k) : First f k :=
  ⟨fun i => h.2.1 i (lt_of_lt_of_le i.isLt hN), h.2.2⟩

/-- The first block's first largest place is that of the prefix it makes up. -/
theorem FirstTo.start {n w : ℕ} {f : Fin n → EReal} (hw : w ≤ n) {kl : Fin w}
    (h : First (fun l : Fin w => f ⟨l.val, lt_of_lt_of_le l.isLt hw⟩) kl) :
    FirstTo f w ⟨kl.val, lt_of_lt_of_le kl.isLt hw⟩ :=
  ⟨kl.isLt, fun i hi => h.1 ⟨i.val, hi⟩, fun i hi => h.2 ⟨i.val, lt_trans hi kl.isLt⟩ hi⟩

/-- One more block: the new block's first largest place when it is larger than all before, else the old one. -/
theorem FirstTo.step {n off w : ℕ} {f : Fin n → EReal} (hw : off + w ≤ n) {k0 : Fin n} (h0 : FirstTo f off k0)
    {kl : Fin w}
    (h : First (fun l : Fin w => f ⟨off + l.val, by omega⟩) kl) :
    FirstTo f (off + w) (if f k0 < f ⟨off + kl.val, by omega⟩ then ⟨off + kl.val, by omega⟩ else k0) := by
  have hin : ∀ i : Fin n, off ≤ i.val → i.val < off + w → f i ≤ f ⟨off + kl.val, by omega⟩ := fun i h1 h2 => by
    have := h.1 ⟨i.val - off, by omega⟩
    have e : (⟨off + (i.val - off), by omega⟩ : Fin n) = i := Fin.ext (by simp; omega)
    simpa only [e] using this
  split_ifs with hlt
  · refine ⟨by simp, fun i hi => ?_, fun i hi => ?_⟩
    · by_cases ho : i.val < off
      · exact (h0.2.1 i ho).trans hlt.le
      · exact hin i (by omega) hi
    · by_cases ho : i.val < off
      · exact lt_of_le_of_lt (h0.2.1 i ho) hlt
      · have hi' : i.val < off + kl.val := hi
        have := h.2 ⟨i.val - off, by omega⟩ (show i.val - off < kl.val by omega)
        have e : (⟨off + (i.val - off), by omega⟩ : Fin n) = i := Fin.ext (by simp; omega)
        simpa only [e] using this
  · refine ⟨lt_of_lt_of_le h0.1 (by omega), fun i hi => ?_, h0.2.2⟩
    by_cases ho : i.val < off
    · exact h0.2.1 i ho
    · exact (hin i (by omega) hi).trans (not_lt.1 hlt)

/-! ### The last index that hits -/

/-- Among finitely many indices, one of which has a property, there is a last one that has it. -/
theorem exists_last {n : ℕ} {p : Fin n → Prop} (h : ∃ k, p k) : ∃ k, p k ∧ ∀ j, p j → j ≤ k := by
  classical
  obtain ⟨k, hk⟩ := h
  have hne : (Finset.univ.filter p).Nonempty := ⟨k, by simp [hk]⟩
  refine ⟨(Finset.univ.filter p).max' hne, ?_, fun j hj => Finset.le_max' _ _ (by simp [hj])⟩
  have h := Finset.max'_mem _ hne
  simpa using h

/-- A left fold that overwrites on a hit ends at the last hit's value. -/
theorem foldl_last {n : ℕ} {α : Type*} (p : Fin n → Prop) [DecidablePred p] (u : Fin n → α) (d : α) (k : Fin n)
    (hk : p k) (hl : ∀ j, p j → j ≤ k) :
    (List.finRange n).foldl (fun a j => if p j then u j else a) d = u k := by
  have key : ∀ (L : List (Fin n)), L.Pairwise (· < ·) → ∀ a, (k ∈ L ∨ (a = u k ∧ ∀ j ∈ L, ¬ p j)) →
      L.foldl (fun a j => if p j then u j else a) a = u k := by
    intro L
    induction L with
    | nil => intro _ a h; rcases h with h | h; · exact absurd h (by simp)
             · exact h.1
    | cons x L ih =>
      intro hs a h
      rw [List.pairwise_cons] at hs
      rw [List.foldl_cons]
      refine ih hs.2 _ ?_
      rcases h with h | h
      · rcases List.mem_cons.1 h with rfl | h
        · right
          refine ⟨if_pos hk, fun j hj hp => absurd (hl j hp) (not_le.2 (hs.1 j hj))⟩
        · exact .inl h
      · right
        refine ⟨?_, fun j hj => h.2 j (List.mem_cons_of_mem _ hj)⟩
        rw [if_neg (h.2 x (by simp))]; exact h.1
  exact key _ (List.pairwise_lt_finRange n) d (.inl (List.mem_finRange k))

/-- Without a hit such a fold keeps its start. -/
theorem foldl_none {n : ℕ} {α : Type*} (p : Fin n → Prop) [DecidablePred p] (u : Fin n → α) (d : α)
    (h : ∀ j, ¬ p j) :
    (List.finRange n).foldl (fun a j => if p j then u j else a) d = d := by
  have : ∀ (L : List (Fin n)) (a : α), L.foldl (fun a j => if p j then u j else a) a = a := by
    intro L; induction L with
    | nil => intro a; rfl
    | cons x L ih => intro a; rw [List.foldl_cons, if_neg (h x)]; exact ih a
  exact this _ d

/-! ### Words -/

/-- A small number as a 32-bit word reads back, signed, as itself. -/
theorem toInt_ofNat {a : ℕ} (h : a < 2147483648) : (BitVec.ofNat 32 a).toInt = a := by
  rw [BitVec.toInt_eq_toNat_of_lt] <;> rw [BitVec.toNat_ofNat, Nat.mod_eq_of_lt (by omega)]
  omega

/-- Small numbers that are the same word are the same number. -/
theorem ofNat_inj {a b : ℕ} (ha : a < 4294967296) (hb : b < 4294967296) :
    BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

/-- The signed minimum of two words reads as the minimum of the two readings. -/
theorem toInt_minsi (x y : BitVec 32) : (IntOp.minsi x y).toInt = min x.toInt y.toInt := by
  simp only [IntOp.minsi, BitVec.slt, decide_eq_true_eq]
  split_ifs with h
  · exact (min_eq_left h.le).symm
  · exact (min_eq_right (not_lt.1 h)).symm

/-- The signed maximum of two words reads as the maximum of the two readings. -/
theorem toInt_maxsi (x y : BitVec 32) : (IntOp.maxsi x y).toInt = max x.toInt y.toInt := by
  simp only [IntOp.maxsi, BitVec.slt, decide_eq_true_eq]
  split_ifs with h
  · exact (max_eq_left h.le).symm
  · exact (max_eq_right (not_lt.1 h)).symm

/-- A fold of signed minima is the word that is below all the others. -/
theorem fold_minsi {n : ℕ} (w : Fin n → BitVec 32) (b v : BitVec 32) (hv : ∃ k, w k = v) (hb : v.toInt ≤ b.toInt)
    (h : ∀ i, v.toInt ≤ (w i).toInt) : Finset.univ.fold IntOp.minsi b w = v := by
  apply BitVec.eq_of_toInt_eq
  rw [← Finset.fold_hom (op' := min) (m := BitVec.toInt) toInt_minsi]
  obtain ⟨k, hk⟩ := hv
  apply le_antisymm
  · exact (Finset.fold_min_le _).2 (.inr ⟨k, Finset.mem_univ k, by rw [hk]⟩)
  · exact (Finset.le_fold_min _).2 ⟨hb, fun i _ => h i⟩

/-- A fold of signed maxima is the word that is above all the others. -/
theorem fold_maxsi {n : ℕ} (w : Fin n → BitVec 32) (b v : BitVec 32) (hv : ∃ k, w k = v) (hb : b.toInt ≤ v.toInt)
    (h : ∀ i, (w i).toInt ≤ v.toInt) : Finset.univ.fold IntOp.maxsi b w = v := by
  apply BitVec.eq_of_toInt_eq
  rw [← Finset.fold_hom (op' := max) (m := BitVec.toInt) toInt_maxsi]
  obtain ⟨k, hk⟩ := hv
  apply le_antisymm
  · exact (Finset.fold_max_le _).2 ⟨hb, fun i _ => h i⟩
  · exact (Finset.le_fold_max _).2 (.inr ⟨k, Finset.mem_univ k, by rw [hk]⟩)

/-- A fold of maxima from the least value is the value at the first largest place. -/
theorem fold_max {n : ℕ} (f : Fin n → EReal) (k : Fin n) (h : First f k) : Finset.univ.fold max ⊥ f = f k :=
  le_antisymm ((Finset.fold_max_le _).2 ⟨bot_le, fun i _ => h.1 i⟩)
    ((Finset.le_fold_max _).2 (.inr ⟨k, Finset.mem_univ k, le_rfl⟩))

/-- The least index among those where the family is largest, found as a fold of minima over the indices with a
    large word in place of the others. -/
theorem fold_minsi_first {n : ℕ} (hn : n < 2147483648) (f : Fin n → EReal) (k : Fin n) (h : First f k) (big : BitVec 32)
    (hbig : (n : ℤ) ≤ big.toInt) :
    Finset.univ.fold IntOp.minsi (BitVec.ofNat 32 2147483647)
      (fun i : Fin n => if f i = f k then BitVec.ofNat 32 i.val else big) = BitVec.ofNat 32 k.val := by
  have hk : (BitVec.ofNat 32 k.val).toInt = k.val := toInt_ofNat (by omega)
  refine fold_minsi _ _ _ ⟨k, if_pos rfl⟩ ?_ fun i => ?_
  · rw [hk, toInt_ofNat (by omega)]; omega
  · split_ifs with he
    · rw [hk, toInt_ofNat (by omega)]
      have : k ≤ i := not_lt.1 fun hlt => absurd he (ne_of_lt (h.2 i hlt))
      have : k.val ≤ i.val := this
      omega
    · rw [hk]; omega

/-- The greatest index with a property, found as a fold of maxima over the indices with minus one in place of the
    others, when some index has it. -/
theorem fold_maxsi_last {n : ℕ} (hn : n < 2147483648) (p : Fin n → Prop) [DecidablePred p] (k : Fin n) (hk : p k)
    (hl : ∀ j, p j → j ≤ k) :
    Finset.univ.fold IntOp.maxsi (BitVec.ofNat 32 2147483648)
      (fun i : Fin n => if p i then BitVec.ofNat 32 i.val else 4294967295#32) = BitVec.ofNat 32 k.val := by
  have hk' : (BitVec.ofNat 32 k.val).toInt = k.val := toInt_ofNat (by omega)
  refine fold_maxsi _ _ _ ⟨k, if_pos hk⟩ ?_ fun i => ?_
  · rw [hk']; have : (BitVec.ofNat 32 2147483648).toInt = -2147483648 := by decide
    omega
  · split_ifs with hp
    · rw [hk', toInt_ofNat (by omega)]
      have : i.val ≤ k.val := hl i hp
      omega
    · rw [hk']; have : (4294967295#32).toInt = -1 := by decide
      omega

/-- And minus one when none has it. -/
theorem fold_maxsi_none {n : ℕ} (hn : 0 < n) (p : Fin n → Prop) [DecidablePred p] (h : ∀ j, ¬ p j) :
    Finset.univ.fold IntOp.maxsi (BitVec.ofNat 32 2147483648)
      (fun i : Fin n => if p i then BitVec.ofNat 32 i.val else 4294967295#32) = 4294967295#32 := by
  refine fold_maxsi _ _ _ ⟨⟨0, hn⟩, if_neg (h _)⟩ (by decide) fun i => ?_
  rw [if_neg (h i)]

/-! ### A fold over value and index pairs -/

/-- `q` is beaten by `b`: its value is smaller, or equal with a larger index. -/
def Worse (b q : EReal × BitVec 32) : Prop := q.1 < b.1 ∨ (q.1 = b.1 ∧ b.2.toInt < q.2.toInt)

/-- A fold that keeps the better of two pairs ends at the pair that beats all the others. -/
theorem foldl_best (f : EReal × BitVec 32 → EReal × BitVec 32 → EReal × BitVec 32) (b : EReal × BitVec 32)
    (hr : ∀ q, Worse b q → f q b = b) (hl : ∀ q, Worse b q → f b q = b) (hb : f b b = b)
    (hw : ∀ p q, Worse b p → Worse b q → Worse b (f p q))
    (L : List (EReal × BitVec 32)) (hL : ∀ q ∈ L, q = b ∨ Worse b q) (a : EReal × BitVec 32)
    (ha : a = b ∨ (Worse b a ∧ b ∈ L)) : L.foldl f a = b := by
  induction L generalizing a with
  | nil => rcases ha with h | h; · exact h
           · exact absurd h.2 (by simp)
  | cons x L ih =>
    rw [List.foldl_cons]
    refine ih (fun q hq => hL q (List.mem_cons_of_mem _ hq)) _ ?_
    rcases ha with rfl | ⟨ha, hm⟩
    · left
      rcases hL x (by simp) with h | h
      · rw [h]; exact hb
      · exact hl x h
    · rcases List.mem_cons.1 hm with rfl | hm
      · left; exact hr a ha
      · rcases hL x (by simp) with h | h
        · left; rw [h]; exact hr a ha
        · right; exact ⟨hw a x ha h, hm⟩

/-! ### Picking one column by a sum -/

/-- A sum against a family that is one at `k` and zero elsewhere is the value at `k`. -/
theorem sum_pick {n : ℕ} (t : Fin n → EReal) (k : Fin n) :
    (∑ i : Fin n, t i * (if i = k then (1 : EReal) else 0)) = t k := by
  rw [Finset.sum_eq_single k]
  · simp
  · intro i _ hi; simp [hi]
  · intro h; exact absurd (Finset.mem_univ k) h

/-- A value below plus infinity is recovered from itself, its difference from itself, and that difference's. -/
theorem three_parts (x : EReal) (hx : x ≠ ⊤) : (x + (x - x)) + ((x - x) - (x - x)) = x := by
  induction x with
  | bot => simp
  | top => exact absurd rfl hx
  | coe r => rw [← EReal.coe_sub, sub_self, ← EReal.coe_sub, sub_self, ← EReal.coe_add, ← EReal.coe_add]; simp

end Cert.Pick
-- ==== Proof.Spec.lean ====
/- What both programs compute, one scalar at a time over the extended reals: the axis-aligned box of a rotated box, the
   overlap of two boxes, which anchor each box takes and which box each anchor takes, the labels and the offsets. -/
module

public import proofs.«01_k».proof.Proof.Pick

@[expose] public section

noncomputable section

namespace Cert.Spec

open Idealize.ShloMosaic Cert.Pick

/-- The value of a 32-bit float pattern. -/
abbrev K (b : BitVec 32) : EReal := Ideal.ofBits .f32 b

/-- Whether an angle, taken back to within half a turn, is nearer to a quarter turn than to none. -/
def Turned (r : EReal) : Prop :=
  K 0x3F490FDB#32 < FloatOps.absf (F := Ideal) (φ := .f32)
    (r - Ideal.liftRound Int.floor (Ideal.div r (K 0x40490FDB#32) + K 0x3F000000#32) * K 0x40490FDB#32)

instance (r : EReal) : Decidable (Turned r) := inferInstanceAs (Decidable (_ < _))

/-- One end of a side: the middle less half its length, the length being the one or the other by the turn. -/
def lo (x a b r : EReal) : EReal := x - Ideal.div (if Turned r then b else a) (K 0x40000000#32)
/-- The other end: the middle plus half the length. -/
def hi (x a b r : EReal) : EReal := x + Ideal.div (if Turned r then b else a) (K 0x40000000#32)

/-- The area of the box with the given ends. -/
def area (xl yl xh yh : EReal) : EReal := (xh - xl) * (yh - yl)

/-- The overlap's area of two boxes given by their ends. -/
def inter (axl ayl axh ayh bxl byl bxh byh : EReal) : EReal :=
  max 0 (min axh bxh - max axl bxl) * max 0 (min ayh byh - max ayl byl)

/-- The overlap over the union, the union kept above a small constant. -/
def iouE (axl ayl axh ayh bxl byl bxh byh : EReal) : EReal :=
  Ideal.div (inter axl ayl axh ayh bxl byl bxh byh)
    (max (area axl ayl axh ayh + area bxl byl bxh byh - inter axl ayl axh ayh bxl byl bxh byh) (K 0x322BCC77#32))

/-- The overlap over the union of two rotated boxes, each a row of seven numbers. -/
def iou (a b : Fin 7 → EReal) : EReal :=
  iouE (lo (a 0) (a 3) (a 4) (a 6)) (lo (a 1) (a 4) (a 3) (a 6)) (hi (a 0) (a 3) (a 4) (a 6)) (hi (a 1) (a 4) (a 3) (a 6))
    (lo (b 0) (b 3) (b 4) (b 6)) (lo (b 1) (b 4) (b 3) (b 6)) (hi (b 0) (b 3) (b 4) (b 6)) (hi (b 1) (b 4) (b 3) (b 6))

/-- The small constant is above zero. -/
theorem eps_pos : (0 : EReal) < K 0x322BCC77#32 := by
  unfold K Ideal.ofBits Ideal.ieee
  simp only [show ((0x322BCC77#32).extractLsb' 23 8).toNat = 100 by decide, show ((0x322BCC77#32).extractLsb' 0 23).toNat = 2870391 by decide,
    show ((0x322BCC77#32).extractLsb' (8 + 23) 1 == 1#1) = false by decide]
  norm_num

/-- The ratio is never below zero. -/
theorem iouE_nonneg (axl ayl axh ayh bxl byl bxh byh : EReal) : 0 ≤ iouE axl ayl axh ayh bxl byl bxh byh := by
  have hd : (0 : EReal) < max (area axl ayl axh ayh + area bxl byl bxh byh - inter axl ayl axh ayh bxl byl bxh byh)
      (K 0x322BCC77#32) := lt_of_lt_of_le eps_pos (le_max_right _ _)
  unfold iouE Ideal.div
  rw [if_neg hd.ne']
  exact mul_nonneg (mul_nonneg (le_max_left _ _) (le_max_left _ _)) (EReal.inv_nonneg_of_nonneg hd.le)

section
variable (A : Fin 20000 → Fin 7 → EReal) (G : Fin 128 → Fin 7 → EReal) (C : Fin 128 → BitVec 32)

/-- The anchor that box `g` overlaps most, the first of equals. -/
def col (g : Fin 128) : Fin 20000 := first fun i => iou (A i) (G g)
/-- The box that anchor `i` overlaps most, the first of equals. -/
def row (i : Fin 20000) : Fin 128 := first fun g => iou (A i) (G g)
/-- How much that is. -/
def best (i : Fin 20000) : EReal := iou (A i) (G (row A G i))
/-- Whether some box takes anchor `i`. -/
def Forced (i : Fin 20000) : Prop := ∃ g, col A G g = i
open Classical in
/-- The box anchor `i` goes to: the last one that takes it, or the one it overlaps most. -/
def goes (i : Fin 20000) : Fin 128 :=
  if h : Forced A G i then Classical.choose (exists_last h) else row A G i
open Classical in
/-- The label of anchor `i`. -/
def lab (i : Fin 20000) : BitVec 32 :=
  if Forced A G i then C (goes A G i)
  else if K 0x3F19999A#32 ≤ best A G i then C (goes A G i)
  else if best A G i < K 0x3EE66666#32 then 0#32 else 4294967295#32
/-- One for a positive label, zero for another. -/
def flag (i : Fin 20000) : EReal := if 0 < (lab A G C i).toInt then 1 else 0
/-- The seven offsets of anchor `a` to box `b`. -/
def offs (a b : Fin 7 → EReal) : Fin 7 → EReal :=
  ![Ideal.div (b 0 - a 0) (Ideal.sqrt (a 3 * a 3 + a 4 * a 4)), Ideal.div (b 1 - a 1) (Ideal.sqrt (a 3 * a 3 + a 4 * a 4)),
    Ideal.div (b 2 - a 2) (a 5), Ideal.log (Ideal.div (b 3) (a 3)), Ideal.log (Ideal.div (b 4) (a 4)),
    Ideal.log (Ideal.div (b 5) (a 5)), b 6 - a 6]
/-- An entry of the first result. -/
def bbox (i : Fin 20000) (k : Fin 7) : EReal := offs (A i) (G (goes A G i)) k * flag A G C i
end

end Cert.Spec
-- ==== Proof.KIou.lean ====
/- The overlaps of one block of anchors with all the boxes, as the kernel works them out. -/
module

public import proofs.«01_k».proof.Proof.Spec
public import proofs.«01_k».proof.Proof.Gen.KernelIdeal.Frame
public import Idealize.ShloMosaic.Lib.Pointwise
public import Idealize.ShloMosaic.Lib.Pipeline.ValueKit.Tiles

@[expose] public section

noncomputable section

namespace Cert.KRead

open Cert.KernelIdeal Cert.KernelIdeal.Gen Cert.Spec
open Idealize.ShloMosaic Idealize.ShloMosaic.TcCoe

/-- The anchors, one row each, of the array that holds them one column each. -/
abbrev A (x0 : Vec Ideal S7x20000 .f32) (i : Fin 20000) (k : Fin 7) : EReal := x0 (ix2 k i)
/-- The boxes, one row each. -/
abbrev G (x1 : Vec Ideal S128x7 .f32) (g : Fin 128) (k : Fin 7) : EReal := x1 (ix2 g k)

variable (c : Dev nD) (arg0 : Memref sig .tc .vmem S7x20000 .f32) (harg0 : arg0.IsWhole)
  (arg1 : Memref sig .tc .vmem S128x7 .f32) (harg1 : arg1.IsWhole)
  (arg2 : Memref sig .tc .vmem S8x128 .f32) (harg2 : arg2.IsWhole) (x0 : Vec Ideal S7x20000 .f32) (x1 : Vec Ideal S128x7 .f32)
  (x2 : Vec Ideal S8x128 .f32)

/-- The overlaps of the first block of anchors. -/
def M0 : FVec Ideal S128x4096 .f32 :=
  k0_pay28 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_10 c arg0 harg0 x0) (kernelRun0_A.sl.r_11 c arg0 harg0 x0) (kernelRun0_A.sl.r_12 c arg0 harg0 x0) (kernelRun0_A.sl.r_13 c arg0 harg0 x0) (kernelRun0_A.sl.r_14 c arg0 harg0 x0)
/-- Each is the overlap over the union of an anchor and a box. -/
theorem m0 (g : Fin 128) (l : Fin 4096) :
    M0 c arg0 harg0 arg1 harg1 x0 x1 (ix2 g l) = iou (A x0 ⟨l.val, by omega⟩) (G x1 g) := by
  unfold M0 kernelRun0_A.sl.r_14 kernelRun0_A.sl.r_13 kernelRun0_A.sl.r_12 kernelRun0_A.sl.r_11 kernelRun0_A.sl.r_10
  unfold kernelRun0_A.sl.r kernelRun0_A.sl.r_1 kernelRun0_A.sl.r_2 kernelRun0_A.sl.r_3 kernelRun0_A.sl.r_4
  simp only [View.readAt_eq_ld, Memref.IsWhole.read_unread]
  unfold_payloads
  pointwise
  first | rfl | (unfold iou iouE inter area lo hi; rfl)

/-- The overlaps of the second block of anchors. -/
def M1 : FVec Ideal S128x4096 .f32 :=
  k0_pay49 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_21 c arg0 harg0 x0) (kernelRun0_A.sl.r_22 c arg0 harg0 x0) (kernelRun0_A.sl.r_23 c arg0 harg0 x0) (kernelRun0_A.sl.r_24 c arg0 harg0 x0) (kernelRun0_A.sl.r_25 c arg0 harg0 x0)
/-- Each is the overlap over the union of an anchor and a box. -/
theorem m1 (g : Fin 128) (l : Fin 4096) :
    M1 c arg0 harg0 arg1 harg1 x0 x1 (ix2 g l) = iou (A x0 ⟨4096 + l.val, by omega⟩) (G x1 g) := by
  unfold M1 kernelRun0_A.sl.r_25 kernelRun0_A.sl.r_24 kernelRun0_A.sl.r_23 kernelRun0_A.sl.r_22 kernelRun0_A.sl.r_21
  unfold kernelRun0_A.sl.r kernelRun0_A.sl.r_1 kernelRun0_A.sl.r_2 kernelRun0_A.sl.r_3 kernelRun0_A.sl.r_4
  simp only [View.readAt_eq_ld, Memref.IsWhole.read_unread]
  unfold_payloads
  pointwise
  first | rfl | (unfold iou iouE inter area lo hi; rfl)

/-- The overlaps of the third block of anchors. -/
def M2 : FVec Ideal S128x4096 .f32 :=
  k0_pay70 (F := Ideal) (kernelRun0_A.sl.r_1 c arg1 harg1 x1) (kernelRun0_A.sl.r_3 c arg1 harg1 x1) (kernelRun0_A.sl.r_4 c arg1 harg1 x1) (kernelRun0_A.sl.r_30 c arg0 harg0 x0) (kernelRun0_A.sl.r_31 c arg0 harg0 x0) (kernelRun0_A.sl.r_32 c arg0 harg0 x0) (kernelRun0_A.sl.r_33 c arg0 harg0 arg1 harg1 x0 x1) (kernelRun0_A.sl.r_34 c arg0 harg0 arg1 harg1 x0 x1)
/-- Each is the overlap over the union of an anchor and a box. -/
theorem m2 (g : Fin 128) (l : Fin 4096) :
    M2 c arg0 harg0 arg1 harg1 x0 x1 (ix2 g l) = iou (A x0 ⟨8192 + l.val, by omega⟩) (G x1 g) := by
  unfold M2 kernelRun0_A.sl.r_34 kernelRun0_A.sl.r_33 kernelRun0_A.sl.r_32 kernelRun0_A.sl.r_31 kernelRun0_A.sl.r_30
  unfold kernelRun0_A.sl.r kernelRun0_A.sl.r_1 kernelRun0_A.sl.r_2 kernelRun0_A.sl.r_3 kernelRun0_A.sl.r_4
  simp only [View.readAt_eq_ld, Memref.IsWhole.read_unread]
  unfold_payloads
  pointwise
  first | rfl | (unfold iou iouE inter area lo hi; rfl)

/-- The overlaps of the fourth block of anchors. -/
def M3 : FVec Ideal S128x4096 .f32 :=
  k0_pay91 (F := Ideal) (kernelRun0_A.sl.r_1 c arg1 harg1 x1) (kernelRun0_A.sl.r_3 c arg1 harg1 x1) (kernelRun0_A.sl.r_4 c arg1 harg1 x1) (kernelRun0_A.sl.r_41 c arg0 harg0 x0) (kernelRun0_A.sl.r_42 c arg0 harg0 x0) (kernelRun0_A.sl.r_43 c arg0 harg0 arg1 harg1 x0 x1) (kernelRun0_A.sl.r_44 c arg0 harg0 x0)
/-- Each is the overlap over the union of an anchor and a box. -/
theorem m3 (g : Fin 128) (l : Fin 4096) :
    M3 c arg0 harg0 arg1 harg1 x0 x1 (ix2 g l) = iou (A x0 ⟨12288 + l.val, by omega⟩) (G x1 g) := by
  unfold M3 kernelRun0_A.sl.r_44 kernelRun0_A.sl.r_43 kernelRun0_A.sl.r_42 kernelRun0_A.sl.r_41 kernelRun0_A.sl.r_40 kernelRun0_A.sl.r_39
  unfold kernelRun0_A.sl.r kernelRun0_A.sl.r_1 kernelRun0_A.sl.r_2 kernelRun0_A.sl.r_3 kernelRun0_A.sl.r_4
  simp only [View.readAt_eq_ld, Memref.IsWhole.read_unread]
  unfold_payloads
  pointwise
  first | rfl | (unfold iou iouE inter area lo hi; rfl)

/-- The overlaps of the fifth block of anchors. -/
def M4 : FVec Ideal S128x3616 .f32 :=
  k0_pay113 (F := Ideal) (kernelRun0_A.sl.r_4 c arg1 harg1 x1) (kernelRun0_A.sl.r_52 c arg0 harg0 x0) (kernelRun0_A.sl.r_53 c arg0 harg0 arg1 harg1 x0 x1) (kernelRun0_A.sl.r_54 c arg0 harg0 arg1 harg1 x0 x1) (kernelRun0_A.sl.r_55 c arg0 harg0 arg1 harg1 x0 x1)
/-- Each is the overlap over the union of an anchor and a box. -/
theorem m4 (g : Fin 128) (l : Fin 3616) :
    M4 c arg0 harg0 arg1 harg1 x0 x1 (ix2 g l) = iou (A x0 ⟨16384 + l.val, by omega⟩) (G x1 g) := by
  unfold M4 kernelRun0_A.sl.r_55 kernelRun0_A.sl.r_54 kernelRun0_A.sl.r_53 kernelRun0_A.sl.r_52 kernelRun0_A.sl.r_51 kernelRun0_A.sl.r_50 kernelRun0_A.sl.r_49
  unfold kernelRun0_A.sl.r kernelRun0_A.sl.r_1 kernelRun0_A.sl.r_2 kernelRun0_A.sl.r_3 kernelRun0_A.sl.r_4
  simp only [View.readAt_eq_ld, Memref.IsWhole.read_unread]
  unfold_payloads
  pointwise
  first | rfl | (unfold iou iouE inter area lo hi; rfl)

end Cert.KRead
-- ==== Proof.Upto.lean ====
/- Running over the anchors block by block: the largest value so far and the first place it is at. -/
module

public import proofs.«01_k».proof.Proof.Spec

@[expose] public section

noncomputable section

namespace Cert.Upto

open Idealize.ShloMosaic Cert.Pick Cert.Spec

/-- The pattern the maxima start from is minus infinity. -/
theorem neg_inf : Ideal.ofBits .f32 4286578688#32 = (⊥ : EReal) := by
  unfold Ideal.ofBits Ideal.ieee
  simp

/-- The pattern of minus one is below zero. -/
theorem neg_one_lt : Ideal.ofBits .f32 3212836864#32 < (0 : EReal) := by
  unfold Ideal.ofBits Ideal.ieee
  simp only [show ((3212836864#32).extractLsb' 23 8).toNat = 127 by decide, show ((3212836864#32).extractLsb' 0 23).toNat = 0 by decide,
    show ((3212836864#32).extractLsb' (8 + 23) 1 == 1#1) = true by decide]
  norm_num

/-- The maximum is the value at the first largest place. -/
theorem max_first {n : ℕ} (f : Fin (n + 1) → EReal) :
    Finset.fold max (Ideal.ofBits .f32 4286578688#32) f Finset.univ = f (first f) := by
  rw [neg_inf]; exact fold_max f _ (first_spec f)

/-- And the least place that holds it is that place. -/
theorem arg_first {n : ℕ} (hn : n + 1 < 2147483648) (f : Fin (n + 1) → EReal) (big : BitVec 32) (hbig : ((n + 1 : ℕ) : ℤ) ≤ big.toInt) :
    Finset.fold IntOp.minsi (2147483647#32)
      (fun i : Fin (n + 1) => if f i = Finset.fold max (Ideal.ofBits .f32 4286578688#32) f Finset.univ then BitVec.ofNat 32 i.val else big)
      Finset.univ = BitVec.ofNat 32 (first f).val := by
  rw [max_first]
  exact fold_minsi_first hn f _ (first_spec f) big hbig

/-- The largest value over the first `N` places and the word of the first place it is at. -/
def Upto {n : ℕ} (f : Fin n → EReal) (N : ℕ) (m : EReal) (a : BitVec 32) : Prop :=
  ∃ k, FirstTo f N k ∧ m = f k ∧ a = BitVec.ofNat 32 k.val

/-- After the first block, started from minus one with values never below zero. -/
theorem Upto.start {n w : ℕ} (f : Fin n → EReal) (h0 : ∀ i, 0 ≤ f i) (hw : w + 1 ≤ n) (hn : n < 2147483648) (big : BitVec 32)
    (hbig : ((w + 1 : ℕ) : ℤ) ≤ big.toInt) {m : EReal} {a : BitVec 32}
    (hm : m = if Ideal.ofBits .f32 3212836864#32 < Finset.fold max (Ideal.ofBits .f32 4286578688#32) (fun l : Fin (w + 1) => f ⟨l.val, by omega⟩) Finset.univ
      then Finset.fold max (Ideal.ofBits .f32 4286578688#32) (fun l : Fin (w + 1) => f ⟨l.val, by omega⟩) Finset.univ else Ideal.ofBits .f32 3212836864#32)
    (ha : a = if Ideal.ofBits .f32 3212836864#32 < Finset.fold max (Ideal.ofBits .f32 4286578688#32) (fun l : Fin (w + 1) => f ⟨l.val, by omega⟩) Finset.univ
      then IntOp.addi (Finset.fold IntOp.minsi (2147483647#32)
        (fun l : Fin (w + 1) => if f ⟨l.val, by omega⟩ = Finset.fold max (Ideal.ofBits .f32 4286578688#32) (fun l : Fin (w + 1) => f ⟨l.val, by omega⟩) Finset.univ
          then BitVec.ofNat 32 l.val else big) Finset.univ) 0#32 else 0#32) : Upto f (w + 1) m a := by
  have hs := first_spec fun l : Fin (w + 1) => f ⟨l.val, by omega⟩
  rw [arg_first (by omega) (fun l : Fin (w + 1) => f ⟨l.val, by omega⟩) big hbig] at ha
  rw [max_first] at hm ha
  have hp := lt_of_lt_of_le neg_one_lt (h0 ⟨(first fun l : Fin (w + 1) => f ⟨l.val, by omega⟩).val, by omega⟩)
  rw [if_pos hp] at hm ha
  exact ⟨_, FirstTo.start hw hs, hm, by rw [ha]; simp [IntOp.addi]⟩

/-- After one more block. -/
theorem Upto.step {n off w : ℕ} {f : Fin n → EReal} (hw : off + (w + 1) ≤ n) (hn : n < 2147483648) (big : BitVec 32)
    (hbig : ((w + 1 : ℕ) : ℤ) ≤ big.toInt) {m m' : EReal} {a a' : BitVec 32} (h : Upto f off m a)
    (hm : m' = if m < Finset.fold max (Ideal.ofBits .f32 4286578688#32) (fun l : Fin (w + 1) => f ⟨off + l.val, by omega⟩) Finset.univ
      then Finset.fold max (Ideal.ofBits .f32 4286578688#32) (fun l : Fin (w + 1) => f ⟨off + l.val, by omega⟩) Finset.univ else m)
    (ha : a' = if m < Finset.fold max (Ideal.ofBits .f32 4286578688#32) (fun l : Fin (w + 1) => f ⟨off + l.val, by omega⟩) Finset.univ
      then IntOp.addi (Finset.fold IntOp.minsi (2147483647#32)
        (fun l : Fin (w + 1) => if f ⟨off + l.val, by omega⟩ = Finset.fold max (Ideal.ofBits .f32 4286578688#32) (fun l : Fin (w + 1) => f ⟨off + l.val, by omega⟩) Finset.univ
          then BitVec.ofNat 32 l.val else big) Finset.univ) (BitVec.ofNat 32 off) else a) : Upto f (off + (w + 1)) m' a' := by
  obtain ⟨k, hk, rfl, rfl⟩ := h
  have hs := first_spec fun l : Fin (w + 1) => f ⟨off + l.val, by omega⟩
  rw [arg_first (by omega) (fun l : Fin (w + 1) => f ⟨off + l.val, by omega⟩) big hbig] at ha
  rw [max_first] at hm ha
  refine ⟨_, FirstTo.step hw hk hs, ?_, ?_⟩
  · rw [hm]; split_ifs <;> rfl
  · rw [ha]; split_ifs
    · simp [IntOp.addi, BitVec.ofNat_add, BitVec.add_comm]
    · rfl

/-- The place over all of them is the first largest place. -/
theorem Upto.all {n : ℕ} {f : Fin (n + 1) → EReal} {N : ℕ} (hN : n + 1 ≤ N) {m : EReal} {a : BitVec 32} (h : Upto f N m a) :
    a = BitVec.ofNat 32 (first f).val := by
  obtain ⟨k, hk, _, rfl⟩ := h
  rw [First.unique (hk.first hN) (first_spec f)]

end Cert.Upto
-- ==== Proof.KRow.lean ====
/- Which box each anchor of a block overlaps most, and by how much, as the kernel works them out. -/
module

public import proofs.«01_k».proof.Proof.KIou
public import proofs.«01_k».proof.Proof.Upto
public import proofs.«01_k».proof.Proof.Gen.KernelIdeal.Frame
public import Idealize.ShloMosaic.Lib.Pointwise
public import Idealize.ShloMosaic.Lib.Pipeline.ValueKit.Tiles

@[expose] public section

noncomputable section

namespace Cert.KRead

open Cert.Pick Cert.Upto Cert.KernelIdeal Cert.KernelIdeal.Gen Cert.Spec
open Idealize.ShloMosaic Idealize.ShloMosaic.TcCoe

variable (c : Dev nD) (arg0 : Memref sig .tc .vmem S7x20000 .f32) (harg0 : arg0.IsWhole)
  (arg1 : Memref sig .tc .vmem S128x7 .f32) (harg1 : arg1.IsWhole)
  (arg2 : Memref sig .tc .vmem S8x128 .f32) (harg2 : arg2.IsWhole) (x0 : Vec Ideal S7x20000 .f32) (x1 : Vec Ideal S128x7 .f32)
  (x2 : Vec Ideal S8x128 .f32)

/-- The largest overlap of an anchor of the first block. -/
theorem rmax0 (l : Fin 4096) :
    kernelRun0_A.sl.r_15 (F := Ideal) c arg0 harg0 arg1 harg1 x0 x1 (ix2 (0 : Fin 1) l) = best (A x0) (G x1) ⟨l.val, by omega⟩ := by
  refine Eq.trans ?_ (max_first fun g : Fin 128 => iou (A x0 ⟨l.val, by omega⟩) (G x1 g))
  · unfold kernelRun0_A.sl.r_15
    unfold k0_pay29
    have hM := m0 c arg0 harg0 arg1 harg1 x0 x1
    unfold M0 at hM
    generalize k0_pay28 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_10 c arg0 harg0 x0) (kernelRun0_A.sl.r_11 c arg0 harg0 x0) (kernelRun0_A.sl.r_12 c arg0 harg0 x0) (kernelRun0_A.sl.r_13 c arg0 harg0 x0) (kernelRun0_A.sl.r_14 c arg0 harg0 x0) = M at hM ⊢
    pointwise
    simp only [hM]

/-- The first box it is with. -/
theorem rarg0 (l : Fin 4096) :
    kernelRun0_A.sl.r_16 (F := Ideal) c arg0 harg0 arg1 harg1 x0 x1 (ix2 (0 : Fin 1) l) = BitVec.ofNat 32 (row (A x0) (G x1) ⟨l.val, by omega⟩).val := by
  refine Eq.trans ?_ (arg_first (by decide) (fun g : Fin 128 => iou (A x0 ⟨l.val, by omega⟩) (G x1 g)) 128#32 (by decide))
  · unfold kernelRun0_A.sl.r_16
    unfold k0_pay30 k0_pay29
    unfold kernelRun0_A.sl.v44
    have hM := m0 c arg0 harg0 arg1 harg1 x0 x1
    unfold M0 at hM
    generalize k0_pay28 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_10 c arg0 harg0 x0) (kernelRun0_A.sl.r_11 c arg0 harg0 x0) (kernelRun0_A.sl.r_12 c arg0 harg0 x0) (kernelRun0_A.sl.r_13 c arg0 harg0 x0) (kernelRun0_A.sl.r_14 c arg0 harg0 x0) = M at hM ⊢
    pointwise
    simp only [hM]

/-- The largest overlap of an anchor of the second block. -/
theorem rmax1 (l : Fin 4096) :
    kernelRun0_A.sl.r_26 (F := Ideal) c arg0 harg0 arg1 harg1 x0 x1 (ix2 (0 : Fin 1) l) = best (A x0) (G x1) ⟨4096 + l.val, by omega⟩ := by
  refine Eq.trans ?_ (max_first fun g : Fin 128 => iou (A x0 ⟨4096 + l.val, by omega⟩) (G x1 g))
  · unfold kernelRun0_A.sl.r_26
    unfold k0_pay50
    have hM := m1 c arg0 harg0 arg1 harg1 x0 x1
    unfold M1 at hM
    generalize k0_pay49 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_21 c arg0 harg0 x0) (kernelRun0_A.sl.r_22 c arg0 harg0 x0) (kernelRun0_A.sl.r_23 c arg0 harg0 x0) (kernelRun0_A.sl.r_24 c arg0 harg0 x0) (kernelRun0_A.sl.r_25 c arg0 harg0 x0) = M at hM ⊢
    pointwise
    simp only [hM]

/-- The first box it is with. -/
theorem rarg1 (l : Fin 4096) :
    kernelRun0_A.sl.r_27 (F := Ideal) c arg0 harg0 arg1 harg1 x0 x1 (ix2 (0 : Fin 1) l) = BitVec.ofNat 32 (row (A x0) (G x1) ⟨4096 + l.val, by omega⟩).val := by
  refine Eq.trans ?_ (arg_first (by decide) (fun g : Fin 128 => iou (A x0 ⟨4096 + l.val, by omega⟩) (G x1 g)) 128#32 (by decide))
  · unfold kernelRun0_A.sl.r_27
    unfold k0_pay51 k0_pay50
    unfold kernelRun0_A.sl.v44
    have hM := m1 c arg0 harg0 arg1 harg1 x0 x1
    unfold M1 at hM
    generalize k0_pay49 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_21 c arg0 harg0 x0) (kernelRun0_A.sl.r_22 c arg0 harg0 x0) (kernelRun0_A.sl.r_23 c arg0 harg0 x0) (kernelRun0_A.sl.r_24 c arg0 harg0 x0) (kernelRun0_A.sl.r_25 c arg0 harg0 x0) = M at hM ⊢
    pointwise
    simp only [hM]

/-- The largest overlap of an anchor of the third block. -/
theorem rmax2 (l : Fin 4096) :
    kernelRun0_A.sl.r_35 (F := Ideal) c arg0 harg0 arg1 harg1 x0 x1 (ix2 (0 : Fin 1) l) = best (A x0) (G x1) ⟨8192 + l.val, by omega⟩ := by
  refine Eq.trans ?_ (max_first fun g : Fin 128 => iou (A x0 ⟨8192 + l.val, by omega⟩) (G x1 g))
  · unfold kernelRun0_A.sl.r_35
    unfold k0_pay71
    have hM := m2 c arg0 harg0 arg1 harg1 x0 x1
    unfold M2 at hM
    generalize k0_pay70 (F := Ideal) (kernelRun0_A.sl.r_1 c arg1 harg1 x1) (kernelRun0_A.sl.r_3 c arg1 harg1 x1) (kernelRun0_A.sl.r_4 c arg1 harg1 x1) (kernelRun0_A.sl.r_30 c arg0 harg0 x0) (kernelRun0_A.sl.r_31 c arg0 harg0 x0) (kernelRun0_A.sl.r_32 c arg0 harg0 x0) (kernelRun0_A.sl.r_33 c arg0 harg0 arg1 harg1 x0 x1) (kernelRun0_A.sl.r_34 c arg0 harg0 arg1 harg1 x0 x1) = M at hM ⊢
    pointwise
    simp only [hM]

/-- The first box it is with. -/
theorem rarg2 (l : Fin 4096) :
    kernelRun0_A.sl.r_36 (F := Ideal) c arg0 harg0 arg1 harg1 x0 x1 (ix2 (0 : Fin 1) l) = BitVec.ofNat 32 (row (A x0) (G x1) ⟨8192 + l.val, by omega⟩).val := by
  refine Eq.trans ?_ (arg_first (by decide) (fun g : Fin 128 => iou (A x0 ⟨8192 + l.val, by omega⟩) (G x1 g)) 128#32 (by decide))
  · unfold kernelRun0_A.sl.r_36
    unfold k0_pay72 k0_pay71
    unfold kernelRun0_A.sl.v44
    have hM := m2 c arg0 harg0 arg1 harg1 x0 x1
    unfold M2 at hM
    generalize k0_pay70 (F := Ideal) (kernelRun0_A.sl.r_1 c arg1 harg1 x1) (kernelRun0_A.sl.r_3 c arg1 harg1 x1) (kernelRun0_A.sl.r_4 c arg1 harg1 x1) (kernelRun0_A.sl.r_30 c arg0 harg0 x0) (kernelRun0_A.sl.r_31 c arg0 harg0 x0) (kernelRun0_A.sl.r_32 c arg0 harg0 x0) (kernelRun0_A.sl.r_33 c arg0 harg0 arg1 harg1 x0 x1) (kernelRun0_A.sl.r_34 c arg0 harg0 arg1 harg1 x0 x1) = M at hM ⊢
    pointwise
    simp only [hM]

/-- The largest overlap of an anchor of the fourth block. -/
theorem rmax3 (l : Fin 4096) :
    kernelRun0_A.sl.r_45 (F := Ideal) c arg0 harg0 arg1 harg1 x0 x1 (ix2 (0 : Fin 1) l) = best (A x0) (G x1) ⟨12288 + l.val, by omega⟩ := by
  refine Eq.trans ?_ (max_first fun g : Fin 128 => iou (A x0 ⟨12288 + l.val, by omega⟩) (G x1 g))
  · unfold kernelRun0_A.sl.r_45
    unfold k0_pay92
    have hM := m3 c arg0 harg0 arg1 harg1 x0 x1
    unfold M3 at hM
    generalize k0_pay91 (F := Ideal) (kernelRun0_A.sl.r_1 c arg1 harg1 x1) (kernelRun0_A.sl.r_3 c arg1 harg1 x1) (kernelRun0_A.sl.r_4 c arg1 harg1 x1) (kernelRun0_A.sl.r_41 c arg0 harg0 x0) (kernelRun0_A.sl.r_42 c arg0 harg0 x0) (kernelRun0_A.sl.r_43 c arg0 harg0 arg1 harg1 x0 x1) (kernelRun0_A.sl.r_44 c arg0 harg0 x0) = M at hM ⊢
    pointwise
    simp only [hM]

/-- The first box it is with. -/
theorem rarg3 (l : Fin 4096) :
    kernelRun0_A.sl.r_46 (F := Ideal) c arg0 harg0 arg1 harg1 x0 x1 (ix2 (0 : Fin 1) l) = BitVec.ofNat 32 (row (A x0) (G x1) ⟨12288 + l.val, by omega⟩).val := by
  refine Eq.trans ?_ (arg_first (by decide) (fun g : Fin 128 => iou (A x0 ⟨12288 + l.val, by omega⟩) (G x1 g)) 128#32 (by decide))
  · unfold kernelRun0_A.sl.r_46
    unfold k0_pay93 k0_pay92
    unfold kernelRun0_A.sl.v44
    have hM := m3 c arg0 harg0 arg1 harg1 x0 x1
    unfold M3 at hM
    generalize k0_pay91 (F := Ideal) (kernelRun0_A.sl.r_1 c arg1 harg1 x1) (kernelRun0_A.sl.r_3 c arg1 harg1 x1) (kernelRun0_A.sl.r_4 c arg1 harg1 x1) (kernelRun0_A.sl.r_41 c arg0 harg0 x0) (kernelRun0_A.sl.r_42 c arg0 harg0 x0) (kernelRun0_A.sl.r_43 c arg0 harg0 arg1 harg1 x0 x1) (kernelRun0_A.sl.r_44 c arg0 harg0 x0) = M at hM ⊢
    pointwise
    simp only [hM]

/-- The largest overlap of an anchor of the fifth block. -/
theorem rmax4 (l : Fin 3616) :
    kernelRun0_A.sl.r_56 (F := Ideal) c arg0 harg0 arg1 harg1 x0 x1 (ix2 (0 : Fin 1) l) = best (A x0) (G x1) ⟨16384 + l.val, by omega⟩ := by
  refine Eq.trans ?_ (max_first fun g : Fin 128 => iou (A x0 ⟨16384 + l.val, by omega⟩) (G x1 g))
  · unfold kernelRun0_A.sl.r_56
    unfold k0_pay114
    have hM := m4 c arg0 harg0 arg1 harg1 x0 x1
    unfold M4 at hM
    generalize k0_pay113 (F := Ideal) (kernelRun0_A.sl.r_4 c arg1 harg1 x1) (kernelRun0_A.sl.r_52 c arg0 harg0 x0) (kernelRun0_A.sl.r_53 c arg0 harg0 arg1 harg1 x0 x1) (kernelRun0_A.sl.r_54 c arg0 harg0 arg1 harg1 x0 x1) (kernelRun0_A.sl.r_55 c arg0 harg0 arg1 harg1 x0 x1) = M at hM ⊢
    pointwise
    simp only [hM]

/-- The first box it is with. -/
theorem rarg4 (l : Fin 3616) :
    kernelRun0_A.sl.r_57 (F := Ideal) c arg0 harg0 arg1 harg1 x0 x1 (ix2 (0 : Fin 1) l) = BitVec.ofNat 32 (row (A x0) (G x1) ⟨16384 + l.val, by omega⟩).val := by
  refine Eq.trans ?_ (arg_first (by decide) (fun g : Fin 128 => iou (A x0 ⟨16384 + l.val, by omega⟩) (G x1 g)) 128#32 (by decide))
  · unfold kernelRun0_A.sl.r_57
    unfold k0_pay115 k0_pay114
    unfold kernelRun0_A.sl.v392
    have hM := m4 c arg0 harg0 arg1 harg1 x0 x1
    unfold M4 at hM
    generalize k0_pay113 (F := Ideal) (kernelRun0_A.sl.r_4 c arg1 harg1 x1) (kernelRun0_A.sl.r_52 c arg0 harg0 x0) (kernelRun0_A.sl.r_53 c arg0 harg0 arg1 harg1 x0 x1) (kernelRun0_A.sl.r_54 c arg0 harg0 arg1 harg1 x0 x1) (kernelRun0_A.sl.r_55 c arg0 harg0 arg1 harg1 x0 x1) = M at hM ⊢
    pointwise
    simp only [hM]

end Cert.KRead
-- ==== Proof.KCol.lean ====
/- Which anchor each box overlaps most, as the kernel works it out block by block. -/
module

public import proofs.«01_k».proof.Proof.KIou
public import proofs.«01_k».proof.Proof.Upto
public import proofs.«01_k».proof.Proof.Gen.KernelIdeal.Frame
public import Idealize.ShloMosaic.Lib.Pointwise
public import Idealize.ShloMosaic.Lib.Pipeline.ValueKit.Tiles

@[expose] public section

noncomputable section

namespace Cert.KRead

open Cert.Pick Cert.Upto Cert.KernelIdeal Cert.KernelIdeal.Gen Cert.Spec
open Idealize.ShloMosaic Idealize.ShloMosaic.TcCoe

variable (c : Dev nD) (arg0 : Memref sig .tc .vmem S7x20000 .f32) (harg0 : arg0.IsWhole)
  (arg1 : Memref sig .tc .vmem S128x7 .f32) (harg1 : arg1.IsWhole)
  (arg2 : Memref sig .tc .vmem S8x128 .f32) (harg2 : arg2.IsWhole) (x0 : Vec Ideal S7x20000 .f32) (x1 : Vec Ideal S128x7 .f32)
  (x2 : Vec Ideal S8x128 .f32)

/-- The best anchor of each box over the blocks up to the first. -/
theorem upto0 (g : Fin 128) : Upto (fun i => iou (A x0 i) (G x1 g)) 4096
    (kernelRun0_A.sl.r_19 (F := Ideal) c arg0 harg0 arg1 harg1 x0 x1 (ix2 g (0 : Fin 1)))
    (kernelRun0_A.sl.r_20 (F := Ideal) c arg0 harg0 arg1 harg1 x0 x1 (ix2 g (0 : Fin 1))) := by
  refine Upto.start (w := 4095) (fun i => iou (A x0 i) (G x1 g)) (fun i => iouE_nonneg _ _ _ _ _ _ _ _) (by decide) (by decide) 20000#32 (by decide) ?_ ?_
  · unfold kernelRun0_A.sl.r_19
    unfold k0_pay34 k0_pay33 k0_pay31 k0_pay15
    have hM := m0 c arg0 harg0 arg1 harg1 x0 x1
    unfold M0 at hM
    generalize k0_pay28 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_10 c arg0 harg0 x0) (kernelRun0_A.sl.r_11 c arg0 harg0 x0) (kernelRun0_A.sl.r_12 c arg0 harg0 x0) (kernelRun0_A.sl.r_13 c arg0 harg0 x0) (kernelRun0_A.sl.r_14 c arg0 harg0 x0) = M at hM ⊢
    pointwise
    simp only [hM]
  · unfold kernelRun0_A.sl.r_20
    unfold k0_pay35 k0_pay16
    unfold kernelRun0_A.sl.r_17 kernelRun0_A.sl.r_18
    unfold k0_pay32 k0_pay33 k0_pay31 k0_pay15
    unfold kernelRun0_A.sl.v45
    have hM := m0 c arg0 harg0 arg1 harg1 x0 x1
    unfold M0 at hM
    generalize k0_pay28 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_10 c arg0 harg0 x0) (kernelRun0_A.sl.r_11 c arg0 harg0 x0) (kernelRun0_A.sl.r_12 c arg0 harg0 x0) (kernelRun0_A.sl.r_13 c arg0 harg0 x0) (kernelRun0_A.sl.r_14 c arg0 harg0 x0) = M at hM ⊢
    pointwise
    simp only [hM]

/-- The best anchor of each box over the blocks up to the second. -/
theorem upto1 (g : Fin 128) : Upto (fun i => iou (A x0 i) (G x1 g)) 8192
    (kernelRun0_A.sl.r_28 (F := Ideal) c arg0 harg0 arg1 harg1 x0 x1 (ix2 g (0 : Fin 1)))
    (kernelRun0_A.sl.r_29 (F := Ideal) c arg0 harg0 arg1 harg1 x0 x1 (ix2 g (0 : Fin 1))) := by
  refine Upto.step (off := 4096) (w := 4095) (by decide) (by decide) 20000#32 (by decide) (upto0 c arg0 harg0 arg1 harg1 x0 x1 g) ?_ ?_
  · unfold kernelRun0_A.sl.r_28
    unfold k0_pay54 k0_pay53 k0_pay52
    have hM := m1 c arg0 harg0 arg1 harg1 x0 x1
    unfold M1 at hM
    generalize k0_pay49 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_21 c arg0 harg0 x0) (kernelRun0_A.sl.r_22 c arg0 harg0 x0) (kernelRun0_A.sl.r_23 c arg0 harg0 x0) (kernelRun0_A.sl.r_24 c arg0 harg0 x0) (kernelRun0_A.sl.r_25 c arg0 harg0 x0) = M at hM ⊢
    pointwise
    simp only [hM]
  · unfold kernelRun0_A.sl.r_29
    unfold k0_pay55 k0_pay53 k0_pay52
    unfold kernelRun0_A.sl.v45
    have hM := m1 c arg0 harg0 arg1 harg1 x0 x1
    unfold M1 at hM
    generalize k0_pay49 (F := Ideal) (kernelRun0_A.sl.r c arg1 harg1 x1) (kernelRun0_A.sl.r_1 c arg1 harg1 x1) (kernelRun0_A.sl.r_2 c arg1 harg1 x1) (kernelRun0_A.sl.r_3 c arg1 harg1 x1) (kernelRun0_A.sl.r_4 c arg1 harg1 x1) (kernelRun0_A.sl.r_21 c arg0 harg0 x0) (kernelRun0_A.sl.r_22 c arg0 harg0 x0) (kernelRun0_A.sl.r_23 c arg0 harg0 x0) (kernelRun0_A.sl.r_24 c arg0 harg0 x0) (kernelRun0_A.sl.r_25 c arg0 harg0 x0) = M at hM ⊢
    pointwise
    simp only [hM]

/-- The best anchor of each box over the blocks up to the third. -/
theorem upto2 (g : Fin 128) : Upto (fun i => iou (A x0 i) (G x1 g)) 12288
    (kernelRun0_A.sl.r_37 (F := Ideal) c arg0 harg0 arg1 harg1 x0 x1 (ix2 g (0 : Fin 1)))
    (kernelRun0_A.sl.r_38 (F := Ideal) c arg0 harg0 arg1 harg1 x0 x1 (ix2 g (0 : Fin 1))) := by
  refine Upto.step (off := 8192) (w := 4095) (by decide) (by decide) 20000#32 (by decide) (upto1 c arg0 harg0 arg1 harg1 x0 x1 g) ?_ ?_
  · unfold kernelRun0_A.sl.r_37
    unfold k0_pay75 k0_pay74 k0_pay73
    have hM := m2 c arg0 harg0 arg1 harg1 x0 x1
    unfold M2 at hM
    generalize k0_pay70 (F := Ideal) (kernelRun0_A.sl.r_1 c arg1 harg1 x1) (kernelRun0_A.sl.r_3 c arg1 harg1 x1) (kernelRun0_A.sl.r_4 c arg1 harg1 x1) (kernelRun0_A.sl.r_30 c arg0 harg0 x0) (kernelRun0_A.sl.r_31 c arg0 harg0 x0) (kernelRun0_A.sl.r_32 c arg0 harg0 x0) (kernelRun0_A.sl.r_33 c arg0 harg0 arg1 harg1 x0 x1) (kernelRun0_A.sl.r_34 c arg0 harg0 arg1 harg1 x0 x1) = M at hM ⊢
    pointwise
    simp only [hM]
  · unfold kernelRun0_A.sl.r_38
    unfold k0_pay76 k0_pay74 k0_pay73
    unfold kernelRun0_A.sl.v45
    have hM := m2 c arg0 harg0 arg1 harg1 x0 x1
    unfold M2 at hM
    generalize k0_pay70 (F := Ideal) (kernelRun0_A.sl.r_1 c arg1 harg1 x1) (kernelRun0_A.sl.r_3 c arg1 harg1 x1) (kernelRun0_A.sl.r_4 c arg1 harg1 x1) (kernelRun0_A.sl.r_30 c arg0 harg0 x0) (kernelRun0_A.sl.r_31 c arg0 harg0 x0) (kernelRun0_A.sl.r_32 c arg0 harg0 x0) (kernelRun0_A.sl.r_33 c arg0 harg0 arg1 harg1 x0 x1) (kernelRun0_A.sl.r_34 c arg0 harg0 arg1 harg1 x0 x1) = M at hM ⊢
    pointwise
    simp only [hM]

/-- The best anchor of each box over the blocks up to the fourth. -/
theorem upto3 (g : Fin 128) : Upto (fun i => iou (A x0 i) (G x1 g)) 16384
    (kernelRun0_A.sl.r_47 (F := Ideal) c arg0 harg0 arg1 harg1 x0 x1 (ix2 g (0 : Fin 1)))
    (kernelRun0_A.sl.r_48 (F := Ideal) c arg0 harg0 arg1 harg1 x0 x1 (ix2 g (0 : Fin 1))) := by
  refine Upto.step (off := 12288) (w := 4095) (by decide) (by decide) 20000#32 (by decide) (upto2 c arg0 harg0 arg1 harg1 x0 x1 g) ?_ ?_
  · unfold kernelRun0_A.sl.r_47
    unfold k0_pay96 k0_pay95 k0_pay94
    have hM := m3 c arg0 harg0 arg1 harg1 x0 x1
    unfold M3 at hM
    generalize k0_pay91 (F := Ideal) (kernelRun0_A.sl.r_1 c arg1 harg1 x1) (kernelRun0_A.sl.r_3 c arg1 harg1 x1) (kernelRun0_A.sl.r_4 c arg1 harg1 x1) (kernelRun0_A.sl.r_41 c arg0 harg0 x0) (kernelRun0_A.sl.r_42 c arg0 harg0 x0) (kernelRun0_A.sl.r_43 c arg0 harg0 arg1 harg1 x0 x1) (kernelRun0_A.sl.r_44 c arg0 harg0 x0) = M at hM ⊢
    pointwise
    simp only [hM]
  · unfold kernelRun0_A.sl.r_48
    unfold k0_pay97 k0_pay95 k0_pay94
    unfold kernelRun0_A.sl.v45
    have hM := m3 c arg0 harg0 arg1 harg1 x0 x1
    unfold M3 at hM
    generalize k0_pay91 (F := Ideal) (kernelRun0_A.sl.r_1 c arg1 harg1 x1) (kernelRun0_A.sl.r_3 c arg1 harg1 x1) (kernelRun0_A.sl.r_4 c arg1 harg1 x1) (kernelRun0_A.sl.r_41 c arg0 harg0 x0) (kernelRun0_A.sl.r_42 c arg0 harg0 x0) (kernelRun0_A.sl.r_43 c arg0 harg0 arg1 harg1 x0 x1) (kernelRun0_A.sl.r_44 c arg0 harg0 x0) = M at hM ⊢
    pointwise
    simp only [hM]

/-- The best anchor of each box over all the blocks. -/
theorem carg (g : Fin 128) :
    kernelRun0_A.sl.r_58 (F := Ideal) c arg0 harg0 arg1 harg1 x0 x1 (ix2 g (0 : Fin 1)) = BitVec.ofNat 32 (col (A x0) (G x1) g).val := by
  refine Upto.all (N := 20000) le_rfl (Upto.step (off := 16384) (w := 3615) (by decide) (by decide) 20000#32 (by decide)
    (upto3 c arg0 harg0 arg1 harg1 x0 x1 g) rfl ?_)
  · unfold kernelRun0_A.sl.r_58
    unfold k0_pay116
    unfold kernelRun0_A.sl.v393
    have hM := m4 c arg0 harg0 arg1 harg1 x0 x1
    unfold M4 at hM
    generalize k0_pay113 (F := Ideal) (kernelRun0_A.sl.r_4 c arg1 harg1 x1) (kernelRun0_A.sl.r_52 c arg0 harg0 x0) (kernelRun0_A.sl.r_53 c arg0 harg0 arg1 harg1 x0 x1) (kernelRun0_A.sl.r_54 c arg0 harg0 arg1 harg1 x0 x1) (kernelRun0_A.sl.r_55 c arg0 harg0 arg1 harg1 x0 x1) = M at hM ⊢
    pointwise
    simp only [hM]

end Cert.KRead
-- ==== Proof.KScalar.lean ====
/- The second pass of the kernel on one anchor: the last box that takes it, the box it goes to, that box's numbers picked by
   a sum, the label and the flag. -/
module

public import proofs.«01_k».proof.Proof.Spec
public import proofs.«01_k».proof.Proof.Upto

@[expose] public section

noncomputable section

namespace Cert.KScalar

open Idealize.ShloMosaic Cert.Pick Cert.Spec

variable (A : Fin 20000 → Fin 7 → EReal) (G : Fin 128 → Fin 7 → EReal) (C : Fin 128 → BitVec 32)

/-- Selecting by an equality test of words. -/
theorem select_eq {α : Type} (a b : BitVec 32) (x y : α) : Scalar.select (IntOp.cmpi .eq a b) x y = if a = b then x else y := by
  unfold Scalar.select IntOp.cmpi
  by_cases h : a = b
  · simp [h]
  · have : (a == b) = false := beq_false_of_ne h
    simp only [this, if_neg h]; rfl

/-- The greatest box whose best anchor is `i`, or minus one. -/
theorem last_word (i : Fin 20000) (p : BitVec 32) (hp : p = BitVec.ofNat 32 i.val) [Decidable (Forced A G i)] :
    Finset.fold IntOp.maxsi (2147483648#32)
      (fun x : Fin 128 => Scalar.select (IntOp.cmpi .eq (BitVec.ofNat 32 (col A G x).val) p) (BitVec.ofNat 32 x.val) 4294967295#32)
      Finset.univ = if Forced A G i then BitVec.ofNat 32 (goes A G i).val else 4294967295#32 := by
  subst hp
  have e : (fun x : Fin 128 => Scalar.select (IntOp.cmpi .eq (BitVec.ofNat 32 (col A G x).val) (BitVec.ofNat 32 i.val))
      (BitVec.ofNat 32 x.val) 4294967295#32) = fun x : Fin 128 => if col A G x = i then BitVec.ofNat 32 x.val else 4294967295#32 := by
    funext x
    rw [select_eq]
    have hi : BitVec.ofNat 32 (col A G x).val = BitVec.ofNat 32 i.val ↔ col A G x = i := by
      rw [ofNat_inj (by omega) (by omega), Fin.val_inj]
    by_cases h : col A G x = i
    · rw [if_pos (hi.2 h), if_pos h]
    · rw [if_neg (fun h' => h (hi.1 h')), if_neg h]
  rw [e]
  by_cases h : Forced A G i
  · rw [if_pos h]
    have hc := Classical.choose_spec (exists_last h)
    have hg : goes A G i = Classical.choose (exists_last h) := by unfold goes; rw [dif_pos h]
    rw [hg]
    exact fold_maxsi_last (by decide) (fun x => col A G x = i) _ hc.1 hc.2
  · rw [if_neg h]
    exact fold_maxsi_none (by decide) (fun x => col A G x = i) fun j hj => h ⟨j, hj⟩

/-- Whether it is not minus one is whether some box takes the anchor. -/
theorem forced_word (i : Fin 20000) (p : BitVec 32) (hp : p = BitVec.ofNat 32 i.val) [Decidable (Forced A G i)] :
    IntOp.cmpi .sge (Finset.fold IntOp.maxsi (2147483648#32)
      (fun x : Fin 128 => Scalar.select (IntOp.cmpi .eq (BitVec.ofNat 32 (col A G x).val) p) (BitVec.ofNat 32 x.val) 4294967295#32)
      Finset.univ) 0#32 = if Forced A G i then 1#1 else 0#1 := by
  rw [last_word A G i p hp]
  split_ifs
  · unfold IntOp.cmpi
    have h : (BitVec.ofNat 32 (goes A G i).val).toInt = (goes A G i).val := toInt_ofNat (by omega)
    have : (0#32).sle (BitVec.ofNat 32 (goes A G i).val) = true := by
      rw [BitVec.sle_iff_toInt_le, h]; simp
    simp only [this]; rfl
  · decide

/-- The box the anchor goes to. -/
theorem arg_word (i : Fin 20000) (p : BitVec 32) (hp : p = BitVec.ofNat 32 i.val) :
    Scalar.select (IntOp.cmpi .sge (Finset.fold IntOp.maxsi (2147483648#32)
      (fun x : Fin 128 => Scalar.select (IntOp.cmpi .eq (BitVec.ofNat 32 (col A G x).val) p) (BitVec.ofNat 32 x.val) 4294967295#32)
      Finset.univ) 0#32) (Finset.fold IntOp.maxsi (2147483648#32)
      (fun x : Fin 128 => Scalar.select (IntOp.cmpi .eq (BitVec.ofNat 32 (col A G x).val) p) (BitVec.ofNat 32 x.val) 4294967295#32)
      Finset.univ) (BitVec.ofNat 32 (row A G i).val) = BitVec.ofNat 32 (goes A G i).val := by
  classical
  rw [forced_word A G i p hp, last_word A G i p hp]
  by_cases h : Forced A G i
  · simp only [if_pos h]; rfl
  · have hg : goes A G i = row A G i := by unfold goes; rw [dif_neg h]
    simp only [if_neg h, hg]; rfl

/-- The one-hot weight is one at the box and zero elsewhere. -/
theorem one_hot (x j : Fin 128) :
    (FloatOps.sitofp (F := Ideal) .f32 (BitVec.setWidth 32 (IntOp.cmpi .eq (BitVec.ofNat 32 x.val) (BitVec.ofNat 32 j.val))) : EReal) =
      if x = j then 1 else 0 := by
  have hi : BitVec.ofNat 32 x.val = BitVec.ofNat 32 j.val ↔ x = j := by
    rw [ofNat_inj (by omega) (by omega), Fin.val_inj]
  have hc : IntOp.cmpi .eq (BitVec.ofNat 32 x.val) (BitVec.ofNat 32 j.val) = if x = j then 1#1 else 0#1 := by
    unfold IntOp.cmpi
    by_cases h : x = j
    · subst h; simp
    · have : ¬ BitVec.ofNat 32 x.val = BitVec.ofNat 32 j.val := fun h' => h (hi.1 h')
      have h2 : (BitVec.ofNat 32 x.val == BitVec.ofNat 32 j.val) = false := beq_false_of_ne this
      simp only [h2, if_neg h]; rfl
  rw [hc]
  show (((BitVec.setWidth 32 (if x = j then 1#1 else 0#1)).toInt : ℝ) : EReal) = _
  split_ifs
  · simp
  · simp

/-- Three weighted sums of a row's parts give the row's value at the box. -/
theorem sel_sum (t : Fin 128 → EReal) (ht : ∀ x, t x ≠ ⊤) (j : Fin 128) :
    ((∑ x : Fin 128, t x * (FloatOps.sitofp (F := Ideal) .f32 (BitVec.setWidth 32 (IntOp.cmpi .eq (BitVec.ofNat 32 x.val) (BitVec.ofNat 32 j.val))) : EReal)) +
      ∑ x : Fin 128, (t x - t x) * (FloatOps.sitofp (F := Ideal) .f32 (BitVec.setWidth 32 (IntOp.cmpi .eq (BitVec.ofNat 32 x.val) (BitVec.ofNat 32 j.val))) : EReal)) +
      ∑ x : Fin 128, (t x - t x - (t x - t x)) * (FloatOps.sitofp (F := Ideal) .f32 (BitVec.setWidth 32 (IntOp.cmpi .eq (BitVec.ofNat 32 x.val) (BitVec.ofNat 32 j.val))) : EReal) = t j := by
  simp only [one_hot]
  rw [sum_pick, sum_pick (fun x => t x - t x), sum_pick (fun x => t x - t x - (t x - t x))]
  exact three_parts _ (ht j)

/-- A word made a float and back is the word. -/
theorem back (b : BitVec 32) : Ideal.fptosi 32 ((b.toInt : ℝ) : EReal) = b := by
  unfold Ideal.fptosi
  rw [Ideal.toIntClamped_coe]
  have h1 : (-2147483648 : ℤ) ≤ b.toInt := by have := BitVec.le_toInt b; omega
  have h2 : b.toInt ≤ 2147483647 := by have := BitVec.toInt_lt (x := b); omega
  have h3 : (if (0 : ℝ) ≤ (b.toInt : ℝ) then ⌊(b.toInt : ℝ)⌋ else ⌈(b.toInt : ℝ)⌉) = b.toInt := by
    split_ifs <;> simp
  rw [h3]
  have : max (-(2 ^ (32 - 1) : ℕ) : ℤ) (min ((2 ^ (32 - 1) : ℕ) - 1 : ℤ) b.toInt) = b.toInt := by
    norm_num; omega
  rw [this, BitVec.ofInt_toInt]

/-- The label. -/
theorem lab_word (i : Fin 20000) [Decidable (Forced A G i)] :
    FloatOps.fptosi (F := Ideal) (φ := .f32) 32 (Scalar.select (if Forced A G i then 1#1 else 0#1)
      (((C (goes A G i)).toInt : ℝ) : EReal)
      (if Ideal.ofBits FTy.f32 1058642330#32 ≤ best A G i then (((C (goes A G i)).toInt : ℝ) : EReal)
        else if best A G i < Ideal.ofBits FTy.f32 1055286886#32 then 0 else Ideal.ofBits FTy.f32 3212836864#32)) = lab A G C i := by
  classical
  show Ideal.fptosi 32 _ = _
  unfold lab Scalar.select
  by_cases h : Forced A G i
  · simp only [if_pos h, if_true]
    exact back _
  · simp only [if_neg h]
    rw [if_neg (by decide)]
    split_ifs
    · exact back _
    · simpa using back 0#32
    · have h1 : Ideal.ofBits .f32 3212836864#32 = (((4294967295#32).toInt : ℝ) : EReal) := by
        unfold Ideal.ofBits Ideal.ieee
        simp only [show ((3212836864#32).extractLsb' 23 8).toNat = 127 by decide, show ((3212836864#32).extractLsb' 0 23).toNat = 0 by decide,
          show ((3212836864#32).extractLsb' (8 + 23) 1 == 1#1) = true by decide, show (4294967295#32).toInt = -1 by decide]
        norm_num
      rw [h1]; exact back _

/-- The flag. -/
theorem flag_word (i : Fin 20000) :
    (FloatOps.sitofp (F := Ideal) .f32 (BitVec.setWidth 32 (IntOp.cmpi .sgt (lab A G C i) 0#32)) : EReal) = flag A G C i := by
  have hc : IntOp.cmpi .sgt (lab A G C i) 0#32 = if 0 < (lab A G C i).toInt then 1#1 else 0#1 := by
    unfold IntOp.cmpi
    by_cases h : 0 < (lab A G C i).toInt
    · have : (0#32).slt (lab A G C i) = true := by rw [BitVec.slt_iff_toInt_lt]; simpa using h
      simp [this, h]
    · have : (0#32).slt (lab A G C i) = false := by
        rw [Bool.eq_false_iff]; intro h'; rw [BitVec.slt_iff_toInt_lt] at h'; exact h (by simpa using h')
      simp [this, h]
  unfold flag
  rw [hc]
  show (((BitVec.setWidth 32 (if 0 < (lab A G C i).toInt then 1#1 else 0#1)).toInt : ℝ) : EReal) = _
  split_ifs
  · simp
  · simp

end Cert.KScalar
-- ==== Proof.KPick.lean ====
/- Which box each anchor goes to, that box's numbers, the label and the flag, as the kernel works them out. -/
module

public import proofs.«01_k».proof.Proof.KRow
public import proofs.«01_k».proof.Proof.KCol
public import proofs.«01_k».proof.Proof.KScalar
public import proofs.«01_k».proof.Proof.Gen.KernelIdeal.Frame
public import Idealize.ShloMosaic.Lib.Pointwise
public import Idealize.ShloMosaic.Lib.Pipeline.ValueKit.Tiles

@[expose] public section

noncomputable section

namespace Cert.KRead

open Cert.Pick Cert.KScalar Cert.KernelIdeal Cert.KernelIdeal.Gen Cert.Spec
open Idealize.ShloMosaic Idealize.ShloMosaic.TcCoe

/-- What the third array holds: the boxes one column each with the classes under them as floats, all below plus infinity. -/
structure Fed (x1 : Vec Ideal S128x7 .f32) (x2 : Vec Ideal S8x128 .f32) (C : Fin 128 → BitVec 32) : Prop where
  low : ∀ (k : Fin 8) (g : Fin 128), x2 (ix2 k g) ≠ ⊤
  box : ∀ (k : Fin 7) (g : Fin 128), x2 (ix2 (⟨k.val, by omega⟩ : Fin 8) g) = x1 (ix2 g k)
  cls : ∀ g : Fin 128, x2 (ix2 (7 : Fin 8) g) = (((C g).toInt : ℝ) : EReal)

variable (c : Dev nD) (arg0 : Memref sig .tc .vmem S7x20000 .f32) (harg0 : arg0.IsWhole)
  (arg1 : Memref sig .tc .vmem S128x7 .f32) (harg1 : arg1.IsWhole)
  (arg2 : Memref sig .tc .vmem S8x128 .f32) (harg2 : arg2.IsWhole) (x0 : Vec Ideal S7x20000 .f32) (x1 : Vec Ideal S128x7 .f32)
  (x2 : Vec Ideal S8x128 .f32)

/-- The first part of the third array is the array. -/
theorem part0 (k : Fin 8) (g : Fin 128) : kernelRun0_A.sl.r_5 (F := Ideal) c arg2 harg2 x2 (ix2 k g) = x2 (ix2 k g) := by
  unfold kernelRun0_A.sl.r_5
  simp only [View.readAt_eq_ld, Memref.IsWhole.read_unread]
  unfold_payloads
  pointwise
/-- The second is its difference from itself. -/
theorem part1 (k : Fin 8) (g : Fin 128) : kernelRun0_A.sl.r_7 (F := Ideal) c arg2 harg2 x2 (ix2 k g) = x2 (ix2 k g) - x2 (ix2 k g) := by
  unfold kernelRun0_A.sl.r_7
  simp only [View.readAt_eq_ld, Memref.IsWhole.read_unread]
  unfold_payloads
  pointwise
/-- The third is that difference's. -/
theorem part2 (k : Fin 8) (g : Fin 128) : kernelRun0_A.sl.r_9 (F := Ideal) c arg2 harg2 x2 (ix2 k g) =
    x2 (ix2 k g) - x2 (ix2 k g) - (x2 (ix2 k g) - x2 (ix2 k g)) := by
  unfold kernelRun0_A.sl.r_9 kernelRun0_A.sl.r_6 kernelRun0_A.sl.r_8
  simp only [View.readAt_eq_ld, Memref.IsWhole.read_unread]
  unfold_payloads
  pointwise
/-- The last update of the best anchors, under its name. -/
theorem a58 : k0_pay116 (F := Ideal) (kernelRun0_A.sl.r_4 c arg1 harg1 x1) (kernelRun0_A.sl.r_47 c arg0 harg0 arg1 harg1 x0 x1)
    (kernelRun0_A.sl.r_48 c arg0 harg0 arg1 harg1 x0 x1) (kernelRun0_A.sl.v393) (kernelRun0_A.sl.r_52 c arg0 harg0 x0)
    (kernelRun0_A.sl.r_53 c arg0 harg0 arg1 harg1 x0 x1) (kernelRun0_A.sl.r_54 c arg0 harg0 arg1 harg1 x0 x1) (kernelRun0_A.sl.r_55 c arg0 harg0 arg1 harg1 x0 x1) = kernelRun0_A.sl.r_58 c arg0 harg0 arg1 harg1 x0 x1 := rfl

open Classical in
/-- Whether some box takes an anchor of the first block. -/
theorem forced0 (l : Fin 4096) : (kernelRun0_A.sl.r_59 (F := Ideal) c arg0 harg0 arg1 harg1 x0 x1) (ix2 (0 : Fin 1) l) = if Forced (A x0) (G x1) ⟨l.val, by omega⟩ then 1#1 else 0#1 := by
  unfold kernelRun0_A.sl.r_59 k0_pay118 k0_pay117
  simp only [a58]
  pointwise
  simp only [carg]
  exact forced_word (A x0) (G x1) ⟨l.val, by omega⟩ (IntOp.addi (BitVec.ofNat 32 l.val) 0#32) (by simp [IntOp.addi, BitVec.ofNat_add, BitVec.add_comm])
variable {x1 x2} in
/-- The numbers of the box it goes to. -/
theorem sel0 {C : Fin 128 → BitVec 32} (hf : Fed x1 x2 C) (k : Fin 8) (l : Fin 4096) :
    k0_pay120 (kernelRun0_A.sl.r_5 (F := Ideal) c arg2 harg2 x2) (kernelRun0_A.sl.r_7 (F := Ideal) c arg2 harg2 x2) (kernelRun0_A.sl.r_9 (F := Ideal) c arg2 harg2 x2) (kernelRun0_A.sl.r_60 (F := Ideal) c arg0 harg0 arg1 harg1 x0 x1) (ix2 k l) = x2 (ix2 k (goes (A x0) (G x1) ⟨l.val, by omega⟩)) := by
  unfold k0_pay120 kernelRun0_A.sl.r_60 k0_pay119 k0_pay118 k0_pay117
  simp only [a58]
  pointwise
  simp only [carg, rarg0, part0, part1, part2]
  rw [arg_word (A x0) (G x1) ⟨l.val, by omega⟩ (IntOp.addi (BitVec.ofNat 32 l.val) 0#32) (by simp [IntOp.addi, BitVec.ofNat_add, BitVec.add_comm])]
  exact sel_sum (fun g => x2 (ix2 k g)) (hf.low k) _
variable {x1 x2} in
/-- Its label. -/
theorem lab0 {C : Fin 128 → BitVec 32} (hf : Fed x1 x2 C) (l : Fin 4096) :
    kernelRun0_A.sl.r_68 (F := Ideal) c arg0 harg0 arg1 harg1 arg2 harg2 x0 x1 x2 (ix2 (0 : Fin 1) l) = lab (A x0) (G x1) C ⟨l.val, by omega⟩ := by
  unfold kernelRun0_A.sl.r_68 k0_pay128
  pointwise
  simp only [sel0  c arg0 harg0 arg1 harg1 arg2 harg2 x0 hf, rmax0, hf.cls, forced0]
  classical exact lab_word (A x0) (G x1) C ⟨l.val, by omega⟩
variable {x1 x2} in
/-- Its flag. -/
theorem flag0 {C : Fin 128 → BitVec 32} (hf : Fed x1 x2 C) (l : Fin 4096) :
    kernelRun0_A.sl.r_69 (F := Ideal) c arg0 harg0 arg1 harg1 arg2 harg2 x0 x1 x2 (ix2 (0 : Fin 1) l) = flag (A x0) (G x1) C ⟨l.val, by omega⟩ := by
  have hl := lab0 c arg0 harg0 arg1 harg1 arg2 harg2 x0 hf l
  unfold kernelRun0_A.sl.r_68 at hl
  unfold kernelRun0_A.sl.r_69 k0_pay129
  pointwise
  rw [hl]
  exact flag_word (A x0) (G x1) C ⟨l.val, by omega⟩

open Classical in
/-- Whether some box takes an anchor of the second block. -/
theorem forced1 (l : Fin 4096) : (k0_pay145 (kernelRun0_A.sl.r_58 (F := Ideal) c arg0 harg0 arg1 harg1 x0 x1)) (ix2 (0 : Fin 1) l) = if Forced (A x0) (G x1) ⟨4096 + l.val, by omega⟩ then 1#1 else 0#1 := by
  unfold k0_pay145 k0_pay144
  pointwise
  simp only [carg]
  exact forced_word (A x0) (G x1) ⟨4096 + l.val, by omega⟩ (IntOp.addi (BitVec.ofNat 32 l.val) 4096#32) (by simp [IntOp.addi, BitVec.ofNat_add, BitVec.add_comm])
variable {x1 x2} in
/-- The numbers of the box it goes to. -/
theorem sel1 {C : Fin 128 → BitVec 32} (hf : Fed x1 x2 C) (k : Fin 8) (l : Fin 4096) :
    k0_pay146 (kernelRun0_A.sl.r_5 (F := Ideal) c arg2 harg2 x2) (kernelRun0_A.sl.r_7 (F := Ideal) c arg2 harg2 x2) (kernelRun0_A.sl.r_9 (F := Ideal) c arg2 harg2 x2) (kernelRun0_A.sl.r_27 (F := Ideal) c arg0 harg0 arg1 harg1 x0 x1) (kernelRun0_A.sl.r_58 (F := Ideal) c arg0 harg0 arg1 harg1 x0 x1) (ix2 k l) = x2 (ix2 k (goes (A x0) (G x1) ⟨4096 + l.val, by omega⟩)) := by
  unfold k0_pay146 k0_pay145 k0_pay144
  pointwise
  simp only [carg, rarg1, part0, part1, part2]
  rw [arg_word (A x0) (G x1) ⟨4096 + l.val, by omega⟩ (IntOp.addi (BitVec.ofNat 32 l.val) 4096#32) (by simp [IntOp.addi, BitVec.ofNat_add, BitVec.add_comm])]
  exact sel_sum (fun g => x2 (ix2 k g)) (hf.low k) _
variable {x1 x2} in
/-- Its label. -/
theorem lab1 {C : Fin 128 → BitVec 32} (hf : Fed x1 x2 C) (l : Fin 4096) :
    kernelRun0_A.sl.r_82 (F := Ideal) c arg0 harg0 arg1 harg1 arg2 harg2 x0 x1 x2 (ix2 (0 : Fin 1) l) = lab (A x0) (G x1) C ⟨4096 + l.val, by omega⟩ := by
  unfold kernelRun0_A.sl.r_82 k0_pay154
  pointwise
  simp only [sel1  c arg0 harg0 arg1 harg1 arg2 harg2 x0 hf, rmax1, hf.cls, forced1]
  classical exact lab_word (A x0) (G x1) C ⟨4096 + l.val, by omega⟩
variable {x1 x2} in
/-- Its flag. -/
theorem flag1 {C : Fin 128 → BitVec 32} (hf : Fed x1 x2 C) (l : Fin 4096) :
    kernelRun0_A.sl.r_83 (F := Ideal) c arg0 harg0 arg1 harg1 arg2 harg2 x0 x1 x2 (ix2 (0 : Fin 1) l) = flag (A x0) (G x1) C ⟨4096 + l.val, by omega⟩ := by
  have hl := lab1 c arg0 harg0 arg1 harg1 arg2 harg2 x0 hf l
  unfold kernelRun0_A.sl.r_82 at hl
  unfold kernelRun0_A.sl.r_83 k0_pay155
  unfold kernelRun0_A.sl.r_82
  pointwise
  rw [hl]
  exact flag_word (A x0) (G x1) C ⟨4096 + l.val, by omega⟩

open Classical in
/-- Whether some box takes an anchor of the third block. -/
theorem forced2 (l : Fin 4096) : (kernelRun0_A.sl.r_88 (F := Ideal) c arg0 harg0 arg1 harg1 x0 x1) (ix2 (0 : Fin 1) l) = if Forced (A x0) (G x1) ⟨8192 + l.val, by omega⟩ then 1#1 else 0#1 := by
  unfold kernelRun0_A.sl.r_88 k0_pay169 k0_pay168
  pointwise
  simp only [carg]
  exact forced_word (A x0) (G x1) ⟨8192 + l.val, by omega⟩ (IntOp.addi (BitVec.ofNat 32 l.val) 8192#32) (by simp [IntOp.addi, BitVec.ofNat_add, BitVec.add_comm])
variable {x1 x2} in
/-- The numbers of the box it goes to. -/
theorem sel2 {C : Fin 128 → BitVec 32} (hf : Fed x1 x2 C) (k : Fin 8) (l : Fin 4096) :
    k0_pay172 (kernelRun0_A.sl.r_9 (F := Ideal) c arg2 harg2 x2) (kernelRun0_A.sl.r_89 (F := Ideal) c arg0 harg0 arg1 harg1 x0 x1) (kernelRun0_A.sl.r_90 (F := Ideal) c arg0 harg0 arg1 harg1 arg2 harg2 x0 x1 x2) (ix2 k l) = x2 (ix2 k (goes (A x0) (G x1) ⟨8192 + l.val, by omega⟩)) := by
  unfold kernelRun0_A.sl.r_89 kernelRun0_A.sl.r_90 k0_pay172 k0_pay171 k0_pay170 k0_pay169 k0_pay168
  pointwise
  simp only [carg, rarg2, part0, part1, part2]
  rw [arg_word (A x0) (G x1) ⟨8192 + l.val, by omega⟩ (IntOp.addi (BitVec.ofNat 32 l.val) 8192#32) (by simp [IntOp.addi, BitVec.ofNat_add, BitVec.add_comm])]
  exact sel_sum (fun g => x2 (ix2 k g)) (hf.low k) _
variable {x1 x2} in
/-- Its label. -/
theorem lab2 {C : Fin 128 → BitVec 32} (hf : Fed x1 x2 C) (l : Fin 4096) :
    kernelRun0_A.sl.r_98 (F := Ideal) c arg0 harg0 arg1 harg1 arg2 harg2 x0 x1 x2 (ix2 (0 : Fin 1) l) = lab (A x0) (G x1) C ⟨8192 + l.val, by omega⟩ := by
  unfold kernelRun0_A.sl.r_98 k0_pay180
  pointwise
  simp only [sel2  c arg0 harg0 arg1 harg1 arg2 harg2 x0 hf, rmax2, hf.cls, forced2]
  classical exact lab_word (A x0) (G x1) C ⟨8192 + l.val, by omega⟩
variable {x1 x2} in
/-- Its flag. -/
theorem flag2 {C : Fin 128 → BitVec 32} (hf : Fed x1 x2 C) (l : Fin 4096) :
    kernelRun0_A.sl.r_99 (F := Ideal) c arg0 harg0 arg1 harg1 arg2 harg2 x0 x1 x2 (ix2 (0 : Fin 1) l) = flag (A x0) (G x1) C ⟨8192 + l.val, by omega⟩ := by
  have hl := lab2 c arg0 harg0 arg1 harg1 arg2 harg2 x0 hf l
  unfold kernelRun0_A.sl.r_98 at hl
  unfold kernelRun0_A.sl.r_99 k0_pay181
  pointwise
  rw [hl]
  exact flag_word (A x0) (G x1) C ⟨8192 + l.val, by omega⟩

open Classical in
/-- Whether some box takes an anchor of the fourth block. -/
theorem forced3 (l : Fin 4096) : (k0_pay200 (kernelRun0_A.sl.r_58 (F := Ideal) c arg0 harg0 arg1 harg1 x0 x1) kernelRun0_A.sl.v44 kernelRun0_A.sl.v758) (ix2 (0 : Fin 1) l) = if Forced (A x0) (G x1) ⟨12288 + l.val, by omega⟩ then 1#1 else 0#1 := by
  unfold kernelRun0_A.sl.v44 kernelRun0_A.sl.v758 k0_pay200 k0_pay199
  pointwise
  simp only [carg]
  exact forced_word (A x0) (G x1) ⟨12288 + l.val, by omega⟩ (IntOp.addi (BitVec.ofNat 32 l.val) 12288#32) (by simp [IntOp.addi, BitVec.ofNat_add, BitVec.add_comm])
variable {x1 x2} in
/-- The numbers of the box it goes to. -/
theorem sel3 {C : Fin 128 → BitVec 32} (hf : Fed x1 x2 C) (k : Fin 8) (l : Fin 4096) :
    k0_pay201 (kernelRun0_A.sl.r_5 (F := Ideal) c arg2 harg2 x2) (kernelRun0_A.sl.r_7 (F := Ideal) c arg2 harg2 x2) (kernelRun0_A.sl.r_9 (F := Ideal) c arg2 harg2 x2) (kernelRun0_A.sl.r_46 (F := Ideal) c arg0 harg0 arg1 harg1 x0 x1) (kernelRun0_A.sl.r_58 (F := Ideal) c arg0 harg0 arg1 harg1 x0 x1) kernelRun0_A.sl.v44 kernelRun0_A.sl.v758 (ix2 k l) = x2 (ix2 k (goes (A x0) (G x1) ⟨12288 + l.val, by omega⟩)) := by
  unfold kernelRun0_A.sl.v44 kernelRun0_A.sl.v758 k0_pay201 k0_pay200 k0_pay199
  pointwise
  simp only [carg, rarg3, part0, part1, part2]
  rw [arg_word (A x0) (G x1) ⟨12288 + l.val, by omega⟩ (IntOp.addi (BitVec.ofNat 32 l.val) 12288#32) (by simp [IntOp.addi, BitVec.ofNat_add, BitVec.add_comm])]
  exact sel_sum (fun g => x2 (ix2 k g)) (hf.low k) _
variable {x1 x2} in
/-- Its label. -/
theorem lab3 {C : Fin 128 → BitVec 32} (hf : Fed x1 x2 C) (l : Fin 4096) :
    kernelRun0_A.sl.r_116 (F := Ideal) c arg0 harg0 arg1 harg1 arg2 harg2 x0 x1 x2 (ix2 (0 : Fin 1) l) = lab (A x0) (G x1) C ⟨12288 + l.val, by omega⟩ := by
  unfold kernelRun0_A.sl.r_116 k0_pay209
  pointwise
  simp only [sel3  c arg0 harg0 arg1 harg1 arg2 harg2 x0 hf, rmax3, hf.cls, forced3]
  classical exact lab_word (A x0) (G x1) C ⟨12288 + l.val, by omega⟩
variable {x1 x2} in
/-- Its flag. -/
theorem flag3 {C : Fin 128 → BitVec 32} (hf : Fed x1 x2 C) (l : Fin 4096) :
    kernelRun0_A.sl.r_117 (F := Ideal) c arg0 harg0 arg1 harg1 arg2 harg2 x0 x1 x2 (ix2 (0 : Fin 1) l) = flag (A x0) (G x1) C ⟨12288 + l.val, by omega⟩ := by
  have hl := lab3 c arg0 harg0 arg1 harg1 arg2 harg2 x0 hf l
  unfold kernelRun0_A.sl.r_116 at hl
  unfold kernelRun0_A.sl.r_117 k0_pay210
  pointwise
  rw [hl]
  exact flag_word (A x0) (G x1) C ⟨12288 + l.val, by omega⟩

open Classical in
/-- Whether some box takes an anchor of the fifth block. -/
theorem forced4 (l : Fin 3616) : (kernelRun0_A.sl.r_122 (F := Ideal) c arg0 harg0 arg1 harg1 x0 x1) (ix2 (0 : Fin 1) l) = if Forced (A x0) (G x1) ⟨16384 + l.val, by omega⟩ then 1#1 else 0#1 := by
  unfold kernelRun0_A.sl.r_122 k0_pay225 k0_pay224
  pointwise
  simp only [carg]
  exact forced_word (A x0) (G x1) ⟨16384 + l.val, by omega⟩ (IntOp.addi (BitVec.ofNat 32 l.val) 16384#32) (by simp [IntOp.addi, BitVec.ofNat_add, BitVec.add_comm])
variable {x1 x2} in
/-- The numbers of the box it goes to. -/
theorem sel4 {C : Fin 128 → BitVec 32} (hf : Fed x1 x2 C) (k : Fin 8) (l : Fin 3616) :
    kernelRun0_A.sl.r_123 (F := Ideal) c arg0 harg0 arg1 harg1 arg2 harg2 x0 x1 x2 (ix2 k l) = x2 (ix2 k (goes (A x0) (G x1) ⟨16384 + l.val, by omega⟩)) := by
  unfold kernelRun0_A.sl.r_123 k0_pay226 k0_pay225 k0_pay224
  pointwise
  simp only [carg, rarg4, part0, part1, part2]
  rw [arg_word (A x0) (G x1) ⟨16384 + l.val, by omega⟩ (IntOp.addi (BitVec.ofNat 32 l.val) 16384#32) (by simp [IntOp.addi, BitVec.ofNat_add, BitVec.add_comm])]
  exact sel_sum (fun g => x2 (ix2 k g)) (hf.low k) _
variable {x1 x2} in
/-- Its label. -/
theorem lab4 {C : Fin 128 → BitVec 32} (hf : Fed x1 x2 C) (l : Fin 3616) :
    kernelRun0_A.sl.r_131 (F := Ideal) c arg0 harg0 arg1 harg1 arg2 harg2 x0 x1 x2 (ix2 (0 : Fin 1) l) = lab (A x0) (G x1) C ⟨16384 + l.val, by omega⟩ := by
  unfold kernelRun0_A.sl.r_131 k0_pay234
  pointwise
  simp only [sel4  c arg0 harg0 arg1 harg1 arg2 harg2 x0 hf, rmax4, hf.cls, forced4]
  classical exact lab_word (A x0) (G x1) C ⟨16384 + l.val, by omega⟩
variable {x1 x2} in
/-- Its flag. -/
theorem flag4 {C : Fin 128 → BitVec 32} (hf : Fed x1 x2 C) (l : Fin 3616) :
    kernelRun0_A.sl.r_132 (F := Ideal) c arg0 harg0 arg1 harg1 arg2 harg2 x0 x1 x2 (ix2 (0 : Fin 1) l) = flag (A x0) (G x1) C ⟨16384 + l.val, by omega⟩ := by
  have hl := lab4 c arg0 harg0 arg1 harg1 arg2 harg2 x0 hf l
  unfold kernelRun0_A.sl.r_131 at hl
  unfold kernelRun0_A.sl.r_132 k0_pay235
  pointwise
  rw [hl]
  exact flag_word (A x0) (G x1) C ⟨16384 + l.val, by omega⟩

end Cert.KRead
-- ==== Proof.KRows.lean ====
/- The numbers of the box each anchor goes to, row by row, as the kernel slices them. -/
module

public import proofs.«01_k».proof.Proof.KPick
public import proofs.«01_k».proof.Proof.Gen.KernelIdeal.Frame
public import Idealize.ShloMosaic.Lib.Pointwise
public import Idealize.ShloMosaic.Lib.Pipeline.ValueKit.Tiles

@[expose] public section

noncomputable section

namespace Cert.KRead

open Cert.Pick Cert.KScalar Cert.KernelIdeal Cert.KernelIdeal.Gen Cert.Spec
open Idealize.ShloMosaic Idealize.ShloMosaic.TcCoe

variable (c : Dev nD) (arg0 : Memref sig .tc .vmem S7x20000 .f32) (harg0 : arg0.IsWhole)
  (arg1 : Memref sig .tc .vmem S128x7 .f32) (harg1 : arg1.IsWhole)
  (arg2 : Memref sig .tc .vmem S8x128 .f32) (harg2 : arg2.IsWhole) (x0 : Vec Ideal S7x20000 .f32) (x1 : Vec Ideal S128x7 .f32)
  (x2 : Vec Ideal S8x128 .f32)

variable {x1 x2} in
/-- Number 0 of the box an anchor of the first block goes to. -/
theorem row0_0 {C : Fin 128 → BitVec 32} (hf : Fed x1 x2 C) (l : Fin 4096) :
    kernelRun0_A.sl.r_61 (F := Ideal) c arg0 harg0 arg1 harg1 arg2 harg2 x0 x1 x2 (ix2 (0 : Fin 1) l) = G x1 (goes (A x0) (G x1) ⟨l.val, by omega⟩) 0 := by
  unfold kernelRun0_A.sl.r_61 k0_pay121
  pointwise
  exact (sel0 c arg0 harg0 arg1 harg1 arg2 harg2 x0 hf _ _).trans (hf.box 0 _)

variable {x1 x2} in
/-- Number 1 of the box an anchor of the first block goes to. -/
theorem row0_1 {C : Fin 128 → BitVec 32} (hf : Fed x1 x2 C) (l : Fin 4096) :
    kernelRun0_A.sl.r_62 (F := Ideal) c arg0 harg0 arg1 harg1 arg2 harg2 x0 x1 x2 (ix2 (0 : Fin 1) l) = G x1 (goes (A x0) (G x1) ⟨l.val, by omega⟩) 1 := by
  unfold kernelRun0_A.sl.r_62 k0_pay122
  pointwise
  exact (sel0 c arg0 harg0 arg1 harg1 arg2 harg2 x0 hf _ _).trans (hf.box 1 _)

variable {x1 x2} in
/-- Number 2 of the box an anchor of the first block goes to. -/
theorem row0_2 {C : Fin 128 → BitVec 32} (hf : Fed x1 x2 C) (l : Fin 4096) :
    kernelRun0_A.sl.r_63 (F := Ideal) c arg0 harg0 arg1 harg1 arg2 harg2 x0 x1 x2 (ix2 (0 : Fin 1) l) = G x1 (goes (A x0) (G x1) ⟨l.val, by omega⟩) 2 := by
  unfold kernelRun0_A.sl.r_63 k0_pay123
  pointwise
  exact (sel0 c arg0 harg0 arg1 harg1 arg2 harg2 x0 hf _ _).trans (hf.box 2 _)

variable {x1 x2} in
/-- Number 3 of the box an anchor of the first block goes to. -/
theorem row0_3 {C : Fin 128 → BitVec 32} (hf : Fed x1 x2 C) (l : Fin 4096) :
    kernelRun0_A.sl.r_64 (F := Ideal) c arg0 harg0 arg1 harg1 arg2 harg2 x0 x1 x2 (ix2 (0 : Fin 1) l) = G x1 (goes (A x0) (G x1) ⟨l.val, by omega⟩) 3 := by
  unfold kernelRun0_A.sl.r_64 k0_pay124
  pointwise
  exact (sel0 c arg0 harg0 arg1 harg1 arg2 harg2 x0 hf _ _).trans (hf.box 3 _)

variable {x1 x2} in
/-- Number 4 of the box an anchor of the first block goes to. -/
theorem row0_4 {C : Fin 128 → BitVec 32} (hf : Fed x1 x2 C) (l : Fin 4096) :
    kernelRun0_A.sl.r_65 (F := Ideal) c arg0 harg0 arg1 harg1 arg2 harg2 x0 x1 x2 (ix2 (0 : Fin 1) l) = G x1 (goes (A x0) (G x1) ⟨l.val, by omega⟩) 4 := by
  unfold kernelRun0_A.sl.r_65 k0_pay125
  pointwise
  exact (sel0 c arg0 harg0 arg1 harg1 arg2 harg2 x0 hf _ _).trans (hf.box 4 _)

variable {x1 x2} in
/-- Number 5 of the box an anchor of the first block goes to. -/
theorem row0_5 {C : Fin 128 → BitVec 32} (hf : Fed x1 x2 C) (l : Fin 4096) :
    kernelRun0_A.sl.r_66 (F := Ideal) c arg0 harg0 arg1 harg1 arg2 harg2 x0 x1 x2 (ix2 (0 : Fin 1) l) = G x1 (goes (A x0) (G x1) ⟨l.val, by omega⟩) 5 := by
  unfold kernelRun0_A.sl.r_66 k0_pay126
  pointwise
  exact (sel0 c arg0 harg0 arg1 harg1 arg2 harg2 x0 hf _ _).trans (hf.box 5 _)

variable {x1 x2} in
/-- Number 6 of the box an anchor of the first block goes to. -/
theorem row0_6 {C : Fin 128 → BitVec 32} (hf : Fed x1 x2 C) (l : Fin 4096) :
    kernelRun0_A.sl.r_67 (F := Ideal) c arg0 harg0 arg1 harg1 arg2 harg2 x0 x1 x2 (ix2 (0 : Fin 1) l) = G x1 (goes (A x0) (G x1) ⟨l.val, by omega⟩) 6 := by
  unfold kernelRun0_A.sl.r_67 k0_pay127
  pointwise
  exact (sel0 c arg0 harg0 arg1 harg1 arg2 harg2 x0 hf _ _).trans (hf.box 6 _)

variable {x1 x2} in
/-- Number 0 of the box an anchor of the second block goes to. -/
theorem row1_0 {C : Fin 128 → BitVec 32} (hf : Fed x1 x2 C) (l : Fin 4096) :
    kernelRun0_A.sl.r_75 (F := Ideal) c arg0 harg0 arg1 harg1 arg2 harg2 x0 x1 x2 (ix2 (0 : Fin 1) l) = G x1 (goes (A x0) (G x1) ⟨4096 + l.val, by omega⟩) 0 := by
  unfold kernelRun0_A.sl.r_75 k0_pay147
  pointwise
  exact (sel1 c arg0 harg0 arg1 harg1 arg2 harg2 x0 hf _ _).trans (hf.box 0 _)

variable {x1 x2} in
/-- Number 1 of the box an anchor of the second block goes to. -/
theorem row1_1 {C : Fin 128 → BitVec 32} (hf : Fed x1 x2 C) (l : Fin 4096) :
    kernelRun0_A.sl.r_76 (F := Ideal) c arg0 harg0 arg1 harg1 arg2 harg2 x0 x1 x2 (ix2 (0 : Fin 1) l) = G x1 (goes (A x0) (G x1) ⟨4096 + l.val, by omega⟩) 1 := by
  unfold kernelRun0_A.sl.r_76 k0_pay148
  pointwise
  exact (sel1 c arg0 harg0 arg1 harg1 arg2 harg2 x0 hf _ _).trans (hf.box 1 _)

variable {x1 x2} in
/-- Number 2 of the box an anchor of the second block goes to. -/
theorem row1_2 {C : Fin 128 → BitVec 32} (hf : Fed x1 x2 C) (l : Fin 4096) :
    kernelRun0_A.sl.r_77 (F := Ideal) c arg0 harg0 arg1 harg1 arg2 harg2 x0 x1 x2 (ix2 (0 : Fin 1) l) = G x1 (goes (A x0) (G x1) ⟨4096 + l.val, by omega⟩) 2 := by
  unfold kernelRun0_A.sl.r_77 k0_pay149
  pointwise
  exact (sel1 c arg0 harg0 arg1 harg1 arg2 harg2 x0 hf _ _).trans (hf.box 2 _)

variable {x1 x2} in
/-- Number 3 of the box an anchor of the second block goes to. -/
theorem row1_3 {C : Fin 128 → BitVec 32} (hf : Fed x1 x2 C) (l : Fin 4096) :
    kernelRun0_A.sl.r_78 (F := Ideal) c arg0 harg0 arg1 harg1 arg2 harg2 x0 x1 x2 (ix2 (0 : Fin 1) l) = G x1 (goes (A x0) (G x1) ⟨4096 + l.val, by omega⟩) 3 := by
  unfold kernelRun0_A.sl.r_78 k0_pay150
  pointwise
  exact (sel1 c arg0 harg0 arg1 harg1 arg2 harg2 x0 hf _ _).trans (hf.box 3 _)

variable {x1 x2} in
/-- Number 4 of the box an anchor of the second block goes to. -/
theorem row1_4 {C : Fin 128 → BitVec 32} (hf : Fed x1 x2 C) (l : Fin 4096) :
    kernelRun0_A.sl.r_79 (F := Ideal) c arg0 harg0 arg1 harg1 arg2 harg2 x0 x1 x2 (ix2 (0 : Fin 1) l) = G x1 (goes (A x0) (G x1) ⟨4096 + l.val, by omega⟩) 4 := by
  unfold kernelRun0_A.sl.r_79 k0_pay151
  pointwise
  exact (sel1 c arg0 harg0 arg1 harg1 arg2 harg2 x0 hf _ _).trans (hf.box 4 _)

variable {x1 x2} in
/-- Number 5 of the box an anchor of the second block goes to. -/
theorem row1_5 {C : Fin 128 → BitVec 32} (hf : Fed x1 x2 C) (l : Fin 4096) :
    kernelRun0_A.sl.r_80 (F := Ideal) c arg0 harg0 arg1 harg1 arg2 harg2 x0 x1 x2 (ix2 (0 : Fin 1) l) = G x1 (goes (A x0) (G x1) ⟨4096 + l.val, by omega⟩) 5 := by
  unfold kernelRun0_A.sl.r_80 k0_pay152
  pointwise
  exact (sel1 c arg0 harg0 arg1 harg1 arg2 harg2 x0 hf _ _).trans (hf.box 5 _)

variable {x1 x2} in
/-- Number 6 of the box an anchor of the second block goes to. -/
theorem row1_6 {C : Fin 128 → BitVec 32} (hf : Fed x1 x2 C) (l : Fin 4096) :
    kernelRun0_A.sl.r_81 (F := Ideal) c arg0 harg0 arg1 harg1 arg2 harg2 x0 x1 x2 (ix2 (0 : Fin 1) l) = G x1 (goes (A x0) (G x1) ⟨4096 + l.val, by omega⟩) 6 := by
  unfold kernelRun0_A.sl.r_81 k0_pay153
  pointwise
  exact (sel1 c arg0 harg0 arg1 harg1 arg2 harg2 x0 hf _ _).trans (hf.box 6 _)

variable {x1 x2} in
/-- Number 0 of the box an anchor of the third block goes to. -/
theorem row2_0 {C : Fin 128 → BitVec 32} (hf : Fed x1 x2 C) (l : Fin 4096) :
    kernelRun0_A.sl.r_91 (F := Ideal) c arg0 harg0 arg1 harg1 arg2 harg2 x0 x1 x2 (ix2 (0 : Fin 1) l) = G x1 (goes (A x0) (G x1) ⟨8192 + l.val, by omega⟩) 0 := by
  unfold kernelRun0_A.sl.r_91 k0_pay173
  pointwise
  exact (sel2 c arg0 harg0 arg1 harg1 arg2 harg2 x0 hf _ _).trans (hf.box 0 _)

variable {x1 x2} in
/-- Number 1 of the box an anchor of the third block goes to. -/
theorem row2_1 {C : Fin 128 → BitVec 32} (hf : Fed x1 x2 C) (l : Fin 4096) :
    kernelRun0_A.sl.r_92 (F := Ideal) c arg0 harg0 arg1 harg1 arg2 harg2 x0 x1 x2 (ix2 (0 : Fin 1) l) = G x1 (goes (A x0) (G x1) ⟨8192 + l.val, by omega⟩) 1 := by
  unfold kernelRun0_A.sl.r_92 k0_pay174
  pointwise
  exact (sel2 c arg0 harg0 arg1 harg1 arg2 harg2 x0 hf _ _).trans (hf.box 1 _)

variable {x1 x2} in
/-- Number 2 of the box an anchor of the third block goes to. -/
theorem row2_2 {C : Fin 128 → BitVec 32} (hf : Fed x1 x2 C) (l : Fin 4096) :
    kernelRun0_A.sl.r_93 (F := Ideal) c arg0 harg0 arg1 harg1 arg2 harg2 x0 x1 x2 (ix2 (0 : Fin 1) l) = G x1 (goes (A x0) (G x1) ⟨8192 + l.val, by omega⟩) 2 := by
  unfold kernelRun0_A.sl.r_93 k0_pay175
  pointwise
  exact (sel2 c arg0 harg0 arg1 harg1 arg2 harg2 x0 hf _ _).trans (hf.box 2 _)

variable {x1 x2} in
/-- Number 3 of the box an anchor of the third block goes to. -/
theorem row2_3 {C : Fin 128 → BitVec 32} (hf : Fed x1 x2 C) (l : Fin 4096) :
    kernelRun0_A.sl.r_94 (F := Ideal) c arg0 harg0 arg1 harg1 arg2 harg2 x0 x1 x2 (ix2 (0 : Fin 1) l) = G x1 (goes (A x0) (G x1) ⟨8192 + l.val, by omega⟩) 3 := by
  unfold kernelRun0_A.sl.r_94 k0_pay176
  pointwise
  exact (sel2 c arg0 harg0 arg1 harg1 arg2 harg2 x0 hf _ _).trans (hf.box 3 _)

variable {x1 x2} in
/-- Number 4 of the box an anchor of the third block goes to. -/
theorem row2_4 {C : Fin 128 → BitVec 32} (hf : Fed x1 x2 C) (l : Fin 4096) :
    kernelRun0_A.sl.r_95 (F := Ideal) c arg0 harg0 arg1 harg1 arg2 harg2 x0 x1 x2 (ix2 (0 : Fin 1) l) = G x1 (goes (A x0) (G x1) ⟨8192 + l.val, by omega⟩) 4 := by
  unfold kernelRun0_A.sl.r_95 k0_pay177
  pointwise
  exact (sel2 c arg0 harg0 arg1 harg1 arg2 harg2 x0 hf _ _).trans (hf.box 4 _)

variable {x1 x2} in
/-- Number 5 of the box an anchor of the third block goes to. -/
theorem row2_5 {C : Fin 128 → BitVec 32} (hf : Fed x1 x2 C) (l : Fin 4096) :
    kernelRun0_A.sl.r_96 (F := Ideal) c arg0 harg0 arg1 harg1 arg2 harg2 x0 x1 x2 (ix2 (0 : Fin 1) l) = G x1 (goes (A x0) (G x1) ⟨8192 + l.val, by omega⟩) 5 := by
  unfold kernelRun0_A.sl.r_96 k0_pay178
  pointwise
  exact (sel2 c arg0 harg0 arg1 harg1 arg2 harg2 x0 hf _ _).trans (hf.box 5 _)

variable {x1 x2} in
/-- Number 6 of the box an anchor of the third block goes to. -/
theorem row2_6 {C : Fin 128 → BitVec 32} (hf : Fed x1 x2 C) (l : Fin 4096) :
    kernelRun0_A.sl.r_97 (F := Ideal) c arg0 harg0 arg1 harg1 arg2 harg2 x0 x1 x2 (ix2 (0 : Fin 1) l) = G x1 (goes (A x0) (G x1) ⟨8192 + l.val, by omega⟩) 6 := by
  unfold kernelRun0_A.sl.r_97 k0_pay179
  pointwise
  exact (sel2 c arg0 harg0 arg1 harg1 arg2 harg2 x0 hf _ _).trans (hf.box 6 _)

variable {x1 x2} in
/-- Number 0 of the box an anchor of the fourth block goes to. -/
theorem row3_0 {C : Fin 128 → BitVec 32} (hf : Fed x1 x2 C) (l : Fin 4096) :
    kernelRun0_A.sl.r_109 (F := Ideal) c arg0 harg0 arg1 harg1 arg2 harg2 x0 x1 x2 (ix2 (0 : Fin 1) l) = G x1 (goes (A x0) (G x1) ⟨12288 + l.val, by omega⟩) 0 := by
  unfold kernelRun0_A.sl.r_109 k0_pay202
  pointwise
  exact (sel3 c arg0 harg0 arg1 harg1 arg2 harg2 x0 hf _ _).trans (hf.box 0 _)

variable {x1 x2} in
/-- Number 1 of the box an anchor of the fourth block goes to. -/
theorem row3_1 {C : Fin 128 → BitVec 32} (hf : Fed x1 x2 C) (l : Fin 4096) :
    kernelRun0_A.sl.r_110 (F := Ideal) c arg0 harg0 arg1 harg1 arg2 harg2 x0 x1 x2 (ix2 (0 : Fin 1) l) = G x1 (goes (A x0) (G x1) ⟨12288 + l.val, by omega⟩) 1 := by
  unfold kernelRun0_A.sl.r_110 k0_pay203
  pointwise
  exact (sel3 c arg0 harg0 arg1 harg1 arg2 harg2 x0 hf _ _).trans (hf.box 1 _)

variable {x1 x2} in
/-- Number 2 of the box an anchor of the fourth block goes to. -/
theorem row3_2 {C : Fin 128 → BitVec 32} (hf : Fed x1 x2 C) (l : Fin 4096) :
    kernelRun0_A.sl.r_111 (F := Ideal) c arg0 harg0 arg1 harg1 arg2 harg2 x0 x1 x2 (ix2 (0 : Fin 1) l) = G x1 (goes (A x0) (G x1) ⟨12288 + l.val, by omega⟩) 2 := by
  unfold kernelRun0_A.sl.r_111 k0_pay204
  pointwise
  exact (sel3 c arg0 harg0 arg1 harg1 arg2 harg2 x0 hf _ _).trans (hf.box 2 _)

variable {x1 x2} in
/-- Number 3 of the box an anchor of the fourth block goes to. -/
theorem row3_3 {C : Fin 128 → BitVec 32} (hf : Fed x1 x2 C) (l : Fin 4096) :
    kernelRun0_A.sl.r_112 (F := Ideal) c arg0 harg0 arg1 harg1 arg2 harg2 x0 x1 x2 (ix2 (0 : Fin 1) l) = G x1 (goes (A x0) (G x1) ⟨12288 + l.val, by omega⟩) 3 := by
  unfold kernelRun0_A.sl.r_112 k0_pay205
  pointwise
  exact (sel3 c arg0 harg0 arg1 harg1 arg2 harg2 x0 hf _ _).trans (hf.box 3 _)

variable {x1 x2} in
/-- Number 4 of the box an anchor of the fourth block goes to. -/
theorem row3_4 {C : Fin 128 → BitVec 32} (hf : Fed x1 x2 C) (l : Fin 4096) :
    kernelRun0_A.sl.r_113 (F := Ideal) c arg0 harg0 arg1 harg1 arg2 harg2 x0 x1 x2 (ix2 (0 : Fin 1) l) = G x1 (goes (A x0) (G x1) ⟨12288 + l.val, by omega⟩) 4 := by
  unfold kernelRun0_A.sl.r_113 k0_pay206
  pointwise
  exact (sel3 c arg0 harg0 arg1 harg1 arg2 harg2 x0 hf _ _).trans (hf.box 4 _)

variable {x1 x2} in
/-- Number 5 of the box an anchor of the fourth block goes to. -/
theorem row3_5 {C : Fin 128 → BitVec 32} (hf : Fed x1 x2 C) (l : Fin 4096) :
    kernelRun0_A.sl.r_114 (F := Ideal) c arg0 harg0 arg1 harg1 arg2 harg2 x0 x1 x2 (ix2 (0 : Fin 1) l) = G x1 (goes (A x0) (G x1) ⟨12288 + l.val, by omega⟩) 5 := by
  unfold kernelRun0_A.sl.r_114 k0_pay207
  pointwise
  exact (sel3 c arg0 harg0 arg1 harg1 arg2 harg2 x0 hf _ _).trans (hf.box 5 _)

variable {x1 x2} in
/-- Number 6 of the box an anchor of the fourth block goes to. -/
theorem row3_6 {C : Fin 128 → BitVec 32} (hf : Fed x1 x2 C) (l : Fin 4096) :
    kernelRun0_A.sl.r_115 (F := Ideal) c arg0 harg0 arg1 harg1 arg2 harg2 x0 x1 x2 (ix2 (0 : Fin 1) l) = G x1 (goes (A x0) (G x1) ⟨12288 + l.val, by omega⟩) 6 := by
  unfold kernelRun0_A.sl.r_115 k0_pay208
  pointwise
  exact (sel3 c arg0 harg0 arg1 harg1 arg2 harg2 x0 hf _ _).trans (hf.box 6 _)

variable {x1 x2} in
/-- Number 0 of the box an anchor of the fifth block goes to. -/
theorem row4_0 {C : Fin 128 → BitVec 32} (hf : Fed x1 x2 C) (l : Fin 3616) :
    kernelRun0_A.sl.r_124 (F := Ideal) c arg0 harg0 arg1 harg1 arg2 harg2 x0 x1 x2 (ix2 (0 : Fin 1) l) = G x1 (goes (A x0) (G x1) ⟨16384 + l.val, by omega⟩) 0 := by
  unfold kernelRun0_A.sl.r_124 k0_pay227
  pointwise
  exact (sel4 c arg0 harg0 arg1 harg1 arg2 harg2 x0 hf _ _).trans (hf.box 0 _)

variable {x1 x2} in
/-- Number 1 of the box an anchor of the fifth block goes to. -/
theorem row4_1 {C : Fin 128 → BitVec 32} (hf : Fed x1 x2 C) (l : Fin 3616) :
    kernelRun0_A.sl.r_125 (F := Ideal) c arg0 harg0 arg1 harg1 arg2 harg2 x0 x1 x2 (ix2 (0 : Fin 1) l) = G x1 (goes (A x0) (G x1) ⟨16384 + l.val, by omega⟩) 1 := by
  unfold kernelRun0_A.sl.r_125 k0_pay228
  pointwise
  exact (sel4 c arg0 harg0 arg1 harg1 arg2 harg2 x0 hf _ _).trans (hf.box 1 _)

variable {x1 x2} in
/-- Number 2 of the box an anchor of the fifth block goes to. -/
theorem row4_2 {C : Fin 128 → BitVec 32} (hf : Fed x1 x2 C) (l : Fin 3616) :
    kernelRun0_A.sl.r_126 (F := Ideal) c arg0 harg0 arg1 harg1 arg2 harg2 x0 x1 x2 (ix2 (0 : Fin 1) l) = G x1 (goes (A x0) (G x1) ⟨16384 + l.val, by omega⟩) 2 := by
  unfold kernelRun0_A.sl.r_126 k0_pay229
  pointwise
  exact (sel4 c arg0 harg0 arg1 harg1 arg2 harg2 x0 hf _ _).trans (hf.box 2 _)

variable {x1 x2} in
/-- Number 3 of the box an anchor of the fifth block goes to. -/
theorem row4_3 {C : Fin 128 → BitVec 32} (hf : Fed x1 x2 C) (l : Fin 3616) :
    kernelRun0_A.sl.r_127 (F := Ideal) c arg0 harg0 arg1 harg1 arg2 harg2 x0 x1 x2 (ix2 (0 : Fin 1) l) = G x1 (goes (A x0) (G x1) ⟨16384 + l.val, by omega⟩) 3 := by
  unfold kernelRun0_A.sl.r_127 k0_pay230
  pointwise
  exact (sel4 c arg0 harg0 arg1 harg1 arg2 harg2 x0 hf _ _).trans (hf.box 3 _)

variable {x1 x2} in
/-- Number 4 of the box an anchor of the fifth block goes to. -/
theorem row4_4 {C : Fin 128 → BitVec 32} (hf : Fed x1 x2 C) (l : Fin 3616) :
    kernelRun0_A.sl.r_128 (F := Ideal) c arg0 harg0 arg1 harg1 arg2 harg2 x0 x1 x2 (ix2 (0 : Fin 1) l) = G x1 (goes (A x0) (G x1) ⟨16384 + l.val, by omega⟩) 4 := by
  unfold kernelRun0_A.sl.r_128 k0_pay231
  pointwise
  exact (sel4 c arg0 harg0 arg1 harg1 arg2 harg2 x0 hf _ _).trans (hf.box 4 _)

variable {x1 x2} in
/-- Number 5 of the box an anchor of the fifth block goes to. -/
theorem row4_5 {C : Fin 128 → BitVec 32} (hf : Fed x1 x2 C) (l : Fin 3616) :
    kernelRun0_A.sl.r_129 (F := Ideal) c arg0 harg0 arg1 harg1 arg2 harg2 x0 x1 x2 (ix2 (0 : Fin 1) l) = G x1 (goes (A x0) (G x1) ⟨16384 + l.val, by omega⟩) 5 := by
  unfold kernelRun0_A.sl.r_129 k0_pay232
  pointwise
  exact (sel4 c arg0 harg0 arg1 harg1 arg2 harg2 x0 hf _ _).trans (hf.box 5 _)

variable {x1 x2} in
/-- Number 6 of the box an anchor of the fifth block goes to. -/
theorem row4_6 {C : Fin 128 → BitVec 32} (hf : Fed x1 x2 C) (l : Fin 3616) :
    kernelRun0_A.sl.r_130 (F := Ideal) c arg0 harg0 arg1 harg1 arg2 harg2 x0 x1 x2 (ix2 (0 : Fin 1) l) = G x1 (goes (A x0) (G x1) ⟨16384 + l.val, by omega⟩) 6 := by
  unfold kernelRun0_A.sl.r_130 k0_pay233
  pointwise
  exact (sel4 c arg0 harg0 arg1 harg1 arg2 harg2 x0 hf _ _).trans (hf.box 6 _)

end Cert.KRead
-- ==== Proof.KBox.lean ====
/- The offsets the kernel stores for each anchor, row by row and block by block. -/
module

public import proofs.«01_k».proof.Proof.KRows
public import proofs.«01_k».proof.Proof.Gen.KernelIdeal.Frame
public import Idealize.ShloMosaic.Lib.Pointwise
public import Idealize.ShloMosaic.Lib.Pipeline.ValueKit.Tiles

@[expose] public section

noncomputable section

namespace Cert.KRead

open Cert.Pick Cert.KScalar Cert.KernelIdeal Cert.KernelIdeal.Gen Cert.Spec
open Idealize.ShloMosaic Idealize.ShloMosaic.TcCoe

/-- The two squares under the root may be added either way round. -/
theorem swap (d p q f : EReal) : Ideal.div d (Ideal.sqrt (p + q)) * f = Ideal.div d (Ideal.sqrt (q + p)) * f := by
  rw [add_comm]

variable (c : Dev nD) (arg0 : Memref sig .tc .vmem S7x20000 .f32) (harg0 : arg0.IsWhole)
  (arg1 : Memref sig .tc .vmem S128x7 .f32) (harg1 : arg1.IsWhole)
  (arg2 : Memref sig .tc .vmem S8x128 .f32) (harg2 : arg2.IsWhole) (x0 : Vec Ideal S7x20000 .f32) (x1 : Vec Ideal S128x7 .f32)
  (x2 : Vec Ideal S8x128 .f32)

variable {x1 x2} in
/-- Offset 0 of an anchor of the first block. -/
theorem box0_0 {C : Fin 128 → BitVec 32} (hf : Fed x1 x2 C) (l : Fin 4096) :
    (k0_pay137 (kernelRun0_A.sl.r_61 c arg0 harg0 arg1 harg1 arg2 harg2 x0 x1 x2) (kernelRun0_A.sl.r_69 c arg0 harg0 arg1 harg1 arg2 harg2 x0 x1 x2) (kernelRun0_A.sl.r_70 c arg0 harg0 x0) (kernelRun0_A.sl.r_73 c arg0 harg0 x0) (kernelRun0_A.sl.r_74 c arg0 harg0 x0) : FVec Ideal S1x4096 .f32) (ix2 (0 : Fin 1) l) = bbox (A x0) (G x1) C ⟨l.val, by omega⟩ 0 := by
  unfold kernelRun0_A.sl.r_70 kernelRun0_A.sl.r_73 kernelRun0_A.sl.r_74
  simp only [View.readAt_eq_ld, Memref.IsWhole.read_unread]
  unfold_payloads
  pointwise
  simp only [row0_0 c arg0 harg0 arg1 harg1 arg2 harg2 x0 hf, flag0 c arg0 harg0 arg1 harg1 arg2 harg2 x0 hf]
  first | rfl | exact swap _ _ _ _

variable {x1 x2} in
/-- Offset 1 of an anchor of the first block. -/
theorem box0_1 {C : Fin 128 → BitVec 32} (hf : Fed x1 x2 C) (l : Fin 4096) :
    (k0_pay138 (kernelRun0_A.sl.r_62 c arg0 harg0 arg1 harg1 arg2 harg2 x0 x1 x2) (kernelRun0_A.sl.r_69 c arg0 harg0 arg1 harg1 arg2 harg2 x0 x1 x2) (kernelRun0_A.sl.r_71 c arg0 harg0 x0) (kernelRun0_A.sl.r_73 c arg0 harg0 x0) (kernelRun0_A.sl.r_74 c arg0 harg0 x0) : FVec Ideal S1x4096 .f32) (ix2 (0 : Fin 1) l) = bbox (A x0) (G x1) C ⟨l.val, by omega⟩ 1 := by
  unfold kernelRun0_A.sl.r_71 kernelRun0_A.sl.r_73 kernelRun0_A.sl.r_74
  simp only [View.readAt_eq_ld, Memref.IsWhole.read_unread]
  unfold_payloads
  pointwise
  simp only [row0_1 c arg0 harg0 arg1 harg1 arg2 harg2 x0 hf, flag0 c arg0 harg0 arg1 harg1 arg2 harg2 x0 hf]
  first | rfl | exact swap _ _ _ _

variable {x1 x2} in
/-- Offset 2 of an anchor of the first block. -/
theorem box0_2 {C : Fin 128 → BitVec 32} (hf : Fed x1 x2 C) (l : Fin 4096) :
    (k0_pay139 (kernelRun0_A.sl.r_63 c arg0 harg0 arg1 harg1 arg2 harg2 x0 x1 x2) (kernelRun0_A.sl.r_69 c arg0 harg0 arg1 harg1 arg2 harg2 x0 x1 x2) (kernelRun0_A.sl.r_72 c arg0 harg0 x0) (View.readAt (Elt Ideal) arg0.view (Rect.unit (s := S7x20000) ![5, 0] S1x4096.size inb_S7x20000_S1x4096_5_0).toLoadRect (harg0.unread x0)) : FVec Ideal S1x4096 .f32) (ix2 (0 : Fin 1) l) = bbox (A x0) (G x1) C ⟨l.val, by omega⟩ 2 := by
  unfold kernelRun0_A.sl.r_72
  simp only [View.readAt_eq_ld, Memref.IsWhole.read_unread]
  unfold_payloads
  pointwise
  simp only [row0_2 c arg0 harg0 arg1 harg1 arg2 harg2 x0 hf, flag0 c arg0 harg0 arg1 harg1 arg2 harg2 x0 hf]
  rfl

variable {x1 x2} in
/-- Offset 3 of an anchor of the first block. -/
theorem box0_3 {C : Fin 128 → BitVec 32} (hf : Fed x1 x2 C) (l : Fin 4096) :
    (k0_pay140 (kernelRun0_A.sl.r_64 c arg0 harg0 arg1 harg1 arg2 harg2 x0 x1 x2) (kernelRun0_A.sl.r_69 c arg0 harg0 arg1 harg1 arg2 harg2 x0 x1 x2) (kernelRun0_A.sl.r_73 c arg0 harg0 x0) : FVec Ideal S1x4096 .f32) (ix2 (0 : Fin 1) l) = bbox (A x0) (G x1) C ⟨l.val, by omega⟩ 3 := by
  unfold kernelRun0_A.sl.r_73
  simp only [View.readAt_eq_ld, Memref.IsWhole.read_unread]
  unfold_payloads
  pointwise
  simp only [row0_3 c arg0 harg0 arg1 harg1 arg2 harg2 x0 hf, flag0 c arg0 harg0 arg1 harg1 arg2 harg2 x0 hf]
  rfl

variable {x1 x2} in
/-- Offset 4 of an anchor of the first block. -/
theorem box0_4 {C : Fin 128 → BitVec 32} (hf : Fed x1 x2 C) (l : Fin 4096) :
    (k0_pay141 (kernelRun0_A.sl.r_65 c arg0 harg0 arg1 harg1 arg2 harg2 x0 x1 x2) (kernelRun0_A.sl.r_69 c arg0 harg0 arg1 harg1 arg2 harg2 x0 x1 x2) (kernelRun0_A.sl.r_74 c arg0 harg0 x0) : FVec Ideal S1x4096 .f32) (ix2 (0 : Fin 1) l) = bbox (A x0) (G x1) C ⟨l.val, by omega⟩ 4 := by
  unfold kernelRun0_A.sl.r_74
  simp only [View.readAt_eq_ld, Memref.IsWhole.read_unread]
  unfold_payloads
  pointwise
  simp only [row0_4 c arg0 harg0 arg1 harg1 arg2 harg2 x0 hf, flag0 c arg0 harg0 arg1 harg1 arg2 harg2 x0 hf]
  rfl

variable {x1 x2} in
/-- Offset 5 of an anchor of the first block. -/
theorem box0_5 {C : Fin 128 → BitVec 32} (hf : Fed x1 x2 C) (l : Fin 4096) :
    (k0_pay142 (kernelRun0_A.sl.r_66 c arg0 harg0 arg1 harg1 arg2 harg2 x0 x1 x2) (kernelRun0_A.sl.r_69 c arg0 harg0 arg1 harg1 arg2 harg2 x0 x1 x2) (View.readAt (Elt Ideal) arg0.view (Rect.unit (s := S7x20000) ![5, 0] S1x4096.size inb_S7x20000_S1x4096_5_0).toLoadRect (harg0.unread x0)) : FVec Ideal S1x4096 .f32) (ix2 (0 : Fin 1) l) = bbox (A x0) (G x1) C ⟨l.val, by omega⟩ 5 := by
  simp only [View.readAt_eq_ld, Memref.IsWhole.read_unread]
  unfold_payloads
  pointwise
  simp only [row0_5 c arg0 harg0 arg1 harg1 arg2 harg2 x0 hf, flag0 c arg0 harg0 arg1 harg1 arg2 harg2 x0 hf]
  rfl

variable {x1 x2} in
/-- Offset 6 of an anchor of the first block. -/
theorem box0_6 {C : Fin 128 → BitVec 32} (hf : Fed x1 x2 C) (l : Fin 4096) :
    (k0_pay143 (kernelRun0_A.sl.r_67 c arg0 harg0 arg1 harg1 arg2 harg2 x0 x1 x2) (kernelRun0_A.sl.r_69 c arg0 harg0 arg1 harg1 arg2 harg2 x0 x1 x2) (View.readAt (Elt Ideal) arg0.view (Rect.unit (s := S7x20000) ![6, 0] S1x4096.size inb_S7x20000_S1x4096_6_0).toLoadRect (harg0.unread x0)) : FVec Ideal S1x4096 .f32) (ix2 (0 : Fin 1) l) = bbox (A x0) (G x1) C ⟨l.val, by omega⟩ 6 := by
  simp only [View.readAt_eq_ld, Memref.IsWhole.read_unread]
  unfold_payloads
  pointwise
  simp only [row0_6 c arg0 harg0 arg1 harg1 arg2 harg2 x0 hf, flag0 c arg0 harg0 arg1 harg1 arg2 harg2 x0 hf]
  rfl

variable {x1 x2} in
/-- Offset 0 of an anchor of the second block. -/
theorem box1_0 {C : Fin 128 → BitVec 32} (hf : Fed x1 x2 C) (l : Fin 4096) :
    (k0_pay161 (kernelRun0_A.sl.r_75 c arg0 harg0 arg1 harg1 arg2 harg2 x0 x1 x2) (kernelRun0_A.sl.r_82 c arg0 harg0 arg1 harg1 arg2 harg2 x0 x1 x2) (0#32) (View.readAt (Elt Ideal) arg0.view (Rect.unit (s := S7x20000) ![0, 4096] S1x4096.size inb_S7x20000_S1x4096_0_4096).toLoadRect (harg0.unread x0)) (View.readAt (Elt Ideal) arg0.view (Rect.unit (s := S7x20000) ![3, 4096] S1x4096.size inb_S7x20000_S1x4096_3_4096).toLoadRect (harg0.unread x0)) (View.readAt (Elt Ideal) arg0.view (Rect.unit (s := S7x20000) ![4, 4096] S1x4096.size inb_S7x20000_S1x4096_4_4096).toLoadRect (harg0.unread x0)) : FVec Ideal S1x4096 .f32) (ix2 (0 : Fin 1) l) = bbox (A x0) (G x1) C ⟨4096 + l.val, by omega⟩ 0 := by
  simp only [View.readAt_eq_ld, Memref.IsWhole.read_unread]
  unfold_payloads
  pointwise
  simp only [row1_0 c arg0 harg0 arg1 harg1 arg2 harg2 x0 hf, flag1 c arg0 harg0 arg1 harg1 arg2 harg2 x0 hf, lab1 c arg0 harg0 arg1 harg1 arg2 harg2 x0 hf, flag_word]
  first | rfl | exact swap _ _ _ _

variable {x1 x2} in
/-- Offset 1 of an anchor of the second block. -/
theorem box1_1 {C : Fin 128 → BitVec 32} (hf : Fed x1 x2 C) (l : Fin 4096) :
    (k0_pay162 (kernelRun0_A.sl.r_76 c arg0 harg0 arg1 harg1 arg2 harg2 x0 x1 x2) (kernelRun0_A.sl.r_82 c arg0 harg0 arg1 harg1 arg2 harg2 x0 x1 x2) (0#32) (View.readAt (Elt Ideal) arg0.view (Rect.unit (s := S7x20000) ![1, 4096] S1x4096.size inb_S7x20000_S1x4096_1_4096).toLoadRect (harg0.unread x0)) (View.readAt (Elt Ideal) arg0.view (Rect.unit (s := S7x20000) ![3, 4096] S1x4096.size inb_S7x20000_S1x4096_3_4096).toLoadRect (harg0.unread x0)) (View.readAt (Elt Ideal) arg0.view (Rect.unit (s := S7x20000) ![4, 4096] S1x4096.size inb_S7x20000_S1x4096_4_4096).toLoadRect (harg0.unread x0)) : FVec Ideal S1x4096 .f32) (ix2 (0 : Fin 1) l) = bbox (A x0) (G x1) C ⟨4096 + l.val, by omega⟩ 1 := by
  simp only [View.readAt_eq_ld, Memref.IsWhole.read_unread]
  unfold_payloads
  pointwise
  simp only [row1_1 c arg0 harg0 arg1 harg1 arg2 harg2 x0 hf, flag1 c arg0 harg0 arg1 harg1 arg2 harg2 x0 hf, lab1 c arg0 harg0 arg1 harg1 arg2 harg2 x0 hf, flag_word]
  first | rfl | exact swap _ _ _ _

variable {x1 x2} in
/-- Offset 2 of an anchor of the second block. -/
theorem box1_2 {C : Fin 128 → BitVec 32} (hf : Fed x1 x2 C) (l : Fin 4096) :
    (k0_pay163 (kernelRun0_A.sl.r_77 c arg0 harg0 arg1 harg1 arg2 harg2 x0 x1 x2) (kernelRun0_A.sl.r_82 c arg0 harg0 arg1 harg1 arg2 harg2 x0 x1 x2) (0#32) (View.readAt (Elt Ideal) arg0.view (Rect.unit (s := S7x20000) ![2, 4096] S1x4096.size inb_S7x20000_S1x4096_2_4096).toLoadRect (harg0.unread x0)) (View.readAt (Elt Ideal) arg0.view (Rect.unit (s := S7x20000) ![5, 4096] S1x4096.size inb_S7x20000_S1x4096_5_4096).toLoadRect (harg0.unread x0)) : FVec Ideal S1x4096 .f32) (ix2 (0 : Fin 1) l) = bbox (A x0) (G x1) C ⟨4096 + l.val, by omega⟩ 2 := by
  simp only [View.readAt_eq_ld, Memref.IsWhole.read_unread]
  unfold_payloads
  pointwise
  simp only [row1_2 c arg0 harg0 arg1 harg1 arg2 harg2 x0 hf, flag1 c arg0 harg0 arg1 harg1 arg2 harg2 x0 hf, lab1 c arg0 harg0 arg1 harg1 arg2 harg2 x0 hf, flag_word]
  rfl

variable {x1 x2} in
/-- Offset 3 of an anchor of the second block. -/
theorem box1_3 {C : Fin 128 → BitVec 32} (hf : Fed x1 x2 C) (l : Fin 4096) :
    (kernelRun0_A.sl.r_87 c arg0 harg0 arg1 harg1 arg2 harg2 x0 x1 x2 : FVec Ideal S1x4096 .f32) (ix2 (0 : Fin 1) l) = bbox (A x0) (G x1) C ⟨4096 + l.val, by omega⟩ 3 := by
  unfold kernelRun0_A.sl.r_87
  simp only [View.readAt_eq_ld, Memref.IsWhole.read_unread]
  unfold_payloads
  pointwise
  simp only [row1_3 c arg0 harg0 arg1 harg1 arg2 harg2 x0 hf, flag1 c arg0 harg0 arg1 harg1 arg2 harg2 x0 hf, lab1 c arg0 harg0 arg1 harg1 arg2 harg2 x0 hf, flag_word]
  rfl

variable {x1 x2} in
/-- Offset 4 of an anchor of the second block. -/
theorem box1_4 {C : Fin 128 → BitVec 32} (hf : Fed x1 x2 C) (l : Fin 4096) :
    (k0_pay165 (kernelRun0_A.sl.r_79 c arg0 harg0 arg1 harg1 arg2 harg2 x0 x1 x2) (kernelRun0_A.sl.r_83 c arg0 harg0 arg1 harg1 arg2 harg2 x0 x1 x2) (kernelRun0_A.sl.r_84 c arg0 harg0 x0) : FVec Ideal S1x4096 .f32) (ix2 (0 : Fin 1) l) = bbox (A x0) (G x1) C ⟨4096 + l.val, by omega⟩ 4 := by
  unfold kernelRun0_A.sl.r_84
  simp only [View.readAt_eq_ld, Memref.IsWhole.read_unread]
  unfold_payloads
  pointwise
  simp only [row1_4 c arg0 harg0 arg1 harg1 arg2 harg2 x0 hf, flag1 c arg0 harg0 arg1 harg1 arg2 harg2 x0 hf, lab1 c arg0 harg0 arg1 harg1 arg2 harg2 x0 hf, flag_word]
  rfl

variable {x1 x2} in
/-- Offset 5 of an anchor of the second block. -/
theorem box1_5 {C : Fin 128 → BitVec 32} (hf : Fed x1 x2 C) (l : Fin 4096) :
    (k0_pay166 (kernelRun0_A.sl.r_80 c arg0 harg0 arg1 harg1 arg2 harg2 x0 x1 x2) (kernelRun0_A.sl.r_83 c arg0 harg0 arg1 harg1 arg2 harg2 x0 x1 x2) (kernelRun0_A.sl.r_85 c arg0 harg0 x0) : FVec Ideal S1x4096 .f32) (ix2 (0 : Fin 1) l) = bbox (A x0) (G x1) C ⟨4096 + l.val, by omega⟩ 5 := by
  unfold kernelRun0_A.sl.r_85
  simp only [View.readAt_eq_ld, Memref.IsWhole.read_unread]
  unfold_payloads
  pointwise
  simp only [row1_5 c arg0 harg0 arg1 harg1 arg2 harg2 x0 hf, flag1 c arg0 harg0 arg1 harg1 arg2 harg2 x0 hf, lab1 c arg0 harg0 arg1 harg1 arg2 harg2 x0 hf, flag_word]
  rfl

variable {x1 x2} in
/-- Offset 6 of an anchor of the second block. -/
theorem box1_6 {C : Fin 128 → BitVec 32} (hf : Fed x1 x2 C) (l : Fin 4096) :
    (k0_pay167 (kernelRun0_A.sl.r_81 c arg0 harg0 arg1 harg1 arg2 harg2 x0 x1 x2) (kernelRun0_A.sl.r_83 c arg0 harg0 arg1 harg1 arg2 harg2 x0 x1 x2) (kernelRun0_A.sl.r_86 c arg0 harg0 x0) : FVec Ideal S1x4096 .f32) (ix2 (0 : Fin 1) l) = bbox (A x0) (G x1) C ⟨4096 + l.val, by omega⟩ 6 := by
  unfold kernelRun0_A.sl.r_86
  simp only [View.readAt_eq_ld, Memref.IsWhole.read_unread]
  unfold_payloads
  pointwise
  simp only [row1_6 c arg0 harg0 arg1 harg1 arg2 harg2 x0 hf, flag1 c arg0 harg0 arg1 harg1 arg2 harg2 x0 hf, lab1 c arg0 harg0 arg1 harg1 arg2 harg2 x0 hf, flag_word]
  rfl

variable {x1 x2} in
/-- Offset 0 of an anchor of the third block. -/
theorem box2_0 {C : Fin 128 → BitVec 32} (hf : Fed x1 x2 C) (l : Fin 4096) :
    (k0_pay192 (kernelRun0_A.sl.r_91 c arg0 harg0 arg1 harg1 arg2 harg2 x0 x1 x2) (kernelRun0_A.sl.r_99 c arg0 harg0 arg1 harg1 arg2 harg2 x0 x1 x2) (kernelRun0_A.sl.r_100 c arg0 harg0 x0) (kernelRun0_A.sl.r_107 c arg0 harg0 x0) (kernelRun0_A.sl.r_108 c arg0 harg0 x0) : FVec Ideal S1x4096 .f32) (ix2 (0 : Fin 1) l) = bbox (A x0) (G x1) C ⟨8192 + l.val, by omega⟩ 0 := by
  unfold kernelRun0_A.sl.r_100 kernelRun0_A.sl.r_107 kernelRun0_A.sl.r_108
  simp only [View.readAt_eq_ld, Memref.IsWhole.read_unread]
  unfold_payloads
  pointwise
  simp only [row2_0 c arg0 harg0 arg1 harg1 arg2 harg2 x0 hf, flag2 c arg0 harg0 arg1 harg1 arg2 harg2 x0 hf]
  first | rfl | exact swap _ _ _ _

variable {x1 x2} in
/-- Offset 1 of an anchor of the third block. -/
theorem box2_1 {C : Fin 128 → BitVec 32} (hf : Fed x1 x2 C) (l : Fin 4096) :
    (k0_pay193 (kernelRun0_A.sl.r_92 c arg0 harg0 arg1 harg1 arg2 harg2 x0 x1 x2) (kernelRun0_A.sl.r_99 c arg0 harg0 arg1 harg1 arg2 harg2 x0 x1 x2) (kernelRun0_A.sl.r_101 c arg0 harg0 x0) (kernelRun0_A.sl.r_107 c arg0 harg0 x0) (kernelRun0_A.sl.r_108 c arg0 harg0 x0) : FVec Ideal S1x4096 .f32) (ix2 (0 : Fin 1) l) = bbox (A x0) (G x1) C ⟨8192 + l.val, by omega⟩ 1 := by
  unfold kernelRun0_A.sl.r_101 kernelRun0_A.sl.r_107 kernelRun0_A.sl.r_108
  simp only [View.readAt_eq_ld, Memref.IsWhole.read_unread]
  unfold_payloads
  pointwise
  simp only [row2_1 c arg0 harg0 arg1 harg1 arg2 harg2 x0 hf, flag2 c arg0 harg0 arg1 harg1 arg2 harg2 x0 hf]
  first | rfl | exact swap _ _ _ _

variable {x1 x2} in
/-- Offset 2 of an anchor of the third block. -/
theorem box2_2 {C : Fin 128 → BitVec 32} (hf : Fed x1 x2 C) (l : Fin 4096) :
    (k0_pay194 (kernelRun0_A.sl.r_93 c arg0 harg0 arg1 harg1 arg2 harg2 x0 x1 x2) (kernelRun0_A.sl.r_99 c arg0 harg0 arg1 harg1 arg2 harg2 x0 x1 x2) (kernelRun0_A.sl.r_102 c arg0 harg0 x0) (kernelRun0_A.sl.r_105 c arg0 harg0 x0) : FVec Ideal S1x4096 .f32) (ix2 (0 : Fin 1) l) = bbox (A x0) (G x1) C ⟨8192 + l.val, by omega⟩ 2 := by
  unfold kernelRun0_A.sl.r_102 kernelRun0_A.sl.r_105
  simp only [View.readAt_eq_ld, Memref.IsWhole.read_unread]
  unfold_payloads
  pointwise
  simp only [row2_2 c arg0 harg0 arg1 harg1 arg2 harg2 x0 hf, flag2 c arg0 harg0 arg1 harg1 arg2 harg2 x0 hf]
  rfl

variable {x1 x2} in
/-- Offset 3 of an anchor of the third block. -/
theorem box2_3 {C : Fin 128 → BitVec 32} (hf : Fed x1 x2 C) (l : Fin 4096) :
    (k0_pay195 (kernelRun0_A.sl.r_94 c arg0 harg0 arg1 harg1 arg2 harg2 x0 x1 x2) (kernelRun0_A.sl.r_99 c arg0 harg0 arg1 harg1 arg2 harg2 x0 x1 x2) (kernelRun0_A.sl.r_103 c arg0 harg0 x0) : FVec Ideal S1x4096 .f32) (ix2 (0 : Fin 1) l) = bbox (A x0) (G x1) C ⟨8192 + l.val, by omega⟩ 3 := by
  unfold kernelRun0_A.sl.r_103
  simp only [View.readAt_eq_ld, Memref.IsWhole.read_unread]
  unfold_payloads
  pointwise
  simp only [row2_3 c arg0 harg0 arg1 harg1 arg2 harg2 x0 hf, flag2 c arg0 harg0 arg1 harg1 arg2 harg2 x0 hf]
  rfl

variable {x1 x2} in
/-- Offset 4 of an anchor of the third block. -/
theorem box2_4 {C : Fin 128 → BitVec 32} (hf : Fed x1 x2 C) (l : Fin 4096) :
    (k0_pay196 (kernelRun0_A.sl.r_95 c arg0 harg0 arg1 harg1 arg2 harg2 x0 x1 x2) (kernelRun0_A.sl.r_99 c arg0 harg0 arg1 harg1 arg2 harg2 x0 x1 x2) (kernelRun0_A.sl.r_104 c arg0 harg0 x0) : FVec Ideal S1x4096 .f32) (ix2 (0 : Fin 1) l) = bbox (A x0) (G x1) C ⟨8192 + l.val, by omega⟩ 4 := by
  unfold kernelRun0_A.sl.r_104
  simp only [View.readAt_eq_ld, Memref.IsWhole.read_unread]
  unfold_payloads
  pointwise
  simp only [row2_4 c arg0 harg0 arg1 harg1 arg2 harg2 x0 hf, flag2 c arg0 harg0 arg1 harg1 arg2 harg2 x0 hf]
  rfl

variable {x1 x2} in
/-- Offset 5 of an anchor of the third block. -/
theorem box2_5 {C : Fin 128 → BitVec 32} (hf : Fed x1 x2 C) (l : Fin 4096) :
    (k0_pay197 (kernelRun0_A.sl.r_96 c arg0 harg0 arg1 harg1 arg2 harg2 x0 x1 x2) (kernelRun0_A.sl.r_99 c arg0 harg0 arg1 harg1 arg2 harg2 x0 x1 x2) (kernelRun0_A.sl.r_105 c arg0 harg0 x0) : FVec Ideal S1x4096 .f32) (ix2 (0 : Fin 1) l) = bbox (A x0) (G x1) C ⟨8192 + l.val, by omega⟩ 5 := by
  unfold kernelRun0_A.sl.r_105
  simp only [View.readAt_eq_ld, Memref.IsWhole.read_unread]
  unfold_payloads
  pointwise
  simp only [row2_5 c arg0 harg0 arg1 harg1 arg2 harg2 x0 hf, flag2 c arg0 harg0 arg1 harg1 arg2 harg2 x0 hf]
  rfl

variable {x1 x2} in
/-- Offset 6 of an anchor of the third block. -/
theorem box2_6 {C : Fin 128 → BitVec 32} (hf : Fed x1 x2 C) (l : Fin 4096) :
    (k0_pay198 (kernelRun0_A.sl.r_97 c arg0 harg0 arg1 harg1 arg2 harg2 x0 x1 x2) (kernelRun0_A.sl.r_99 c arg0 harg0 arg1 harg1 arg2 harg2 x0 x1 x2) (kernelRun0_A.sl.r_106 c arg0 harg0 x0) : FVec Ideal S1x4096 .f32) (ix2 (0 : Fin 1) l) = bbox (A x0) (G x1) C ⟨8192 + l.val, by omega⟩ 6 := by
  unfold kernelRun0_A.sl.r_106
  simp only [View.readAt_eq_ld, Memref.IsWhole.read_unread]
  unfold_payloads
  pointwise
  simp only [row2_6 c arg0 harg0 arg1 harg1 arg2 harg2 x0 hf, flag2 c arg0 harg0 arg1 harg1 arg2 harg2 x0 hf]
  rfl

variable {x1 x2} in
/-- Offset 0 of an anchor of the fourth block. -/
theorem box3_0 {C : Fin 128 → BitVec 32} (hf : Fed x1 x2 C) (l : Fin 4096) :
    (k0_pay217 (kernelRun0_A.sl.r_109 c arg0 harg0 arg1 harg1 arg2 harg2 x0 x1 x2) (kernelRun0_A.sl.r_117 c arg0 harg0 arg1 harg1 arg2 harg2 x0 x1 x2) (kernelRun0_A.sl.r_118 c arg0 harg0 x0) (View.readAt (Elt Ideal) arg0.view (Rect.unit (s := S7x20000) ![3, 12288] S1x4096.size inb_S7x20000_S1x4096_3_12288).toLoadRect (harg0.unread x0)) (View.readAt (Elt Ideal) arg0.view (Rect.unit (s := S7x20000) ![4, 12288] S1x4096.size inb_S7x20000_S1x4096_4_12288).toLoadRect (harg0.unread x0)) : FVec Ideal S1x4096 .f32) (ix2 (0 : Fin 1) l) = bbox (A x0) (G x1) C ⟨12288 + l.val, by omega⟩ 0 := by
  unfold kernelRun0_A.sl.r_118
  simp only [View.readAt_eq_ld, Memref.IsWhole.read_unread]
  unfold_payloads
  pointwise
  simp only [row3_0 c arg0 harg0 arg1 harg1 arg2 harg2 x0 hf, flag3 c arg0 harg0 arg1 harg1 arg2 harg2 x0 hf]
  first | rfl | exact swap _ _ _ _

variable {x1 x2} in
/-- Offset 1 of an anchor of the fourth block. -/
theorem box3_1 {C : Fin 128 → BitVec 32} (hf : Fed x1 x2 C) (l : Fin 4096) :
    (k0_pay218 (kernelRun0_A.sl.r_110 c arg0 harg0 arg1 harg1 arg2 harg2 x0 x1 x2) (kernelRun0_A.sl.r_117 c arg0 harg0 arg1 harg1 arg2 harg2 x0 x1 x2) (View.readAt (Elt Ideal) arg0.view (Rect.unit (s := S7x20000) ![1, 12288] S1x4096.size inb_S7x20000_S1x4096_1_12288).toLoadRect (harg0.unread x0)) (View.readAt (Elt Ideal) arg0.view (Rect.unit (s := S7x20000) ![3, 12288] S1x4096.size inb_S7x20000_S1x4096_3_12288).toLoadRect (harg0.unread x0)) (View.readAt (Elt Ideal) arg0.view (Rect.unit (s := S7x20000) ![4, 12288] S1x4096.size inb_S7x20000_S1x4096_4_12288).toLoadRect (harg0.unread x0)) : FVec Ideal S1x4096 .f32) (ix2 (0 : Fin 1) l) = bbox (A x0) (G x1) C ⟨12288 + l.val, by omega⟩ 1 := by
  simp only [View.readAt_eq_ld, Memref.IsWhole.read_unread]
  unfold_payloads
  pointwise
  simp only [row3_1 c arg0 harg0 arg1 harg1 arg2 harg2 x0 hf, flag3 c arg0 harg0 arg1 harg1 arg2 harg2 x0 hf]
  first | rfl | exact swap _ _ _ _

variable {x1 x2} in
/-- Offset 2 of an anchor of the fourth block. -/
theorem box3_2 {C : Fin 128 → BitVec 32} (hf : Fed x1 x2 C) (l : Fin 4096) :
    (k0_pay219 (kernelRun0_A.sl.r_111 c arg0 harg0 arg1 harg1 arg2 harg2 x0 x1 x2) (kernelRun0_A.sl.r_117 c arg0 harg0 arg1 harg1 arg2 harg2 x0 x1 x2) (View.readAt (Elt Ideal) arg0.view (Rect.unit (s := S7x20000) ![2, 12288] S1x4096.size inb_S7x20000_S1x4096_2_12288).toLoadRect (harg0.unread x0)) (View.readAt (Elt Ideal) arg0.view (Rect.unit (s := S7x20000) ![5, 12288] S1x4096.size inb_S7x20000_S1x4096_5_12288).toLoadRect (harg0.unread x0)) : FVec Ideal S1x4096 .f32) (ix2 (0 : Fin 1) l) = bbox (A x0) (G x1) C ⟨12288 + l.val, by omega⟩ 2 := by
  simp only [View.readAt_eq_ld, Memref.IsWhole.read_unread]
  unfold_payloads
  pointwise
  simp only [row3_2 c arg0 harg0 arg1 harg1 arg2 harg2 x0 hf, flag3 c arg0 harg0 arg1 harg1 arg2 harg2 x0 hf]
  rfl

variable {x1 x2} in
/-- Offset 3 of an anchor of the fourth block. -/
theorem box3_3 {C : Fin 128 → BitVec 32} (hf : Fed x1 x2 C) (l : Fin 4096) :
    (k0_pay220 (kernelRun0_A.sl.r_112 c arg0 harg0 arg1 harg1 arg2 harg2 x0 x1 x2) (kernelRun0_A.sl.r_117 c arg0 harg0 arg1 harg1 arg2 harg2 x0 x1 x2) (View.readAt (Elt Ideal) arg0.view (Rect.unit (s := S7x20000) ![3, 12288] S1x4096.size inb_S7x20000_S1x4096_3_12288).toLoadRect (harg0.unread x0)) : FVec Ideal S1x4096 .f32) (ix2 (0 : Fin 1) l) = bbox (A x0) (G x1) C ⟨12288 + l.val, by omega⟩ 3 := by
  simp only [View.readAt_eq_ld, Memref.IsWhole.read_unread]
  unfold_payloads
  pointwise
  simp only [row3_3 c arg0 harg0 arg1 harg1 arg2 harg2 x0 hf, flag3 c arg0 harg0 arg1 harg1 arg2 harg2 x0 hf]
  rfl

variable {x1 x2} in
/-- Offset 4 of an anchor of the fourth block. -/
theorem box3_4 {C : Fin 128 → BitVec 32} (hf : Fed x1 x2 C) (l : Fin 4096) :
    (kernelRun0_A.sl.r_121 c arg0 harg0 arg1 harg1 arg2 harg2 x0 x1 x2 : FVec Ideal S1x4096 .f32) (ix2 (0 : Fin 1) l) = bbox (A x0) (G x1) C ⟨12288 + l.val, by omega⟩ 4 := by
  unfold kernelRun0_A.sl.r_121
  simp only [View.readAt_eq_ld, Memref.IsWhole.read_unread]
  unfold_payloads
  pointwise
  simp only [row3_4 c arg0 harg0 arg1 harg1 arg2 harg2 x0 hf, flag3 c arg0 harg0 arg1 harg1 arg2 harg2 x0 hf]
  rfl

variable {x1 x2} in
/-- Offset 5 of an anchor of the fourth block. -/
theorem box3_5 {C : Fin 128 → BitVec 32} (hf : Fed x1 x2 C) (l : Fin 4096) :
    (k0_pay222 (kernelRun0_A.sl.r_114 c arg0 harg0 arg1 harg1 arg2 harg2 x0 x1 x2) (kernelRun0_A.sl.r_117 c arg0 harg0 arg1 harg1 arg2 harg2 x0 x1 x2) (kernelRun0_A.sl.r_119 c arg0 harg0 x0) : FVec Ideal S1x4096 .f32) (ix2 (0 : Fin 1) l) = bbox (A x0) (G x1) C ⟨12288 + l.val, by omega⟩ 5 := by
  unfold kernelRun0_A.sl.r_119
  simp only [View.readAt_eq_ld, Memref.IsWhole.read_unread]
  unfold_payloads
  pointwise
  simp only [row3_5 c arg0 harg0 arg1 harg1 arg2 harg2 x0 hf, flag3 c arg0 harg0 arg1 harg1 arg2 harg2 x0 hf]
  rfl

variable {x1 x2} in
/-- Offset 6 of an anchor of the fourth block. -/
theorem box3_6 {C : Fin 128 → BitVec 32} (hf : Fed x1 x2 C) (l : Fin 4096) :
    (k0_pay223 (kernelRun0_A.sl.r_115 c arg0 harg0 arg1 harg1 arg2 harg2 x0 x1 x2) (kernelRun0_A.sl.r_117 c arg0 harg0 arg1 harg1 arg2 harg2 x0 x1 x2) (kernelRun0_A.sl.r_120 c arg0 harg0 x0) : FVec Ideal S1x4096 .f32) (ix2 (0 : Fin 1) l) = bbox (A x0) (G x1) C ⟨12288 + l.val, by omega⟩ 6 := by
  unfold kernelRun0_A.sl.r_120
  simp only [View.readAt_eq_ld, Memref.IsWhole.read_unread]
  unfold_payloads
  pointwise
  simp only [row3_6 c arg0 harg0 arg1 harg1 arg2 harg2 x0 hf, flag3 c arg0 harg0 arg1 harg1 arg2 harg2 x0 hf]
  rfl

variable {x1 x2} in
/-- Offset 0 of an anchor of the fifth block. -/
theorem box4_0 {C : Fin 128 → BitVec 32} (hf : Fed x1 x2 C) (l : Fin 3616) :
    (kernelRun0_A.sl.r_140 c arg0 harg0 arg1 harg1 arg2 harg2 x0 x1 x2 : FVec Ideal S1x3616 .f32) (ix2 (0 : Fin 1) l) = bbox (A x0) (G x1) C ⟨16384 + l.val, by omega⟩ 0 := by
  unfold kernelRun0_A.sl.r_140
  have hg := flag4 c arg0 harg0 arg1 harg1 arg2 harg2 x0 hf l
  unfold kernelRun0_A.sl.r_132 at hg
  unfold k0_pay243
  generalize k0_pay235 (kernelRun0_A.sl.r_56 (F := Ideal) c arg0 harg0 arg1 harg1 x0 x1) (kernelRun0_A.sl.r_122 (F := Ideal) c arg0 harg0 arg1 harg1 x0 x1) (kernelRun0_A.sl.r_123 (F := Ideal) c arg0 harg0 arg1 harg1 arg2 harg2 x0 x1 x2) = Q at hg ⊢
  simp only [View.readAt_eq_ld, Memref.IsWhole.read_unread]
  unfold_payloads
  pointwise
  simp only [row4_0 c arg0 harg0 arg1 harg1 arg2 harg2 x0 hf, flag4 c arg0 harg0 arg1 harg1 arg2 harg2 x0 hf, hg]
  first | rfl | exact swap _ _ _ _

variable {x1 x2} in
/-- Offset 1 of an anchor of the fifth block. -/
theorem box4_1 {C : Fin 128 → BitVec 32} (hf : Fed x1 x2 C) (l : Fin 3616) :
    (k0_pay244 (kernelRun0_A.sl.r_125 c arg0 harg0 arg1 harg1 arg2 harg2 x0 x1 x2) (kernelRun0_A.sl.r_132 c arg0 harg0 arg1 harg1 arg2 harg2 x0 x1 x2) (kernelRun0_A.sl.r_133 c arg0 harg0 x0) (kernelRun0_A.sl.r_139 c arg0 harg0 x0) : FVec Ideal S1x3616 .f32) (ix2 (0 : Fin 1) l) = bbox (A x0) (G x1) C ⟨16384 + l.val, by omega⟩ 1 := by
  unfold kernelRun0_A.sl.r_133 kernelRun0_A.sl.r_139
  simp only [View.readAt_eq_ld, Memref.IsWhole.read_unread]
  unfold_payloads
  pointwise
  simp only [row4_1 c arg0 harg0 arg1 harg1 arg2 harg2 x0 hf, flag4 c arg0 harg0 arg1 harg1 arg2 harg2 x0 hf]
  first | rfl | exact swap _ _ _ _

variable {x1 x2} in
/-- Offset 2 of an anchor of the fifth block. -/
theorem box4_2 {C : Fin 128 → BitVec 32} (hf : Fed x1 x2 C) (l : Fin 3616) :
    (k0_pay245 (kernelRun0_A.sl.r_126 c arg0 harg0 arg1 harg1 arg2 harg2 x0 x1 x2) (kernelRun0_A.sl.r_132 c arg0 harg0 arg1 harg1 arg2 harg2 x0 x1 x2) (kernelRun0_A.sl.r_134 c arg0 harg0 x0) (kernelRun0_A.sl.r_137 c arg0 harg0 x0) : FVec Ideal S1x3616 .f32) (ix2 (0 : Fin 1) l) = bbox (A x0) (G x1) C ⟨16384 + l.val, by omega⟩ 2 := by
  unfold kernelRun0_A.sl.r_134 kernelRun0_A.sl.r_137
  simp only [View.readAt_eq_ld, Memref.IsWhole.read_unread]
  unfold_payloads
  pointwise
  simp only [row4_2 c arg0 harg0 arg1 harg1 arg2 harg2 x0 hf, flag4 c arg0 harg0 arg1 harg1 arg2 harg2 x0 hf]
  rfl

variable {x1 x2} in
/-- Offset 3 of an anchor of the fifth block. -/
theorem box4_3 {C : Fin 128 → BitVec 32} (hf : Fed x1 x2 C) (l : Fin 3616) :
    (k0_pay246 (kernelRun0_A.sl.r_127 c arg0 harg0 arg1 harg1 arg2 harg2 x0 x1 x2) (kernelRun0_A.sl.r_132 c arg0 harg0 arg1 harg1 arg2 harg2 x0 x1 x2) (kernelRun0_A.sl.r_135 c arg0 harg0 x0) : FVec Ideal S1x3616 .f32) (ix2 (0 : Fin 1) l) = bbox (A x0) (G x1) C ⟨16384 + l.val, by omega⟩ 3 := by
  unfold kernelRun0_A.sl.r_135
  simp only [View.readAt_eq_ld, Memref.IsWhole.read_unread]
  unfold_payloads
  pointwise
  simp only [row4_3 c arg0 harg0 arg1 harg1 arg2 harg2 x0 hf, flag4 c arg0 harg0 arg1 harg1 arg2 harg2 x0 hf]
  rfl

variable {x1 x2} in
/-- Offset 4 of an anchor of the fifth block. -/
theorem box4_4 {C : Fin 128 → BitVec 32} (hf : Fed x1 x2 C) (l : Fin 3616) :
    (k0_pay247 (kernelRun0_A.sl.r_128 c arg0 harg0 arg1 harg1 arg2 harg2 x0 x1 x2) (kernelRun0_A.sl.r_132 c arg0 harg0 arg1 harg1 arg2 harg2 x0 x1 x2) (kernelRun0_A.sl.r_136 c arg0 harg0 x0) : FVec Ideal S1x3616 .f32) (ix2 (0 : Fin 1) l) = bbox (A x0) (G x1) C ⟨16384 + l.val, by omega⟩ 4 := by
  unfold kernelRun0_A.sl.r_136
  simp only [View.readAt_eq_ld, Memref.IsWhole.read_unread]
  unfold_payloads
  pointwise
  simp only [row4_4 c arg0 harg0 arg1 harg1 arg2 harg2 x0 hf, flag4 c arg0 harg0 arg1 harg1 arg2 harg2 x0 hf]
  rfl

variable {x1 x2} in
/-- Offset 5 of an anchor of the fifth block. -/
theorem box4_5 {C : Fin 128 → BitVec 32} (hf : Fed x1 x2 C) (l : Fin 3616) :
    (k0_pay248 (kernelRun0_A.sl.r_129 c arg0 harg0 arg1 harg1 arg2 harg2 x0 x1 x2) (kernelRun0_A.sl.r_132 c arg0 harg0 arg1 harg1 arg2 harg2 x0 x1 x2) (kernelRun0_A.sl.r_137 c arg0 harg0 x0) : FVec Ideal S1x3616 .f32) (ix2 (0 : Fin 1) l) = bbox (A x0) (G x1) C ⟨16384 + l.val, by omega⟩ 5 := by
  unfold kernelRun0_A.sl.r_137
  simp only [View.readAt_eq_ld, Memref.IsWhole.read_unread]
  unfold_payloads
  pointwise
  simp only [row4_5 c arg0 harg0 arg1 harg1 arg2 harg2 x0 hf, flag4 c arg0 harg0 arg1 harg1 arg2 harg2 x0 hf]
  rfl

variable {x1 x2} in
/-- Offset 6 of an anchor of the fifth block. -/
theorem box4_6 {C : Fin 128 → BitVec 32} (hf : Fed x1 x2 C) (l : Fin 3616) :
    (kernelRun0_A.sl.r_141 c arg0 harg0 arg1 harg1 arg2 harg2 x0 x1 x2 : FVec Ideal S1x3616 .f32) (ix2 (0 : Fin 1) l) = bbox (A x0) (G x1) C ⟨16384 + l.val, by omega⟩ 6 := by
  unfold kernelRun0_A.sl.r_141
  unfold kernelRun0_A.sl.r_138
  simp only [View.readAt_eq_ld, Memref.IsWhole.read_unread]
  unfold_payloads
  pointwise
  simp only [row4_6 c arg0 harg0 arg1 harg1 arg2 harg2 x0 hf, flag4 c arg0 harg0 arg1 harg1 arg2 harg2 x0 hf]
  rfl

end Cert.KRead
-- ==== Proof.KOut.lean ====
/- What the kernel's three result arrays hold: the offsets, the labels and the flags of all the anchors. -/
module

public import proofs.«01_k».proof.Proof.KBox
public import proofs.«01_k».proof.Proof.Gen.KernelIdeal.Frame
public import Idealize.ShloMosaic.Lib.Pointwise
public import Idealize.ShloMosaic.Lib.Pipeline.ReadBack
public import Idealize.ShloMosaic.Lib.Pipeline.ValueKit.Tiles

@[expose] public section

noncomputable section

namespace Cert.KRead

open Cert.Pick Cert.KScalar Cert.KernelIdeal Cert.KernelIdeal.Gen Cert.Spec
open Idealize.ShloMosaic Idealize.ShloMosaic.TcCoe

/-- An array of one row per number and one column per anchor, given by a table. -/
abbrev Rows {a : ℕ} {α : Type} (T : Fin 20000 → Fin a → α) : (⟨2, ![a, 20000]⟩ : Shape).Idx → α := fun y => T (y 1) (y 0)

/-- A strip of one row of the table is the table at the places the strip covers. -/
theorem strip {a : ℕ} {α : Type} (T : Fin 20000 → Fin a → α) (r : Fin a) (off w : ℕ)
    (inb : ∀ b, ![r.val, off] b + ![1, w] b ≤ (⟨2, ![a, 20000]⟩ : Shape).size b) (p : (⟨2, ![1, w]⟩ : Shape).Idx → α)
    (h : ∀ (l : Fin w) (i : Fin 20000), i.val = off + l.val → p (ix2 (0 : Fin 1) l) = T i r)
    (x : (Rect.unit (s := ⟨2, ![a, 20000]⟩) ![r.val, off] ![1, w] inb).shape.Idx) :
    p x = Rows T ((Rect.unit (s := ⟨2, ![a, 20000]⟩) ![r.val, off] ![1, w] inb).emb x) := by
  have hx : (x : (⟨2, ![1, w]⟩ : Shape).Idx) = ix2 (0 : Fin 1) (x 1) := by
    funext b
    match b with
    | ⟨0, _⟩ => exact Subsingleton.elim (α := Fin 1) _ _
    | ⟨1, _⟩ => rfl
  have h0 : (x 0).val = 0 := by have : (x 0).val < 1 := (x 0).isLt; omega
  refine (congrArg p hx).trans ((h (x 1) ((Rect.unit (s := ⟨2, ![a, 20000]⟩) ![r.val, off] ![1, w] inb).emb x 1) ?_).trans ?_)
  · show off + 1 * (x 1).val = off + (x 1).val
    omega
  · refine congrArg (T _) (Fin.ext ?_)
    show r.val = r.val + 1 * (x 0).val
    omega

variable (c : Dev nD) (arg0 : Memref sig .tc .vmem S7x20000 .f32) (harg0 : arg0.IsWhole)
  (arg1 : Memref sig .tc .vmem S128x7 .f32) (harg1 : arg1.IsWhole)
  (arg2 : Memref sig .tc .vmem S8x128 .f32) (harg2 : arg2.IsWhole) (x0 : Vec Ideal S7x20000 .f32) (x1 : Vec Ideal S128x7 .f32)
  (arg3 : Memref sig .tc .vmem S7x20000 .f32) (harg3 : arg3.IsWhole)
  (arg4 : Memref sig .tc .vmem S1x20000 .i32) (harg4 : arg4.IsWhole)
  (arg5 : Memref sig .tc .vmem S1x20000 .f32) (harg5 : arg5.IsWhole) (x2 : Vec Ideal S8x128 .f32)

variable {x1 x2} in
/-- The first array holds the offsets. -/
theorem out3 {C : Fin 128 → BitVec 32} (hf : Fed x1 x2 C) (k : Fin 7) (i : Fin 20000) :
    out0_A_3 (F := Ideal) c arg0 harg0 arg1 harg1 arg2 harg2 arg3 harg3 arg4 harg4 arg5 harg5 x0 x1 x2 (ix2 k i) = bbox (A x0) (G x1) C i k := by
  unfold out0_A_3
  rw [View.read_writes_junk_apply_eq_canon]
  refine View.canon_apply_of_pieces (Rows (bbox (A x0) (G x1) C)) _ (View.PiecesOf.mem ?_) _ (cover0_A_3 c arg0 harg0 arg1 harg1 arg2 harg2 arg3 harg3 arg4 harg4 arg5 harg5 x0 x1 x2 _)
  exact ⟨strip (bbox (A x0) (G x1) C) 6 16384 3616 inb_S7x20000_S1x3616_6_16384 _ fun l i hi =>
      (box4_6 c arg0 harg0 arg1 harg1 arg2 harg2 x0 hf l).trans (congrArg (fun i => (bbox (A x0) (G x1) C) i 6) (Fin.ext (by simp [hi]))),
    ⟨strip (bbox (A x0) (G x1) C) 5 16384 3616 inb_S7x20000_S1x3616_5_16384 _ fun l i hi =>
      (box4_5 c arg0 harg0 arg1 harg1 arg2 harg2 x0 hf l).trans (congrArg (fun i => (bbox (A x0) (G x1) C) i 5) (Fin.ext (by simp [hi]))),
    ⟨strip (bbox (A x0) (G x1) C) 4 16384 3616 inb_S7x20000_S1x3616_4_16384 _ fun l i hi =>
      (box4_4 c arg0 harg0 arg1 harg1 arg2 harg2 x0 hf l).trans (congrArg (fun i => (bbox (A x0) (G x1) C) i 4) (Fin.ext (by simp [hi]))),
    ⟨strip (bbox (A x0) (G x1) C) 3 16384 3616 inb_S7x20000_S1x3616_3_16384 _ fun l i hi =>
      (box4_3 c arg0 harg0 arg1 harg1 arg2 harg2 x0 hf l).trans (congrArg (fun i => (bbox (A x0) (G x1) C) i 3) (Fin.ext (by simp [hi]))),
    ⟨strip (bbox (A x0) (G x1) C) 2 16384 3616 inb_S7x20000_S1x3616_2_16384 _ fun l i hi =>
      (box4_2 c arg0 harg0 arg1 harg1 arg2 harg2 x0 hf l).trans (congrArg (fun i => (bbox (A x0) (G x1) C) i 2) (Fin.ext (by simp [hi]))),
    ⟨strip (bbox (A x0) (G x1) C) 1 16384 3616 inb_S7x20000_S1x3616_1_16384 _ fun l i hi =>
      (box4_1 c arg0 harg0 arg1 harg1 arg2 harg2 x0 hf l).trans (congrArg (fun i => (bbox (A x0) (G x1) C) i 1) (Fin.ext (by simp [hi]))),
    ⟨strip (bbox (A x0) (G x1) C) 0 16384 3616 inb_S7x20000_S1x3616_0_16384 _ fun l i hi =>
      (box4_0 c arg0 harg0 arg1 harg1 arg2 harg2 x0 hf l).trans (congrArg (fun i => (bbox (A x0) (G x1) C) i 0) (Fin.ext (by simp [hi]))),
    ⟨strip (bbox (A x0) (G x1) C) 6 12288 4096 inb_S7x20000_S1x4096_6_12288 _ fun l i hi =>
      (box3_6 c arg0 harg0 arg1 harg1 arg2 harg2 x0 hf l).trans (congrArg (fun i => (bbox (A x0) (G x1) C) i 6) (Fin.ext (by simp [hi]))),
    ⟨strip (bbox (A x0) (G x1) C) 5 12288 4096 inb_S7x20000_S1x4096_5_12288 _ fun l i hi =>
      (box3_5 c arg0 harg0 arg1 harg1 arg2 harg2 x0 hf l).trans (congrArg (fun i => (bbox (A x0) (G x1) C) i 5) (Fin.ext (by simp [hi]))),
    ⟨strip (bbox (A x0) (G x1) C) 4 12288 4096 inb_S7x20000_S1x4096_4_12288 _ fun l i hi =>
      (box3_4 c arg0 harg0 arg1 harg1 arg2 harg2 x0 hf l).trans (congrArg (fun i => (bbox (A x0) (G x1) C) i 4) (Fin.ext (by simp [hi]))),
    ⟨strip (bbox (A x0) (G x1) C) 3 12288 4096 inb_S7x20000_S1x4096_3_12288 _ fun l i hi =>
      (box3_3 c arg0 harg0 arg1 harg1 arg2 harg2 x0 hf l).trans (congrArg (fun i => (bbox (A x0) (G x1) C) i 3) (Fin.ext (by simp [hi]))),
    ⟨strip (bbox (A x0) (G x1) C) 2 12288 4096 inb_S7x20000_S1x4096_2_12288 _ fun l i hi =>
      (box3_2 c arg0 harg0 arg1 harg1 arg2 harg2 x0 hf l).trans (congrArg (fun i => (bbox (A x0) (G x1) C) i 2) (Fin.ext (by simp [hi]))),
    ⟨strip (bbox (A x0) (G x1) C) 1 12288 4096 inb_S7x20000_S1x4096_1_12288 _ fun l i hi =>
      (box3_1 c arg0 harg0 arg1 harg1 arg2 harg2 x0 hf l).trans (congrArg (fun i => (bbox (A x0) (G x1) C) i 1) (Fin.ext (by simp [hi]))),
    ⟨strip (bbox (A x0) (G x1) C) 0 12288 4096 inb_S7x20000_S1x4096_0_12288 _ fun l i hi =>
      (box3_0 c arg0 harg0 arg1 harg1 arg2 harg2 x0 hf l).trans (congrArg (fun i => (bbox (A x0) (G x1) C) i 0) (Fin.ext (by simp [hi]))),
    ⟨strip (bbox (A x0) (G x1) C) 6 8192 4096 inb_S7x20000_S1x4096_6_8192 _ fun l i hi =>
      (box2_6 c arg0 harg0 arg1 harg1 arg2 harg2 x0 hf l).trans (congrArg (fun i => (bbox (A x0) (G x1) C) i 6) (Fin.ext (by simp [hi]))),
    ⟨strip (bbox (A x0) (G x1) C) 5 8192 4096 inb_S7x20000_S1x4096_5_8192 _ fun l i hi =>
      (box2_5 c arg0 harg0 arg1 harg1 arg2 harg2 x0 hf l).trans (congrArg (fun i => (bbox (A x0) (G x1) C) i 5) (Fin.ext (by simp [hi]))),
    ⟨strip (bbox (A x0) (G x1) C) 4 8192 4096 inb_S7x20000_S1x4096_4_8192 _ fun l i hi =>
      (box2_4 c arg0 harg0 arg1 harg1 arg2 harg2 x0 hf l).trans (congrArg (fun i => (bbox (A x0) (G x1) C) i 4) (Fin.ext (by simp [hi]))),
    ⟨strip (bbox (A x0) (G x1) C) 3 8192 4096 inb_S7x20000_S1x4096_3_8192 _ fun l i hi =>
      (box2_3 c arg0 harg0 arg1 harg1 arg2 harg2 x0 hf l).trans (congrArg (fun i => (bbox (A x0) (G x1) C) i 3) (Fin.ext (by simp [hi]))),
    ⟨strip (bbox (A x0) (G x1) C) 2 8192 4096 inb_S7x20000_S1x4096_2_8192 _ fun l i hi =>
      (box2_2 c arg0 harg0 arg1 harg1 arg2 harg2 x0 hf l).trans (congrArg (fun i => (bbox (A x0) (G x1) C) i 2) (Fin.ext (by simp [hi]))),
    ⟨strip (bbox (A x0) (G x1) C) 1 8192 4096 inb_S7x20000_S1x4096_1_8192 _ fun l i hi =>
      (box2_1 c arg0 harg0 arg1 harg1 arg2 harg2 x0 hf l).trans (congrArg (fun i => (bbox (A x0) (G x1) C) i 1) (Fin.ext (by simp [hi]))),
    ⟨strip (bbox (A x0) (G x1) C) 0 8192 4096 inb_S7x20000_S1x4096_0_8192 _ fun l i hi =>
      (box2_0 c arg0 harg0 arg1 harg1 arg2 harg2 x0 hf l).trans (congrArg (fun i => (bbox (A x0) (G x1) C) i 0) (Fin.ext (by simp [hi]))),
    ⟨strip (bbox (A x0) (G x1) C) 6 4096 4096 inb_S7x20000_S1x4096_6_4096 _ fun l i hi =>
      (box1_6 c arg0 harg0 arg1 harg1 arg2 harg2 x0 hf l).trans (congrArg (fun i => (bbox (A x0) (G x1) C) i 6) (Fin.ext (by simp [hi]))),
    ⟨strip (bbox (A x0) (G x1) C) 5 4096 4096 inb_S7x20000_S1x4096_5_4096 _ fun l i hi =>
      (box1_5 c arg0 harg0 arg1 harg1 arg2 harg2 x0 hf l).trans (congrArg (fun i => (bbox (A x0) (G x1) C) i 5) (Fin.ext (by simp [hi]))),
    ⟨strip (bbox (A x0) (G x1) C) 4 4096 4096 inb_S7x20000_S1x4096_4_4096 _ fun l i hi =>
      (box1_4 c arg0 harg0 arg1 harg1 arg2 harg2 x0 hf l).trans (congrArg (fun i => (bbox (A x0) (G x1) C) i 4) (Fin.ext (by simp [hi]))),
    ⟨strip (bbox (A x0) (G x1) C) 3 4096 4096 inb_S7x20000_S1x4096_3_4096 _ fun l i hi =>
      (box1_3 c arg0 harg0 arg1 harg1 arg2 harg2 x0 hf l).trans (congrArg (fun i => (bbox (A x0) (G x1) C) i 3) (Fin.ext (by simp [hi]))),
    ⟨strip (bbox (A x0) (G x1) C) 2 4096 4096 inb_S7x20000_S1x4096_2_4096 _ fun l i hi =>
      (box1_2 c arg0 harg0 arg1 harg1 arg2 harg2 x0 hf l).trans (congrArg (fun i => (bbox (A x0) (G x1) C) i 2) (Fin.ext (by simp [hi]))),
    ⟨strip (bbox (A x0) (G x1) C) 1 4096 4096 inb_S7x20000_S1x4096_1_4096 _ fun l i hi =>
      (box1_1 c arg0 harg0 arg1 harg1 arg2 harg2 x0 hf l).trans (congrArg (fun i => (bbox (A x0) (G x1) C) i 1) (Fin.ext (by simp [hi]))),
    ⟨strip (bbox (A x0) (G x1) C) 0 4096 4096 inb_S7x20000_S1x4096_0_4096 _ fun l i hi =>
      (box1_0 c arg0 harg0 arg1 harg1 arg2 harg2 x0 hf l).trans (congrArg (fun i => (bbox (A x0) (G x1) C) i 0) (Fin.ext (by simp [hi]))),
    ⟨strip (bbox (A x0) (G x1) C) 6 0 4096 inb_S7x20000_S1x4096_6_0 _ fun l i hi =>
      (box0_6 c arg0 harg0 arg1 harg1 arg2 harg2 x0 hf l).trans (congrArg (fun i => (bbox (A x0) (G x1) C) i 6) (Fin.ext (by simp [hi]))),
    ⟨strip (bbox (A x0) (G x1) C) 5 0 4096 inb_S7x20000_S1x4096_5_0 _ fun l i hi =>
      (box0_5 c arg0 harg0 arg1 harg1 arg2 harg2 x0 hf l).trans (congrArg (fun i => (bbox (A x0) (G x1) C) i 5) (Fin.ext (by simp [hi]))),
    ⟨strip (bbox (A x0) (G x1) C) 4 0 4096 inb_S7x20000_S1x4096_4_0 _ fun l i hi =>
      (box0_4 c arg0 harg0 arg1 harg1 arg2 harg2 x0 hf l).trans (congrArg (fun i => (bbox (A x0) (G x1) C) i 4) (Fin.ext (by simp [hi]))),
    ⟨strip (bbox (A x0) (G x1) C) 3 0 4096 inb_S7x20000_S1x4096_3_0 _ fun l i hi =>
      (box0_3 c arg0 harg0 arg1 harg1 arg2 harg2 x0 hf l).trans (congrArg (fun i => (bbox (A x0) (G x1) C) i 3) (Fin.ext (by simp [hi]))),
    ⟨strip (bbox (A x0) (G x1) C) 2 0 4096 inb_S7x20000_S1x4096_2_0 _ fun l i hi =>
      (box0_2 c arg0 harg0 arg1 harg1 arg2 harg2 x0 hf l).trans (congrArg (fun i => (bbox (A x0) (G x1) C) i 2) (Fin.ext (by simp [hi]))),
    ⟨strip (bbox (A x0) (G x1) C) 1 0 4096 inb_S7x20000_S1x4096_1_0 _ fun l i hi =>
      (box0_1 c arg0 harg0 arg1 harg1 arg2 harg2 x0 hf l).trans (congrArg (fun i => (bbox (A x0) (G x1) C) i 1) (Fin.ext (by simp [hi]))),
    ⟨strip (bbox (A x0) (G x1) C) 0 0 4096 inb_S7x20000_S1x4096_0_0 _ fun l i hi =>
      (box0_0 c arg0 harg0 arg1 harg1 arg2 harg2 x0 hf l).trans (congrArg (fun i => (bbox (A x0) (G x1) C) i 0) (Fin.ext (by simp [hi]))),
    trivial⟩⟩⟩⟩⟩⟩⟩⟩⟩⟩⟩⟩⟩⟩⟩⟩⟩⟩⟩⟩⟩⟩⟩⟩⟩⟩⟩⟩⟩⟩⟩⟩⟩⟩⟩

variable {x1 x2} in
/-- The second holds the labels. -/
theorem out4 {C : Fin 128 → BitVec 32} (hf : Fed x1 x2 C) (i : Fin 20000) :
    out0_A_4 (F := Ideal) c arg0 harg0 arg1 harg1 arg2 harg2 arg3 harg3 arg4 harg4 arg5 harg5 x0 x1 x2 (ix2 (0 : Fin 1) i) = lab (A x0) (G x1) C i := by
  unfold out0_A_4
  rw [View.read_writes_junk_apply_eq_canon]
  refine View.canon_apply_of_pieces (Rows (fun i (_ : Fin 1) => lab (A x0) (G x1) C i)) _ (View.PiecesOf.mem ?_) _ (cover0_A_4 c arg0 harg0 arg1 harg1 arg2 harg2 arg3 harg3 arg4 harg4 arg5 harg5 x0 x1 x2 _)
  exact ⟨strip (fun i (_ : Fin 1) => lab (A x0) (G x1) C i) 0 16384 3616 inb_S1x20000_S1x3616_0_16384 _ fun l i hi =>
      (lab4 c arg0 harg0 arg1 harg1 arg2 harg2 x0 hf l).trans (congrArg (fun i => (fun i (_ : Fin 1) => lab (A x0) (G x1) C i) i 0) (Fin.ext (by simp [hi]))),
    ⟨strip (fun i (_ : Fin 1) => lab (A x0) (G x1) C i) 0 12288 4096 inb_S1x20000_S1x4096_0_12288 _ fun l i hi =>
      (lab3 c arg0 harg0 arg1 harg1 arg2 harg2 x0 hf l).trans (congrArg (fun i => (fun i (_ : Fin 1) => lab (A x0) (G x1) C i) i 0) (Fin.ext (by simp [hi]))),
    ⟨strip (fun i (_ : Fin 1) => lab (A x0) (G x1) C i) 0 8192 4096 inb_S1x20000_S1x4096_0_8192 _ fun l i hi =>
      (lab2 c arg0 harg0 arg1 harg1 arg2 harg2 x0 hf l).trans (congrArg (fun i => (fun i (_ : Fin 1) => lab (A x0) (G x1) C i) i 0) (Fin.ext (by simp [hi]))),
    ⟨strip (fun i (_ : Fin 1) => lab (A x0) (G x1) C i) 0 4096 4096 inb_S1x20000_S1x4096_0_4096 _ fun l i hi =>
      (lab1 c arg0 harg0 arg1 harg1 arg2 harg2 x0 hf l).trans (congrArg (fun i => (fun i (_ : Fin 1) => lab (A x0) (G x1) C i) i 0) (Fin.ext (by simp [hi]))),
    ⟨strip (fun i (_ : Fin 1) => lab (A x0) (G x1) C i) 0 0 4096 inb_S1x20000_S1x4096_0_0 _ fun l i hi =>
      (lab0 c arg0 harg0 arg1 harg1 arg2 harg2 x0 hf l).trans (congrArg (fun i => (fun i (_ : Fin 1) => lab (A x0) (G x1) C i) i 0) (Fin.ext (by simp [hi]))),
    trivial⟩⟩⟩⟩⟩

variable {x1 x2} in
/-- The third holds the flags. -/
theorem out5 {C : Fin 128 → BitVec 32} (hf : Fed x1 x2 C) (i : Fin 20000) :
    out0_A_5 (F := Ideal) c arg0 harg0 arg1 harg1 arg2 harg2 arg3 harg3 arg4 harg4 arg5 harg5 x0 x1 x2 (ix2 (0 : Fin 1) i) = flag (A x0) (G x1) C i := by
  unfold out0_A_5
  rw [View.read_writes_junk_apply_eq_canon]
  refine View.canon_apply_of_pieces (Rows (fun i (_ : Fin 1) => flag (A x0) (G x1) C i)) _ (View.PiecesOf.mem ?_) _ (cover0_A_5 c arg0 harg0 arg1 harg1 arg2 harg2 arg3 harg3 arg4 harg4 arg5 harg5 x0 x1 x2 _)
  exact ⟨strip (fun i (_ : Fin 1) => flag (A x0) (G x1) C i) 0 16384 3616 inb_S1x20000_S1x3616_0_16384 _ fun l i hi =>
      (flag4 c arg0 harg0 arg1 harg1 arg2 harg2 x0 hf l).trans (congrArg (fun i => (fun i (_ : Fin 1) => flag (A x0) (G x1) C i) i 0) (Fin.ext (by simp [hi]))),
    ⟨strip (fun i (_ : Fin 1) => flag (A x0) (G x1) C i) 0 12288 4096 inb_S1x20000_S1x4096_0_12288 _ fun l i hi =>
      (flag3 c arg0 harg0 arg1 harg1 arg2 harg2 x0 hf l).trans (congrArg (fun i => (fun i (_ : Fin 1) => flag (A x0) (G x1) C i) i 0) (Fin.ext (by simp [hi]))),
    ⟨strip (fun i (_ : Fin 1) => flag (A x0) (G x1) C i) 0 8192 4096 inb_S1x20000_S1x4096_0_8192 _ fun l i hi =>
      (flag2 c arg0 harg0 arg1 harg1 arg2 harg2 x0 hf l).trans (congrArg (fun i => (fun i (_ : Fin 1) => flag (A x0) (G x1) C i) i 0) (Fin.ext (by simp [hi]))),
    ⟨strip (fun i (_ : Fin 1) => flag (A x0) (G x1) C i) 0 4096 4096 inb_S1x20000_S1x4096_0_4096 _ fun l i hi =>
      (flag1 c arg0 harg0 arg1 harg1 arg2 harg2 x0 hf l).trans (congrArg (fun i => (fun i (_ : Fin 1) => flag (A x0) (G x1) C i) i 0) (Fin.ext (by simp [hi]))),
    ⟨strip (fun i (_ : Fin 1) => flag (A x0) (G x1) C i) 0 0 4096 inb_S1x20000_S1x4096_0_0 _ fun l i hi =>
      (flag0 c arg0 harg0 arg1 harg1 arg2 harg2 x0 hf l).trans (congrArg (fun i => (fun i (_ : Fin 1) => flag (A x0) (G x1) C i) i 0) (Fin.ext (by simp [hi]))),
    trivial⟩⟩⟩⟩⟩

end Cert.KRead
-- ==== Proof.KRun.lean ====
/- What the kernel's whole run leaves: the host's turned and stacked arrays before it, its three arrays, and the host's turned and
   flattened results after it. -/
module

public import proofs.«01_k».proof.Proof.KOut
public import Idealize.ShloMosaic.Lib.Pipeline.ValueKit.Geometry

@[expose] public section

noncomputable section

namespace Cert.KRun

open Cert.KScalar Cert.KernelIdeal Cert.KernelIdeal.Gen Cert.Spec Cert.KRead
open Idealize.ShloMosaic Idealize.ShloMosaic.TcCoe

/-- The one point of the grid of no axis. -/
abbrev t0 : Fin cfg0.N := ⟨0, by decide⟩

variable (m : (ℓ : Loc nD τ sig) → Buf (Elt Ideal) ℓ) (c : Dev nD)

/-- The anchors. -/
abbrev anc : Vec Ideal S20000x7 .f32 := m ((c : Thread nD τ).loc main_arg0)
/-- The boxes. -/
abbrev box : Vec Ideal S128x7 .f32 := m ((c : Thread nD τ).loc main_arg1)
/-- The classes. -/
abbrev cls : Vec Ideal S128 .i32 := m ((c : Thread nD τ).loc main_arg2)

/-- The windows are whole arrays: no block is off the start. -/
theorem zeros : ∀ t : Fin cfg0.N, (∀ a : Fin 2, win0_0.index t a = 0) ∧ (∀ a : Fin 2, win0_1.index t a = 0) ∧ (∀ a : Fin 2, win0_2.index t a = 0) :=
  (by decide +kernel : ∀ t : Fin grid0.N, _)

/-- Where the first argument block lies in its array. -/
theorem emb0 (y : S7x20000.Idx) : ((cfg0.win 0).blk t0).view.emb y = y := by
  have e := (zeros t0).1
  funext a; apply Fin.ext
  match a with
  | ⟨0, _⟩ => show win0_0.index t0 (0 : Fin 2) * 7 + 1 * (y 0).val = (y 0).val; rw [e]; omega
  | ⟨1, _⟩ => show win0_0.index t0 (1 : Fin 2) * 20000 + 1 * (y 1).val = (y 1).val; rw [e]; omega

/-- Where the second argument block lies in its array. -/
theorem emb1 (y : S128x7.Idx) : ((cfg0.win 1).blk t0).view.emb y = y := by
  have e := (zeros t0).2.1
  funext a; apply Fin.ext
  match a with
  | ⟨0, _⟩ => show win0_1.index t0 (0 : Fin 2) * 128 + 1 * (y 0).val = (y 0).val; rw [e]; omega
  | ⟨1, _⟩ => show win0_1.index t0 (1 : Fin 2) * 7 + 1 * (y 1).val = (y 1).val; rw [e]; omega

/-- Where the third argument block lies in its array. -/
theorem emb2 (y : S8x128.Idx) : ((cfg0.win 2).blk t0).view.emb y = y := by
  have e := (zeros t0).2.2
  funext a; apply Fin.ext
  match a with
  | ⟨0, _⟩ => show win0_2.index t0 (0 : Fin 2) * 8 + 1 * (y 0).val = (y 0).val; rw [e]; omega
  | ⟨1, _⟩ => show win0_2.index t0 (1 : Fin 2) * 128 + 1 * (y 1).val = (y 1).val; rw [e]; omega

/-- The first array the kernel reads: the anchors turned. -/
theorem v0_eq : V m c main_v0 = transpose S7x20000 [1, 0] (anc m c) transposes_S20000x7_S7x20000_1_0 := by
  show StableHlo.after (List.flatten [hostOps0]) (fun b => m (c, b)) (Proc.devRef .tc main_v0) = _
  simp only [hostOps0, List.flatten_cons, List.flatten_nil, List.append_nil, StableHlo.after_cons, StableHlo.after_nil]
  after_results_simp

/-- The third: the boxes turned with the classes under them. -/
theorem v4_eq : V m c main_v4 = concatenate S8x128 0 [⟨S7x128, transpose S7x128 [1, 0] (box m c) transposes_S128x7_S7x128_1_0⟩,
    ⟨S1x128, broadcastInDim S1x128 ![1] bcast_S128_S1x128_1 (sitofp (F := Ideal) .f32 (cls m c))⟩] concatenates_S7x128_S1x128_S8x128_d0 := by
  show StableHlo.after (List.flatten [hostOps0]) (fun b => m (c, b)) (Proc.devRef .tc main_v4) = _
  simp only [hostOps0, List.flatten_cons, List.flatten_nil, List.append_nil, StableHlo.after_cons, StableHlo.after_nil]
  after_results_simp
  refine congrArg₂ (fun a b => concatenate S8x128 0 [⟨S7x128, a⟩, ⟨S1x128, b⟩] concatenates_S7x128_S1x128_S8x128_d0) ?_ ?_
  · after_results_simp
  · after_results_simp

/-- The block of the anchors, entry by entry. -/
theorem blk0 (k : Fin 7) (i : Fin 20000) : iblk m c 0 t0 (ix2 k i) = anc m c (ix2 i k) := by
  show V m c main_v0 (((cfg0.win 0).blk t0).view.emb (ix2 k i)) = _
  rw [emb0, v0_eq]
  pointwise

/-- The block of the boxes, entry by entry. -/
theorem blk1 (g : Fin 128) (k : Fin 7) : iblk m c 1 t0 (ix2 g k) = box m c (ix2 g k) := by
  show V m c main_arg1 (((cfg0.win 1).blk t0).view.emb (ix2 g k)) = _
  rw [emb1, V_main_arg1]

/-- The first seven rows of the third block are the boxes, transposed. -/
theorem blk2 (k : Fin 7) (g : Fin 128) : iblk m c 2 t0 (ix2 (⟨k.val, by omega⟩ : Fin 8) g) = box m c (ix2 g k) := by
  show V m c main_v4 (((cfg0.win 2).blk t0).view.emb (ix2 _ g)) = _
  rw [emb2, v4_eq]
  fin_cases k <;> pointwise

/-- The eighth row of the third block is the classes as numbers. -/
theorem blk2_7 (g : Fin 128) : iblk m c 2 t0 (ix2 (7 : Fin 8) g) = (((cls m c (ix1 g)).toInt : ℝ) : EReal) := by
  show V m c main_v4 (((cfg0.win 2).blk t0).view.emb (ix2 _ g)) = _
  rw [emb2, v4_eq]
  pointwise
  rfl

/-- The boxes' numbers by row. -/
abbrev rowsG (g : Fin 128) (k : Fin 7) : EReal := box m c (ix2 g k)
/-- The anchors' numbers by row. -/
abbrev rowsA (i : Fin 20000) (k : Fin 7) : EReal := anc m c (ix2 i k)
/-- The classes. -/
abbrev rowsC (g : Fin 128) : BitVec 32 := cls m c (ix1 g)

/-- The kernel's first array. -/
abbrev X0 : Vec Ideal S7x20000 .f32 := iblk m c 0 t0
/-- The kernel's second array. -/
abbrev X1 : Vec Ideal S128x7 .f32 := iblk m c 1 t0
/-- The kernel's third array. -/
abbrev X2 : Vec Ideal S8x128 .f32 := iblk m c 2 t0

/-- No box number plus infinity: the third array is as the kernel's value needs it. -/
theorem fed (h : ∀ g k, rowsG m c g k ≠ ⊤) : Fed (X1 m c) (X2 m c) (rowsC m c) where
  low k g := by
    rcases Nat.lt_or_ge k.val 7 with hk | hk
    · exact fun e => h g ⟨k.val, hk⟩ ((blk2 m c ⟨k.val, hk⟩ g).symm.trans e)
    · obtain rfl : k = 7 := Fin.ext (by have := k.isLt; simp; omega)
      exact fun e => EReal.coe_ne_top _ ((blk2_7 m c g).symm.trans e)
  box k g := (blk2 m c k g).trans (blk1 m c g k).symm
  cls g := blk2_7 m c g

/-- The one step stores the whole first result. -/
theorem whole3 : (cfg0.win 3).WholeAt t0 := by decide +kernel
/-- The one step stores the whole second result. -/
theorem whole4 : (cfg0.win 4).WholeAt t0 := by decide +kernel
/-- The one step stores the whole third result. -/
theorem whole5 : (cfg0.win 5).WholeAt t0 := by decide +kernel

/-- The anchors read from the block are the argument's. -/
theorem rows_A : A (X0 m c) = rowsA m c := funext fun i => funext fun k => blk0 m c k i
/-- The boxes read from the block are the argument's. -/
theorem rows_G : G (X1 m c) = rowsG m c := funext fun g => funext fun k => blk1 m c g k

/-- What the body leaves in the first array's buffer. -/
theorem left3 (h : ∀ g k, rowsG m c g k ≠ ⊤) (k : Fin 7) (i : Fin 20000) : (outsAt0 m c t0).1 (ix2 k i) = bbox (rowsA m c) (rowsG m c) (rowsC m c) i k := by
  have e := out3 c (ms0_0 t0) (hs0_0 t0) (ms0_1 t0) (hs0_1 t0) (ms0_2 t0) (hs0_2 t0) (X0 m c) (ms0_3 t0) (hs0_3 t0) (ms0_4 t0) (hs0_4 t0) (ms0_5 t0) (hs0_5 t0) (fed m c h) k i
  have e2 := congrArg₂ (fun a g => bbox a g (rowsC m c) i k) (rows_A m c) (rows_G m c)
  have e3 := e.trans e2
  clear e e2
  dsimp only [outsAt0]
  exact e3

/-- The first array after the run. -/
theorem end3 (h : ∀ g k, rowsG m c g k ≠ ⊤) (k : Fin 7) (i : Fin 20000) :
    (dats m 0 c).arrAt 3 cfg0.N (ix2 k i) = bbox (rowsA m c) (rowsG m c) (rowsC m c) i k :=
  ((dats m 0 c).arrAt_emb_eq_after_last 3 t0 whole3 (ix2 k i)).trans
    ((congrFun (after0_3 m c t0) (ix2 k i)).trans (left3 m c h k i))

/-- What the body leaves in the second array's buffer. -/
theorem left4 (h : ∀ g k, rowsG m c g k ≠ ⊤) (i : Fin 20000) : (outsAt0 m c t0).2.1 (ix2 (0 : Fin 1) i) = lab (rowsA m c) (rowsG m c) (rowsC m c) i := by
  have e := out4 c (ms0_0 t0) (hs0_0 t0) (ms0_1 t0) (hs0_1 t0) (ms0_2 t0) (hs0_2 t0) (X0 m c) (ms0_3 t0) (hs0_3 t0) (ms0_4 t0) (hs0_4 t0) (ms0_5 t0) (hs0_5 t0) (fed m c h) i
  have e2 := congrArg₂ (fun a g => lab a g (rowsC m c) i) (rows_A m c) (rows_G m c)
  have e3 := e.trans e2
  clear e e2
  dsimp only [outsAt0]
  exact e3

/-- The second array after the run. -/
theorem end4 (h : ∀ g k, rowsG m c g k ≠ ⊤) (i : Fin 20000) :
    (dats m 0 c).arrAt 4 cfg0.N (ix2 (0 : Fin 1) i) = lab (rowsA m c) (rowsG m c) (rowsC m c) i :=
  ((dats m 0 c).arrAt_emb_eq_after_last 4 t0 whole4 (ix2 (0 : Fin 1) i)).trans
    ((congrFun (after0_4 m c t0) (ix2 (0 : Fin 1) i)).trans (left4 m c h i))

/-- What the body leaves in the third array's buffer. -/
theorem left5 (h : ∀ g k, rowsG m c g k ≠ ⊤) (i : Fin 20000) : (outsAt0 m c t0).2.2 (ix2 (0 : Fin 1) i) = flag (rowsA m c) (rowsG m c) (rowsC m c) i := by
  have e := out5 c (ms0_0 t0) (hs0_0 t0) (ms0_1 t0) (hs0_1 t0) (ms0_2 t0) (hs0_2 t0) (X0 m c) (ms0_3 t0) (hs0_3 t0) (ms0_4 t0) (hs0_4 t0) (ms0_5 t0) (hs0_5 t0) (fed m c h) i
  have e2 := congrArg₂ (fun a g => flag a g (rowsC m c) i) (rows_A m c) (rows_G m c)
  have e3 := e.trans e2
  clear e e2
  dsimp only [outsAt0]
  exact e3

/-- The third array after the run. -/
theorem end5 (h : ∀ g k, rowsG m c g k ≠ ⊤) (i : Fin 20000) :
    (dats m 0 c).arrAt 5 cfg0.N (ix2 (0 : Fin 1) i) = flag (rowsA m c) (rowsG m c) (rowsC m c) i :=
  ((dats m 0 c).arrAt_emb_eq_after_last 5 t0 whole5 (ix2 (0 : Fin 1) i)).trans
    ((congrFun (after0_5 m c t0) (ix2 (0 : Fin 1) i)).trans (left5 m c h i))

/-- The windows' arrays are six different ones. -/
theorem arrays_differ : Function.Injective (Pipeline.arrRef spec0) := by decide

/-- The first result: the first array turned. -/
theorem res6 : Pipeline.afterTail₀ cfgs (dats m) 0 (V0 m) [hostOps1] c main_v6
    = transpose S20000x7 [1, 0] ((dats m 0 c).arrAt 3 cfg0.N : Vec Ideal S7x20000 .f32) transposes_S7x20000_S20000x7_1_0 := by
  unfold Pipeline.afterTail₀
  simp only [hostOps1, List.flatten_cons, List.flatten_nil, List.append_nil, StableHlo.after_cons, StableHlo.after_nil]
  after_results_simp
  exact congrArg (fun x => transpose S20000x7 [1, 0] x transposes_S7x20000_S20000x7_1_0)
    (Pipeline.withArrays_arr spec0 arrays_differ c (V0 m c) (fun w => (dats m 0 c).arrAt w cfg0.N) 3)

/-- The second result: the second array flattened. -/
theorem res7 : Pipeline.afterTail₀ cfgs (dats m) 0 (V0 m) [hostOps1] c main_v7
    = shapeCast S20000 ((dats m 0 c).arrAt 4 cfg0.N : Vec Ideal S1x20000 .i32) shapeCasts_S1x20000_S20000 := by
  unfold Pipeline.afterTail₀
  simp only [hostOps1, List.flatten_cons, List.flatten_nil, List.append_nil, StableHlo.after_cons, StableHlo.after_nil]
  after_results_simp
  exact congrArg (fun x => shapeCast S20000 x shapeCasts_S1x20000_S20000)
    (Pipeline.withArrays_arr spec0 arrays_differ c (V0 m c) (fun w => (dats m 0 c).arrAt w cfg0.N) 4)

/-- The third result: the third array flattened. -/
theorem res8 : Pipeline.afterTail₀ cfgs (dats m) 0 (V0 m) [hostOps1] c main_v8
    = shapeCast S20000 ((dats m 0 c).arrAt 5 cfg0.N : Vec Ideal S1x20000 .f32) shapeCasts_S1x20000_S20000 := by
  unfold Pipeline.afterTail₀
  simp only [hostOps1, List.flatten_cons, List.flatten_nil, List.append_nil, StableHlo.after_cons, StableHlo.after_nil]
  after_results_simp
  exact congrArg (fun x => shapeCast S20000 x shapeCasts_S1x20000_S20000)
    (Pipeline.withArrays_arr spec0 arrays_differ c (V0 m c) (fun w => (dats m 0 c).arrAt w cfg0.N) 5)

/-- One row flattened. -/
theorem flat {α : Type} (x : S1x20000.Idx → α) (i : Fin 20000) : shapeCast S20000 x shapeCasts_S1x20000_S20000 (ix1 i) = x (ix2 (0 : Fin 1) i) := by
  pointwise

/-- The first result's entries are the offsets. -/
theorem res6_apply (h : ∀ g k, rowsG m c g k ≠ ⊤) (i : Fin 20000) (k : Fin 7) :
    Pipeline.afterTail₀ cfgs (dats m) 0 (V0 m) [hostOps1] c main_v6 (ix2 i k) = bbox (rowsA m c) (rowsG m c) (rowsC m c) i k := by
  rw [res6, ← end3 m c h k i]
  pointwise

/-- The second result's entries are the labels. -/
theorem res7_apply (h : ∀ g k, rowsG m c g k ≠ ⊤) (i : Fin 20000) :
    Pipeline.afterTail₀ cfgs (dats m) 0 (V0 m) [hostOps1] c main_v7 (ix1 i) = lab (rowsA m c) (rowsG m c) (rowsC m c) i := by
  rw [res7, ← end4 m c h i]
  exact flat _ i

/-- The third result's entries are the flags. -/
theorem res8_apply (h : ∀ g k, rowsG m c g k ≠ ⊤) (i : Fin 20000) :
    Pipeline.afterTail₀ cfgs (dats m) 0 (V0 m) [hostOps1] c main_v8 (ix1 i) = flag (rowsA m c) (rowsG m c) (rowsC m c) i := by
  rw [res8, ← end5 m c h i]
  exact flat _ i

/-- What the whole run leaves: the three results as said, the arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = Pipeline.afterTail₀ cfgs (dats m) 0 (V0 m) [hostOps1] c main_v6
      ∧ r.2.mem ((c.tc : Thread nD τ).loc main_v7) = Pipeline.afterTail₀ cfgs (dats m) 0 (V0 m) [hostOps1] c main_v7
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v6 (Pipeline.mem_restRefs_of main_v6 (by decide) (by decide)),
      (h c).2 main_v7 (Pipeline.mem_restRefs_of main_v7 (by decide) (by decide)),
      (h c).2 main_v8 (Pipeline.mem_restRefs_of main_v8 (by decide) (by decide)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.KRun

end
-- ==== Proof.RefOps.lean ====
/- The reference's @main as a list of its 305 host operations, the facts its run asks of that list, and the names
   of the intermediate values that the results are stated over. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v50`, named. It packs its operands into a list of dependent pairs
    whose shapes a later argument's type mentions, so `simp` cannot rewrite an operand where it stands; applied by
    name, the operands are plain arguments, which the window lemmas below rewrite before the name unfolds. -/
def fn_main_v50 : (⟨S20000x2, .f32⟩ : BufTy).Contents (Elt F) → (⟨S20000x2, .f32⟩ : BufTy).Contents (Elt F) → (⟨S20000x4, .f32⟩ : BufTy).Contents (Elt F) :=
  (fun a b => concatenate S20000x4 1 [⟨S20000x2, a⟩, ⟨S20000x2, b⟩] concatenates_S20000x2_S20000x2_S20000x4_d1)

/-- The function of the operation that writes `main_v87`, named. It packs its operands into a list of dependent pairs
    whose shapes a later argument's type mentions, so `simp` cannot rewrite an operand where it stands; applied by
    name, the operands are plain arguments, which the window lemmas below rewrite before the name unfolds. -/
def fn_main_v87 : (⟨S128x2, .f32⟩ : BufTy).Contents (Elt F) → (⟨S128x2, .f32⟩ : BufTy).Contents (Elt F) → (⟨S128x4, .f32⟩ : BufTy).Contents (Elt F) :=
  (fun a b => concatenate S128x4 1 [⟨S128x2, a⟩, ⟨S128x2, b⟩] concatenates_S128x2_S128x2_S128x4_d1)

/-- The function of the operation that writes `main_v199`, named. It packs its operands into a list of dependent pairs
    whose shapes a later argument's type mentions, so `simp` cannot rewrite an operand where it stands; applied by
    name, the operands are plain arguments, which the window lemmas below rewrite before the name unfolds. -/
def fn_main_v199 : (main_v187 : Ref sig .tc).ty.Contents (Elt F) → (main_v189 : Ref sig .tc).ty.Contents (Elt F) → (main_v191 : Ref sig .tc).ty.Contents (Elt F) → (main_v193 : Ref sig .tc).ty.Contents (Elt F) → (main_v195 : Ref sig .tc).ty.Contents (Elt F) → (main_v197 : Ref sig .tc).ty.Contents (Elt F) → (main_v198 : Ref sig .tc).ty.Contents (Elt F) → (main_v199 : Ref sig .tc).ty.Contents (Elt F) :=
  (fun u0 u1 u2 u3 u4 u5 u6 => (concatenate S20000x7 1 [⟨S20000x1, (u0 : (⟨S20000x1, .f32⟩ : BufTy).Contents (Elt F))⟩, ⟨S20000x1, (u1 : (⟨S20000x1, .f32⟩ : BufTy).Contents (Elt F))⟩, ⟨S20000x1, (u2 : (⟨S20000x1, .f32⟩ : BufTy).Contents (Elt F))⟩, ⟨S20000x1, (u3 : (⟨S20000x1, .f32⟩ : BufTy).Contents (Elt F))⟩, ⟨S20000x1, (u4 : (⟨S20000x1, .f32⟩ : BufTy).Contents (Elt F))⟩, ⟨S20000x1, (u5 : (⟨S20000x1, .f32⟩ : BufTy).Contents (Elt F))⟩, ⟨S20000x1, (u6 : (⟨S20000x1, .f32⟩ : BufTy).Contents (Elt F))⟩] concatenates_S20000x1_S20000x1_S20000x1_S20000x1_S20000x1_S20000x1_S20000x1_S20000x7_d1 : (⟨S20000x7, .f32⟩ : BufTy).Contents (Elt F)))

/-- @main's operations 1 … 60 of 305 (window `main_part0`). -/
abbrev ops_part0 : List (HloOp τ sig (Elt F)) :=
  [ nullary main_c (fun i => lit0 (S5.rowMajor i)),
    nullary main_c_0 (fun i => lit1 (S5.rowMajor i)),
    nullary main_c_1 (fun i => lit2 (S2.rowMajor i)),
    nullary main_c_2 (fun i => lit3 (S2.rowMajor i)),
    nullary main_c_3 (fun i => lit4 (S2.rowMajor i)),
    nullary main_c_4 (fun i => lit5 (S2.rowMajor i)),
    nullary main_c_5 (constantI S_ 32 0#32),
    unary main_c_5 main_v0 (broadcastInDim S5 ![] bcast_S_S5 : (⟨S_, .i32⟩ : BufTy).Contents (Elt F) → (⟨S5, .i32⟩ : BufTy).Contents (Elt F)),
    binary main_c main_v0 main_v1 (cmpi .slt : (⟨S5, .i32⟩ : BufTy).Contents (Elt F) → (⟨S5, .i32⟩ : BufTy).Contents (Elt F) → (⟨S5, .i1⟩ : BufTy).Contents (Elt F)),
    nullary main_c_6 (constantI S_ 32 7#32),
    unary main_c_6 main_v2 (broadcastInDim S5 ![] bcast_S_S5 : (⟨S_, .i32⟩ : BufTy).Contents (Elt F) → (⟨S5, .i32⟩ : BufTy).Contents (Elt F)),
    binary main_c main_v2 main_v3 (addi : (⟨S5, .i32⟩ : BufTy).Contents (Elt F) → (⟨S5, .i32⟩ : BufTy).Contents (Elt F) → (⟨S5, .i32⟩ : BufTy).Contents (Elt F)),
    ternary main_v1 main_v3 main_c main_v4 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v4 main_v5 (broadcastInDim S5x1 ![0] bcast_S5_S5x1_0 : (⟨S5, .i32⟩ : BufTy).Contents (Elt F) → (⟨S5x1, .i32⟩ : BufTy).Contents (Elt F)),
    binary main_arg0 main_v5 main_v6 ((fun x i => Host.gather gather_S20000x7_S5x1_S20000x5_0_1_n_n_1_1_200001 x i) : (⟨S20000x7, .f32⟩ : BufTy).Contents (Elt F) → (⟨S5x1, .i32⟩ : BufTy).Contents (Elt F) → (⟨S20000x5, .f32⟩ : BufTy).Contents (Elt F)),
    nullary main_c_7 (constantI S_ 32 0#32),
    unary main_c_7 main_v7 (broadcastInDim S5 ![] bcast_S_S5 : (⟨S_, .i32⟩ : BufTy).Contents (Elt F) → (⟨S5, .i32⟩ : BufTy).Contents (Elt F)),
    binary main_c_0 main_v7 main_v8 (cmpi .slt : (⟨S5, .i32⟩ : BufTy).Contents (Elt F) → (⟨S5, .i32⟩ : BufTy).Contents (Elt F) → (⟨S5, .i1⟩ : BufTy).Contents (Elt F)),
    nullary main_c_8 (constantI S_ 32 7#32),
    unary main_c_8 main_v9 (broadcastInDim S5 ![] bcast_S_S5 : (⟨S_, .i32⟩ : BufTy).Contents (Elt F) → (⟨S5, .i32⟩ : BufTy).Contents (Elt F)),
    binary main_c_0 main_v9 main_v10 (addi : (⟨S5, .i32⟩ : BufTy).Contents (Elt F) → (⟨S5, .i32⟩ : BufTy).Contents (Elt F) → (⟨S5, .i32⟩ : BufTy).Contents (Elt F)),
    ternary main_v8 main_v10 main_c_0 main_v11 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v11 main_v12 (broadcastInDim S5x1 ![0] bcast_S5_S5x1_0 : (⟨S5, .i32⟩ : BufTy).Contents (Elt F) → (⟨S5x1, .i32⟩ : BufTy).Contents (Elt F)),
    binary main_arg1 main_v12 main_v13 ((fun x i => Host.gather gather_S128x7_S5x1_S128x5_0_1_n_n_1_1_1281 x i) : (⟨S128x7, .f32⟩ : BufTy).Contents (Elt F) → (⟨S5x1, .i32⟩ : BufTy).Contents (Elt F) → (⟨S128x5, .f32⟩ : BufTy).Contents (Elt F)),
    unary main_v6 main_v14 ((extractStridedSlice S20000x1 ![0, 4] · slices_S20000x5_S20000x1_0_4) : (⟨S20000x5, .f32⟩ : BufTy).Contents (Elt F) → (⟨S20000x1, .f32⟩ : BufTy).Contents (Elt F)),
    reshape main_v14 main_v15 (rfl : (.f32 : EltTy) = .f32) shapeCasts_S20000x1_S20000,
    nullary main_cst (constant S_ .f32 0x40490FDB#32),
    unary main_cst main_v16 (broadcastInDim S20000 ![] bcast_S_S20000 : (⟨S_, .f32⟩ : BufTy).Contents (Elt F) → (⟨S20000, .f32⟩ : BufTy).Contents (Elt F)),
    binary main_v15 main_v16 main_v17 (Host.divf : (⟨S20000, .f32⟩ : BufTy).Contents (Elt F) → (⟨S20000, .f32⟩ : BufTy).Contents (Elt F) → (⟨S20000, .f32⟩ : BufTy).Contents (Elt F)),
    nullary main_cst_9 (constant S_ .f32 0x3F000000#32),
    unary main_cst_9 main_v18 (broadcastInDim S20000 ![] bcast_S_S20000 : (⟨S_, .f32⟩ : BufTy).Contents (Elt F) → (⟨S20000, .f32⟩ : BufTy).Contents (Elt F)),
    binary main_v17 main_v18 main_v19 (addf : (⟨S20000, .f32⟩ : BufTy).Contents (Elt F) → (⟨S20000, .f32⟩ : BufTy).Contents (Elt F) → (⟨S20000, .f32⟩ : BufTy).Contents (Elt F)),
    unary main_v19 main_v20 (Host.floor : (⟨S20000, .f32⟩ : BufTy).Contents (Elt F) → (⟨S20000, .f32⟩ : BufTy).Contents (Elt F)),
    nullary main_cst_10 (constant S_ .f32 0x40490FDB#32),
    unary main_cst_10 main_v21 (broadcastInDim S20000 ![] bcast_S_S20000 : (⟨S_, .f32⟩ : BufTy).Contents (Elt F) → (⟨S20000, .f32⟩ : BufTy).Contents (Elt F)),
    binary main_v20 main_v21 main_v22 (mulf : (⟨S20000, .f32⟩ : BufTy).Contents (Elt F) → (⟨S20000, .f32⟩ : BufTy).Contents (Elt F) → (⟨S20000, .f32⟩ : BufTy).Contents (Elt F)),
    binary main_v15 main_v22 main_v23 (subf : (⟨S20000, .f32⟩ : BufTy).Contents (Elt F) → (⟨S20000, .f32⟩ : BufTy).Contents (Elt F) → (⟨S20000, .f32⟩ : BufTy).Contents (Elt F)),
    unary main_v23 main_v24 (Host.absf : (⟨S20000, .f32⟩ : BufTy).Contents (Elt F) → (⟨S20000, .f32⟩ : BufTy).Contents (Elt F)),
    nullary main_cst_11 (constant S_ .f32 0x3F490FDB#32),
    unary main_cst_11 main_v25 (broadcastInDim S20000 ![] bcast_S_S20000 : (⟨S_, .f32⟩ : BufTy).Contents (Elt F) → (⟨S20000, .f32⟩ : BufTy).Contents (Elt F)),
    binary main_v24 main_v25 main_v26 (cmpf .ogt : (⟨S20000, .f32⟩ : BufTy).Contents (Elt F) → (⟨S20000, .f32⟩ : BufTy).Contents (Elt F) → (⟨S20000, .i1⟩ : BufTy).Contents (Elt F)),
    unary main_v26 main_v27 (broadcastInDim S20000x1 ![0] bcast_S20000_S20000x1_0 : (⟨S20000, .i1⟩ : BufTy).Contents (Elt F) → (⟨S20000x1, .i1⟩ : BufTy).Contents (Elt F)),
    unary main_v6 main_v28 ((extractStridedSlice S20000x2 ![0, 0] · slices_S20000x5_S20000x2_0_0) : (⟨S20000x5, .f32⟩ : BufTy).Contents (Elt F) → (⟨S20000x2, .f32⟩ : BufTy).Contents (Elt F)),
    nullary main_c_12 (constantI S_ 32 0#32),
    unary main_c_12 main_v29 (broadcastInDim S2 ![] bcast_S_S2 : (⟨S_, .i32⟩ : BufTy).Contents (Elt F) → (⟨S2, .i32⟩ : BufTy).Contents (Elt F)),
    binary main_c_1 main_v29 main_v30 (cmpi .slt : (⟨S2, .i32⟩ : BufTy).Contents (Elt F) → (⟨S2, .i32⟩ : BufTy).Contents (Elt F) → (⟨S2, .i1⟩ : BufTy).Contents (Elt F)),
    nullary main_c_13 (constantI S_ 32 5#32),
    unary main_c_13 main_v31 (broadcastInDim S2 ![] bcast_S_S2 : (⟨S_, .i32⟩ : BufTy).Contents (Elt F) → (⟨S2, .i32⟩ : BufTy).Contents (Elt F)),
    binary main_c_1 main_v31 main_v32 (addi : (⟨S2, .i32⟩ : BufTy).Contents (Elt F) → (⟨S2, .i32⟩ : BufTy).Contents (Elt F) → (⟨S2, .i32⟩ : BufTy).Contents (Elt F)),
    ternary main_v30 main_v32 main_c_1 main_v33 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v33 main_v34 (broadcastInDim S2x1 ![0] bcast_S2_S2x1_0 : (⟨S2, .i32⟩ : BufTy).Contents (Elt F) → (⟨S2x1, .i32⟩ : BufTy).Contents (Elt F)),
    binary main_v6 main_v34 main_v35 ((fun x i => Host.gather gather_S20000x5_S2x1_S20000x2_0_1_n_n_1_1_200001 x i) : (⟨S20000x5, .f32⟩ : BufTy).Contents (Elt F) → (⟨S2x1, .i32⟩ : BufTy).Contents (Elt F) → (⟨S20000x2, .f32⟩ : BufTy).Contents (Elt F)),
    nullary main_c_14 (constantI S_ 32 0#32),
    unary main_c_14 main_v36 (broadcastInDim S2 ![] bcast_S_S2 : (⟨S_, .i32⟩ : BufTy).Contents (Elt F) → (⟨S2, .i32⟩ : BufTy).Contents (Elt F)),
    binary main_c_2 main_v36 main_v37 (cmpi .slt : (⟨S2, .i32⟩ : BufTy).Contents (Elt F) → (⟨S2, .i32⟩ : BufTy).Contents (Elt F) → (⟨S2, .i1⟩ : BufTy).Contents (Elt F)),
    nullary main_c_15 (constantI S_ 32 5#32),
    unary main_c_15 main_v38 (broadcastInDim S2 ![] bcast_S_S2 : (⟨S_, .i32⟩ : BufTy).Contents (Elt F) → (⟨S2, .i32⟩ : BufTy).Contents (Elt F)),
    binary main_c_2 main_v38 main_v39 (addi : (⟨S2, .i32⟩ : BufTy).Contents (Elt F) → (⟨S2, .i32⟩ : BufTy).Contents (Elt F) → (⟨S2, .i32⟩ : BufTy).Contents (Elt F)),
    ternary main_v37 main_v39 main_c_2 main_v40 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v40 main_v41 (broadcastInDim S2x1 ![0] bcast_S2_S2x1_0 : (⟨S2, .i32⟩ : BufTy).Contents (Elt F) → (⟨S2x1, .i32⟩ : BufTy).Contents (Elt F)) ]

/-- @main's operations 61 … 90 of 305 (window `main_part1`). -/
abbrev ops_part1_0 : List (HloOp τ sig (Elt F)) :=
  [ binary main_v6 main_v41 main_v42 ((fun x i => Host.gather gather_S20000x5_S2x1_S20000x2_0_1_n_n_1_1_200001 x i) : (⟨S20000x5, .f32⟩ : BufTy).Contents (Elt F) → (⟨S2x1, .i32⟩ : BufTy).Contents (Elt F) → (⟨S20000x2, .f32⟩ : BufTy).Contents (Elt F)),
    TRef.unary (TRef.of (T := ⟨S20000x1, .i1⟩) main_v27) (TRef.of (T := ⟨S20000x2, .i1⟩) main_call0_v0) (broadcastInDim S20000x2 ![0, 1] bcast_S20000x1_S20000x2_0_1),
    TRef.ternary (TRef.of (T := ⟨S20000x2, .i1⟩) main_call0_v0) (TRef.of (T := ⟨S20000x2, .f32⟩) main_v35) (TRef.of (T := ⟨S20000x2, .f32⟩) main_v42) (TRef.of (T := ⟨S20000x2, .f32⟩) main_v43) select,
    nullary main_cst_16 (constant S_ .f32 0x40000000#32),
    unary main_cst_16 main_v44 (broadcastInDim S20000x2 ![] bcast_S_S20000x2 : (⟨S_, .f32⟩ : BufTy).Contents (Elt F) → (⟨S20000x2, .f32⟩ : BufTy).Contents (Elt F)),
    binary main_v43 main_v44 main_v45 (Host.divf : (⟨S20000x2, .f32⟩ : BufTy).Contents (Elt F) → (⟨S20000x2, .f32⟩ : BufTy).Contents (Elt F) → (⟨S20000x2, .f32⟩ : BufTy).Contents (Elt F)),
    binary main_v28 main_v45 main_v46 (subf : (⟨S20000x2, .f32⟩ : BufTy).Contents (Elt F) → (⟨S20000x2, .f32⟩ : BufTy).Contents (Elt F) → (⟨S20000x2, .f32⟩ : BufTy).Contents (Elt F)),
    nullary main_cst_17 (constant S_ .f32 0x40000000#32),
    unary main_cst_17 main_v47 (broadcastInDim S20000x2 ![] bcast_S_S20000x2 : (⟨S_, .f32⟩ : BufTy).Contents (Elt F) → (⟨S20000x2, .f32⟩ : BufTy).Contents (Elt F)),
    binary main_v43 main_v47 main_v48 (Host.divf : (⟨S20000x2, .f32⟩ : BufTy).Contents (Elt F) → (⟨S20000x2, .f32⟩ : BufTy).Contents (Elt F) → (⟨S20000x2, .f32⟩ : BufTy).Contents (Elt F)),
    binary main_v28 main_v48 main_v49 (addf : (⟨S20000x2, .f32⟩ : BufTy).Contents (Elt F) → (⟨S20000x2, .f32⟩ : BufTy).Contents (Elt F) → (⟨S20000x2, .f32⟩ : BufTy).Contents (Elt F)),
    binary main_v46 main_v49 main_v50 (fn_main_v50 (F := F)),
    unary main_v13 main_v51 ((extractStridedSlice S128x1 ![0, 4] · slices_S128x5_S128x1_0_4) : (⟨S128x5, .f32⟩ : BufTy).Contents (Elt F) → (⟨S128x1, .f32⟩ : BufTy).Contents (Elt F)),
    reshape main_v51 main_v52 (rfl : (.f32 : EltTy) = .f32) shapeCasts_S128x1_S128,
    nullary main_cst_18 (constant S_ .f32 0x40490FDB#32),
    unary main_cst_18 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    nullary main_cst_19 (constant S_ .f32 0x3F000000#32),
    unary main_cst_19 main_v55 (broadcastInDim S128 ![] bcast_S_S128 : (⟨S_, .f32⟩ : BufTy).Contents (Elt F) → (⟨S128, .f32⟩ : BufTy).Contents (Elt F)),
    binary main_v54 main_v55 main_v56 (addf : (⟨S128, .f32⟩ : BufTy).Contents (Elt F) → (⟨S128, .f32⟩ : BufTy).Contents (Elt F) → (⟨S128, .f32⟩ : BufTy).Contents (Elt F)),
    unary main_v56 main_v57 (Host.floor : (⟨S128, .f32⟩ : BufTy).Contents (Elt F) → (⟨S128, .f32⟩ : BufTy).Contents (Elt F)),
    nullary main_cst_20 (constant S_ .f32 0x40490FDB#32),
    unary main_cst_20 main_v58 (broadcastInDim S128 ![] bcast_S_S128 : (⟨S_, .f32⟩ : BufTy).Contents (Elt F) → (⟨S128, .f32⟩ : BufTy).Contents (Elt F)),
    binary main_v57 main_v58 main_v59 (mulf : (⟨S128, .f32⟩ : BufTy).Contents (Elt F) → (⟨S128, .f32⟩ : BufTy).Contents (Elt F) → (⟨S128, .f32⟩ : BufTy).Contents (Elt F)),
    binary main_v52 main_v59 main_v60 (subf : (⟨S128, .f32⟩ : BufTy).Contents (Elt F) → (⟨S128, .f32⟩ : BufTy).Contents (Elt F) → (⟨S128, .f32⟩ : BufTy).Contents (Elt F)),
    unary main_v60 main_v61 (Host.absf : (⟨S128, .f32⟩ : BufTy).Contents (Elt F) → (⟨S128, .f32⟩ : BufTy).Contents (Elt F)),
    nullary main_cst_21 (constant S_ .f32 0x3F490FDB#32),
    unary main_cst_21 main_v62 (broadcastInDim S128 ![] bcast_S_S128 : (⟨S_, .f32⟩ : BufTy).Contents (Elt F) → (⟨S128, .f32⟩ : BufTy).Contents (Elt F)),
    binary main_v61 main_v62 main_v63 (cmpf .ogt : (⟨S128, .f32⟩ : BufTy).Contents (Elt F) → (⟨S128, .f32⟩ : BufTy).Contents (Elt F) → (⟨S128, .i1⟩ : BufTy).Contents (Elt F)),
    unary main_v63 main_v64 (broadcastInDim S128x1 ![0] bcast_S128_S128x1_0 : (⟨S128, .i1⟩ : BufTy).Contents (Elt F) → (⟨S128x1, .i1⟩ : BufTy).Contents (Elt F)) ]

/-- @main's operations 91 … 120 of 305 (window `main_part1`). -/
abbrev ops_part1_1 : List (HloOp τ sig (Elt F)) :=
  [ unary main_v13 main_v65 ((extractStridedSlice S128x2 ![0, 0] · slices_S128x5_S128x2_0_0) : (⟨S128x5, .f32⟩ : BufTy).Contents (Elt F) → (⟨S128x2, .f32⟩ : BufTy).Contents (Elt F)),
    nullary main_c_22 (constantI S_ 32 0#32),
    unary main_c_22 main_v66 (broadcastInDim S2 ![] bcast_S_S2 : (⟨S_, .i32⟩ : BufTy).Contents (Elt F) → (⟨S2, .i32⟩ : BufTy).Contents (Elt F)),
    binary main_c_3 main_v66 main_v67 (cmpi .slt : (⟨S2, .i32⟩ : BufTy).Contents (Elt F) → (⟨S2, .i32⟩ : BufTy).Contents (Elt F) → (⟨S2, .i1⟩ : BufTy).Contents (Elt F)),
    nullary main_c_23 (constantI S_ 32 5#32),
    unary main_c_23 main_v68 (broadcastInDim S2 ![] bcast_S_S2 : (⟨S_, .i32⟩ : BufTy).Contents (Elt F) → (⟨S2, .i32⟩ : BufTy).Contents (Elt F)),
    binary main_c_3 main_v68 main_v69 (addi : (⟨S2, .i32⟩ : BufTy).Contents (Elt F) → (⟨S2, .i32⟩ : BufTy).Contents (Elt F) → (⟨S2, .i32⟩ : BufTy).Contents (Elt F)),
    ternary main_v67 main_v69 main_c_3 main_v70 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v70 main_v71 (broadcastInDim S2x1 ![0] bcast_S2_S2x1_0 : (⟨S2, .i32⟩ : BufTy).Contents (Elt F) → (⟨S2x1, .i32⟩ : BufTy).Contents (Elt F)),
    binary main_v13 main_v71 main_v72 ((fun x i => Host.gather gather_S128x5_S2x1_S128x2_0_1_n_n_1_1_1281 x i) : (⟨S128x5, .f32⟩ : BufTy).Contents (Elt F) → (⟨S2x1, .i32⟩ : BufTy).Contents (Elt F) → (⟨S128x2, .f32⟩ : BufTy).Contents (Elt F)),
    nullary main_c_24 (constantI S_ 32 0#32),
    unary main_c_24 main_v73 (broadcastInDim S2 ![] bcast_S_S2 : (⟨S_, .i32⟩ : BufTy).Contents (Elt F) → (⟨S2, .i32⟩ : BufTy).Contents (Elt F)),
    binary main_c_4 main_v73 main_v74 (cmpi .slt : (⟨S2, .i32⟩ : BufTy).Contents (Elt F) → (⟨S2, .i32⟩ : BufTy).Contents (Elt F) → (⟨S2, .i1⟩ : BufTy).Contents (Elt F)),
    nullary main_c_25 (constantI S_ 32 5#32),
    unary main_c_25 main_v75 (broadcastInDim S2 ![] bcast_S_S2 : (⟨S_, .i32⟩ : BufTy).Contents (Elt F) → (⟨S2, .i32⟩ : BufTy).Contents (Elt F)),
    binary main_c_4 main_v75 main_v76 (addi : (⟨S2, .i32⟩ : BufTy).Contents (Elt F) → (⟨S2, .i32⟩ : BufTy).Contents (Elt F) → (⟨S2, .i32⟩ : BufTy).Contents (Elt F)),
    ternary main_v74 main_v76 main_c_4 main_v77 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v77 main_v78 (broadcastInDim S2x1 ![0] bcast_S2_S2x1_0 : (⟨S2, .i32⟩ : BufTy).Contents (Elt F) → (⟨S2x1, .i32⟩ : BufTy).Contents (Elt F)),
    binary main_v13 main_v78 main_v79 ((fun x i => Host.gather gather_S128x5_S2x1_S128x2_0_1_n_n_1_1_1281 x i) : (⟨S128x5, .f32⟩ : BufTy).Contents (Elt F) → (⟨S2x1, .i32⟩ : BufTy).Contents (Elt F) → (⟨S128x2, .f32⟩ : BufTy).Contents (Elt F)),
    TRef.unary (TRef.of (T := ⟨S128x1, .i1⟩) main_v64) (TRef.of (T := ⟨S128x2, .i1⟩) main_call1_v0) (broadcastInDim S128x2 ![0, 1] bcast_S128x1_S128x2_0_1),
    TRef.ternary (TRef.of (T := ⟨S128x2, .i1⟩) main_call1_v0) (TRef.of (T := ⟨S128x2, .f32⟩) main_v72) (TRef.of (T := ⟨S128x2, .f32⟩) main_v79) (TRef.of (T := ⟨S128x2, .f32⟩) main_v80) select,
    nullary main_cst_26 (constant S_ .f32 0x40000000#32),
    unary main_cst_26 main_v81 (broadcastInDim S128x2 ![] bcast_S_S128x2 : (⟨S_, .f32⟩ : BufTy).Contents (Elt F) → (⟨S128x2, .f32⟩ : BufTy).Contents (Elt F)),
    binary main_v80 main_v81 main_v82 (Host.divf : (⟨S128x2, .f32⟩ : BufTy).Contents (Elt F) → (⟨S128x2, .f32⟩ : BufTy).Contents (Elt F) → (⟨S128x2, .f32⟩ : BufTy).Contents (Elt F)),
    binary main_v65 main_v82 main_v83 (subf : (⟨S128x2, .f32⟩ : BufTy).Contents (Elt F) → (⟨S128x2, .f32⟩ : BufTy).Contents (Elt F) → (⟨S128x2, .f32⟩ : BufTy).Contents (Elt F)),
    nullary main_cst_27 (constant S_ .f32 0x40000000#32),
    unary main_cst_27 main_v84 (broadcastInDim S128x2 ![] bcast_S_S128x2 : (⟨S_, .f32⟩ : BufTy).Contents (Elt F) → (⟨S128x2, .f32⟩ : BufTy).Contents (Elt F)),
    binary main_v80 main_v84 main_v85 (Host.divf : (⟨S128x2, .f32⟩ : BufTy).Contents (Elt F) → (⟨S128x2, .f32⟩ : BufTy).Contents (Elt F) → (⟨S128x2, .f32⟩ : BufTy).Contents (Elt F)),
    binary main_v65 main_v85 main_v86 (addf : (⟨S128x2, .f32⟩ : BufTy).Contents (Elt F) → (⟨S128x2, .f32⟩ : BufTy).Contents (Elt F) → (⟨S128x2, .f32⟩ : BufTy).Contents (Elt F)),
    binary main_v83 main_v86 main_v87 (fn_main_v87 (F := F)) ]

/-- @main's operations 121 … 122 of 305 (window `main_part1`). -/
abbrev ops_part1_2 : List (HloOp τ sig (Elt F)) :=
  [ unary main_v50 main_v88 ((extractStridedSlice S20000x2 ![0, 0] · slices_S20000x4_S20000x2_0_0) : (⟨S20000x4, .f32⟩ : BufTy).Contents (Elt F) → (⟨S20000x2, .f32⟩ : BufTy).Contents (Elt F)),
    unary main_v88 main_v89 (broadcastInDim S20000x1x2 ![0, 2] bcast_S20000x2_S20000x1x2_0_2 : (⟨S20000x2, .f32⟩ : BufTy).Contents (Elt F) → (⟨S20000x1x2, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 123 … 152 of 305 (window `main_part2`). -/
abbrev ops_part2_0 : List (HloOp τ sig (Elt F)) :=
  [ unary main_v87 main_v90 ((extractStridedSlice S128x2 ![0, 0] · slices_S128x4_S128x2_0_0) : (⟨S128x4, .f32⟩ : BufTy).Contents (Elt F) → (⟨S128x2, .f32⟩ : BufTy).Contents (Elt F)),
    unary main_v90 main_v91 (broadcastInDim S1x128x2 ![1, 2] bcast_S128x2_S1x128x2_1_2 : (⟨S128x2, .f32⟩ : BufTy).Contents (Elt F) → (⟨S1x128x2, .f32⟩ : BufTy).Contents (Elt F)),
    unary main_v89 main_v92 (broadcastInDim S20000x128x2 ![0, 1, 2] bcast_S20000x1x2_S20000x128x2_0_1_2 : (⟨S20000x1x2, .f32⟩ : BufTy).Contents (Elt F) → (⟨S20000x128x2, .f32⟩ : BufTy).Contents (Elt F)),
    unary main_v91 main_v93 (broadcastInDim S20000x128x2 ![0, 1, 2] bcast_S1x128x2_S20000x128x2_0_1_2 : (⟨S1x128x2, .f32⟩ : BufTy).Contents (Elt F) → (⟨S20000x128x2, .f32⟩ : BufTy).Contents (Elt F)),
    binary main_v92 main_v93 main_v94 (maximumf : (⟨S20000x128x2, .f32⟩ : BufTy).Contents (Elt F) → (⟨S20000x128x2, .f32⟩ : BufTy).Contents (Elt F) → (⟨S20000x128x2, .f32⟩ : BufTy).Contents (Elt F)),
    unary main_v50 main_v95 ((extractStridedSlice S20000x2 ![0, 2] · slices_S20000x4_S20000x2_0_2) : (⟨S20000x4, .f32⟩ : BufTy).Contents (Elt F) → (⟨S20000x2, .f32⟩ : BufTy).Contents (Elt F)),
    unary main_v95 main_v96 (broadcastInDim S20000x1x2 ![0, 2] bcast_S20000x2_S20000x1x2_0_2 : (⟨S20000x2, .f32⟩ : BufTy).Contents (Elt F) → (⟨S20000x1x2, .f32⟩ : BufTy).Contents (Elt F)),
    unary main_v87 main_v97 ((extractStridedSlice S128x2 ![0, 2] · slices_S128x4_S128x2_0_2) : (⟨S128x4, .f32⟩ : BufTy).Contents (Elt F) → (⟨S128x2, .f32⟩ : BufTy).Contents (Elt F)),
    unary main_v97 main_v98 (broadcastInDim S1x128x2 ![1, 2] bcast_S128x2_S1x128x2_1_2 : (⟨S128x2, .f32⟩ : BufTy).Contents (Elt F) → (⟨S1x128x2, .f32⟩ : BufTy).Contents (Elt F)),
    unary main_v96 main_v99 (broadcastInDim S20000x128x2 ![0, 1, 2] bcast_S20000x1x2_S20000x128x2_0_1_2 : (⟨S20000x1x2, .f32⟩ : BufTy).Contents (Elt F) → (⟨S20000x128x2, .f32⟩ : BufTy).Contents (Elt F)),
    unary main_v98 main_v100 (broadcastInDim S20000x128x2 ![0, 1, 2] bcast_S1x128x2_S20000x128x2_0_1_2 : (⟨S1x128x2, .f32⟩ : BufTy).Contents (Elt F) → (⟨S20000x128x2, .f32⟩ : BufTy).Contents (Elt F)),
    binary main_v99 main_v100 main_v101 (minimumf : (⟨S20000x128x2, .f32⟩ : BufTy).Contents (Elt F) → (⟨S20000x128x2, .f32⟩ : BufTy).Contents (Elt F) → (⟨S20000x128x2, .f32⟩ : BufTy).Contents (Elt F)),
    binary main_v101 main_v94 main_v102 (subf : (⟨S20000x128x2, .f32⟩ : BufTy).Contents (Elt F) → (⟨S20000x128x2, .f32⟩ : BufTy).Contents (Elt F) → (⟨S20000x128x2, .f32⟩ : BufTy).Contents (Elt F)),
    nullary main_cst_28 (constant S_ .f32 0x00000000#32),
    TRef.unary (TRef.of (T := ⟨S_, .f32⟩) main_cst_28) (TRef.of (T := ⟨S_, .f32⟩) main_call2_v0) id,
    TRef.unary (TRef.of (T := ⟨S_, .f32⟩) main_call2_v0) (TRef.of (T := ⟨S20000x128x2, .f32⟩) main_call2_v1) (broadcastInDim S20000x128x2 ![] bcast_S_S20000x128x2),
    TRef.binary (TRef.of (T := ⟨S20000x128x2, .f32⟩) main_call2_v1) (TRef.of (T := ⟨S20000x128x2, .f32⟩) main_v102) (TRef.of (T := ⟨S20000x128x2, .f32⟩) main_v103) maximumf,
    unary main_v103 main_v104 ((extractStridedSlice S20000x128x1 ![0, 0, 0] · slices_S20000x128x2_S20000x128x1_0_0_0) : (⟨S20000x128x2, .f32⟩ : BufTy).Contents (Elt F) → (⟨S20000x128x1, .f32⟩ : BufTy).Contents (Elt F)),
    reshape main_v104 main_v105 (rfl : (.f32 : EltTy) = .f32) shapeCasts_S20000x128x1_S20000x128,
    unary main_v103 main_v106 ((extractStridedSlice S20000x128x1 ![0, 0, 1] · slices_S20000x128x2_S20000x128x1_0_0_1) : (⟨S20000x128x2, .f32⟩ : BufTy).Contents (Elt F) → (⟨S20000x128x1, .f32⟩ : BufTy).Contents (Elt F)),
    reshape main_v106 main_v107 (rfl : (.f32 : EltTy) = .f32) shapeCasts_S20000x128x1_S20000x128,
    binary main_v105 main_v107 main_v108 (mulf : (⟨S20000x128, .f32⟩ : BufTy).Contents (Elt F) → (⟨S20000x128, .f32⟩ : BufTy).Contents (Elt F) → (⟨S20000x128, .f32⟩ : BufTy).Contents (Elt F)),
    unary main_v50 main_v109 ((extractStridedSlice S20000x1 ![0, 2] · slices_S20000x4_S20000x1_0_2) : (⟨S20000x4, .f32⟩ : BufTy).Contents (Elt F) → (⟨S20000x1, .f32⟩ : BufTy).Contents (Elt F)),
    reshape main_v109 main_v110 (rfl : (.f32 : EltTy) = .f32) shapeCasts_S20000x1_S20000,
    unary main_v50 main_v111 ((extractStridedSlice S20000x1 ![0, 0] · slices_S20000x4_S20000x1_0_0) : (⟨S20000x4, .f32⟩ : BufTy).Contents (Elt F) → (⟨S20000x1, .f32⟩ : BufTy).Contents (Elt F)),
    reshape main_v111 main_v112 (rfl : (.f32 : EltTy) = .f32) shapeCasts_S20000x1_S20000,
    binary main_v110 main_v112 main_v113 (subf : (⟨S20000, .f32⟩ : BufTy).Contents (Elt F) → (⟨S20000, .f32⟩ : BufTy).Contents (Elt F) → (⟨S20000, .f32⟩ : BufTy).Contents (Elt F)),
    unary main_v50 main_v114 ((extractStridedSlice S20000x1 ![0, 3] · slices_S20000x4_S20000x1_0_3) : (⟨S20000x4, .f32⟩ : BufTy).Contents (Elt F) → (⟨S20000x1, .f32⟩ : BufTy).Contents (Elt F)),
    reshape main_v114 main_v115 (rfl : (.f32 : EltTy) = .f32) shapeCasts_S20000x1_S20000,
    unary main_v50 main_v116 ((extractStridedSlice S20000x1 ![0, 1] · slices_S20000x4_S20000x1_0_1) : (⟨S20000x4, .f32⟩ : BufTy).Contents (Elt F) → (⟨S20000x1, .f32⟩ : BufTy).Contents (Elt F)) ]

/-- @main's operations 153 … 182 of 305 (window `main_part2`). -/
abbrev ops_part2_1 : List (HloOp τ sig (Elt F)) :=
  [ reshape main_v116 main_v117 (rfl : (.f32 : EltTy) = .f32) shapeCasts_S20000x1_S20000,
    binary main_v115 main_v117 main_v118 (subf : (⟨S20000, .f32⟩ : BufTy).Contents (Elt F) → (⟨S20000, .f32⟩ : BufTy).Contents (Elt F) → (⟨S20000, .f32⟩ : BufTy).Contents (Elt F)),
    binary main_v113 main_v118 main_v119 (mulf : (⟨S20000, .f32⟩ : BufTy).Contents (Elt F) → (⟨S20000, .f32⟩ : BufTy).Contents (Elt F) → (⟨S20000, .f32⟩ : BufTy).Contents (Elt F)),
    unary main_v87 main_v120 ((extractStridedSlice S128x1 ![0, 2] · slices_S128x4_S128x1_0_2) : (⟨S128x4, .f32⟩ : BufTy).Contents (Elt F) → (⟨S128x1, .f32⟩ : BufTy).Contents (Elt F)),
    reshape main_v120 main_v121 (rfl : (.f32 : EltTy) = .f32) shapeCasts_S128x1_S128,
    unary main_v87 main_v122 ((extractStridedSlice S128x1 ![0, 0] · slices_S128x4_S128x1_0_0) : (⟨S128x4, .f32⟩ : BufTy).Contents (Elt F) → (⟨S128x1, .f32⟩ : BufTy).Contents (Elt F)),
    reshape main_v122 main_v123 (rfl : (.f32 : EltTy) = .f32) shapeCasts_S128x1_S128,
    binary main_v121 main_v123 main_v124 (subf : (⟨S128, .f32⟩ : BufTy).Contents (Elt F) → (⟨S128, .f32⟩ : BufTy).Contents (Elt F) → (⟨S128, .f32⟩ : BufTy).Contents (Elt F)),
    unary main_v87 main_v125 ((extractStridedSlice S128x1 ![0, 3] · slices_S128x4_S128x1_0_3) : (⟨S128x4, .f32⟩ : BufTy).Contents (Elt F) → (⟨S128x1, .f32⟩ : BufTy).Contents (Elt F)),
    reshape main_v125 main_v126 (rfl : (.f32 : EltTy) = .f32) shapeCasts_S128x1_S128,
    unary main_v87 main_v127 ((extractStridedSlice S128x1 ![0, 1] · slices_S128x4_S128x1_0_1) : (⟨S128x4, .f32⟩ : BufTy).Contents (Elt F) → (⟨S128x1, .f32⟩ : BufTy).Contents (Elt F)),
    reshape main_v127 main_v128 (rfl : (.f32 : EltTy) = .f32) shapeCasts_S128x1_S128,
    binary main_v126 main_v128 main_v129 (subf : (⟨S128, .f32⟩ : BufTy).Contents (Elt F) → (⟨S128, .f32⟩ : BufTy).Contents (Elt F) → (⟨S128, .f32⟩ : BufTy).Contents (Elt F)),
    binary main_v124 main_v129 main_v130 (mulf : (⟨S128, .f32⟩ : BufTy).Contents (Elt F) → (⟨S128, .f32⟩ : BufTy).Contents (Elt F) → (⟨S128, .f32⟩ : BufTy).Contents (Elt F)),
    unary main_v119 main_v131 (broadcastInDim S20000x1 ![0] bcast_S20000_S20000x1_0 : (⟨S20000, .f32⟩ : BufTy).Contents (Elt F) → (⟨S20000x1, .f32⟩ : BufTy).Contents (Elt F)),
    unary main_v130 main_v132 (broadcastInDim S1x128 ![1] bcast_S128_S1x128_1 : (⟨S128, .f32⟩ : BufTy).Contents (Elt F) → (⟨S1x128, .f32⟩ : BufTy).Contents (Elt F)),
    unary main_v131 main_v133 (broadcastInDim S20000x128 ![0, 1] bcast_S20000x1_S20000x128_0_1 : (⟨S20000x1, .f32⟩ : BufTy).Contents (Elt F) → (⟨S20000x128, .f32⟩ : BufTy).Contents (Elt F)),
    unary main_v132 main_v134 (broadcastInDim S20000x128 ![0, 1] bcast_S1x128_S20000x128_0_1 : (⟨S1x128, .f32⟩ : BufTy).Contents (Elt F) → (⟨S20000x128, .f32⟩ : BufTy).Contents (Elt F)),
    binary main_v133 main_v134 main_v135 (addf : (⟨S20000x128, .f32⟩ : BufTy).Contents (Elt F) → (⟨S20000x128, .f32⟩ : BufTy).Contents (Elt F) → (⟨S20000x128, .f32⟩ : BufTy).Contents (Elt F)),
    binary main_v135 main_v108 main_v136 (subf : (⟨S20000x128, .f32⟩ : BufTy).Contents (Elt F) → (⟨S20000x128, .f32⟩ : BufTy).Contents (Elt F) → (⟨S20000x128, .f32⟩ : BufTy).Contents (Elt F)),
    nullary main_cst_29 (constant S_ .f32 0x322BCC77#32),
    unary main_cst_29 main_v137 (broadcastInDim S20000x128 ![] bcast_S_S20000x128 : (⟨S_, .f32⟩ : BufTy).Contents (Elt F) → (⟨S20000x128, .f32⟩ : BufTy).Contents (Elt F)),
    binary main_v136 main_v137 main_v138 (maximumf : (⟨S20000x128, .f32⟩ : BufTy).Contents (Elt F) → (⟨S20000x128, .f32⟩ : BufTy).Contents (Elt F) → (⟨S20000x128, .f32⟩ : BufTy).Contents (Elt F)),
    binary main_v108 main_v138 main_v139 (Host.divf : (⟨S20000x128, .f32⟩ : BufTy).Contents (Elt F) → (⟨S20000x128, .f32⟩ : BufTy).Contents (Elt F) → (⟨S20000x128, .f32⟩ : BufTy).Contents (Elt F)),
    TRef.nullary (TRef.of (T := ⟨S20000x128, .i32⟩) main_call3_v0) (iotaInDim S20000x128 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S20000x128, .f32⟩) main_v139) (TRef.of (T := ⟨S20000x128, .i32⟩) main_call3_v0) (TRef.of (T := ⟨S_, .f32⟩) main_call3_cst) (TRef.of (T := ⟨S_, .i32⟩) main_call3_c) (TRef.of (T := ⟨S20000, .f32⟩) main_call3_v1_0) (fun x y u v j => (Host.argReduce reducer_argmax_f32_i32 x y u v reducesTo_S20000x128_S20000_d1 h_S_ j).1),
    TRef.quaternary (TRef.of (T := ⟨S20000x128, .f32⟩) main_v139) (TRef.of (T := ⟨S20000x128, .i32⟩) main_call3_v0) (TRef.of (T := ⟨S_, .f32⟩) main_call3_cst) (TRef.of (T := ⟨S_, .i32⟩) main_call3_c) (TRef.of (T := ⟨S20000, .i32⟩) main_v140) (fun x y u v j => (Host.argReduce reducer_argmax_f32_i32 x y u v reducesTo_S20000x128_S20000_d1 h_S_ j).2),
    nullary main_cst_30 (constant S_ .f32 0xFF800000#32) ]

/-- @main's operations 183 … 192 of 305 (window `main_part2`). -/
abbrev ops_part2_2 : List (HloOp τ sig (Elt F)) :=
  [ binary main_v139 main_cst_30 main_v141 ((fun x v => Host.reduce FloatOps.maximumf x v reducesTo_S20000x128_S20000_d1 h_S_) : (⟨S20000x128, .f32⟩ : BufTy).Contents (Elt F) → (⟨S_, .f32⟩ : BufTy).Contents (Elt F) → (⟨S20000, .f32⟩ : BufTy).Contents (Elt F)),
    TRef.nullary (TRef.of (T := ⟨S20000x128, .i32⟩) main_call4_v0) (iotaInDim S20000x128 32 0),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S20000x128, .f32⟩) main_v139) (TRef.of (T := ⟨S20000x128, .i32⟩) main_call4_v0) (TRef.of (T := ⟨S_, .f32⟩) main_call4_cst) (TRef.of (T := ⟨S_, .i32⟩) main_call4_c) (TRef.of (T := ⟨S128, .f32⟩) main_call4_v1_0) (fun x y u v j => (Host.argReduce reducer_argmax_f32_i32 x y u v reducesTo_S20000x128_S128_d0 h_S_ j).1),
    TRef.quaternary (TRef.of (T := ⟨S20000x128, .f32⟩) main_v139) (TRef.of (T := ⟨S20000x128, .i32⟩) main_call4_v0) (TRef.of (T := ⟨S_, .f32⟩) main_call4_cst) (TRef.of (T := ⟨S_, .i32⟩) main_call4_c) (TRef.of (T := ⟨S128, .i32⟩) main_v142) (fun x y u v j => (Host.argReduce reducer_argmax_f32_i32 x y u v reducesTo_S20000x128_S128_d0 h_S_ j).2),
    nullary main_cst_31 (constant S_ .f32 0x3EE66666#32),
    unary main_cst_31 main_v143 (broadcastInDim S20000 ![] bcast_S_S20000 : (⟨S_, .f32⟩ : BufTy).Contents (Elt F) → (⟨S20000, .f32⟩ : BufTy).Contents (Elt F)),
    binary main_v141 main_v143 main_v144 (cmpf .olt : (⟨S20000, .f32⟩ : BufTy).Contents (Elt F) → (⟨S20000, .f32⟩ : BufTy).Contents (Elt F) → (⟨S20000, .i1⟩ : BufTy).Contents (Elt F)),
    nullary main_c_32 (constantI S_ 32 0#32) ]

/-- Window `main_part2`'s operations. Not an abbreviation: `main_eq` below splits `ops` into the windows and no further. -/
def ops_part2 : List (HloOp τ sig (Elt F)) :=
  ops_part2_0 ++ (ops_part2_1 ++ (ops_part2_2))

/-- @main's operations 193 … 222 of 305 (window `main_part3`). -/
abbrev ops_part3_0 : List (HloOp τ sig (Elt F)) :=
  [ nullary main_c_33 (constantI S_ 32 4294967295#32),
    TRef.unary (TRef.of (T := ⟨S_, .i32⟩) main_c_32) (TRef.of (T := ⟨S20000, .i32⟩) main_call5_v0) (broadcastInDim S20000 ![] bcast_S_S20000),
    TRef.unary (TRef.of (T := ⟨S_, .i32⟩) main_c_33) (TRef.of (T := ⟨S20000, .i32⟩) main_call5_v1) (broadcastInDim S20000 ![] bcast_S_S20000),
    TRef.ternary (TRef.of (T := ⟨S20000, .i1⟩) main_v144) (TRef.of (T := ⟨S20000, .i32⟩) main_call5_v0) (TRef.of (T := ⟨S20000, .i32⟩) main_call5_v1) (TRef.of (T := ⟨S20000, .i32⟩) main_v145) select,
    nullary main_cst_34 (constant S_ .f32 0x3F19999A#32),
    unary main_cst_34 main_v146 (broadcastInDim S20000 ![] bcast_S_S20000 : (⟨S_, .f32⟩ : BufTy).Contents (Elt F) → (⟨S20000, .f32⟩ : BufTy).Contents (Elt F)),
    binary main_v141 main_v146 main_v147 (cmpf .oge : (⟨S20000, .f32⟩ : BufTy).Contents (Elt F) → (⟨S20000, .f32⟩ : BufTy).Contents (Elt F) → (⟨S20000, .i1⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S20000, .i32⟩) main_call6_v0) (broadcastInDim S20000 ![] bcast_S_S20000),
    TRef.binary (TRef.of (T := ⟨S20000, .i32⟩) main_v140) (TRef.of (T := ⟨S20000, .i32⟩) main_call6_v0) (TRef.of (T := ⟨S20000, .i1⟩) main_call6_v1) (cmpi .slt),
    TRef.nullary (TRef.of (T := ⟨S_, .i32⟩) main_call6_c_0) (constantI S_ 32 128#32),
    TRef.unary (TRef.of (T := ⟨S_, .i32⟩) main_call6_c_0) (TRef.of (T := ⟨S20000, .i32⟩) main_call6_v2) (broadcastInDim S20000 ![] bcast_S_S20000),
    TRef.binary (TRef.of (T := ⟨S20000, .i32⟩) main_v140) (TRef.of (T := ⟨S20000, .i32⟩) main_call6_v2) (TRef.of (T := ⟨S20000, .i32⟩) main_call6_v3) addi,
    TRef.ternary (TRef.of (T := ⟨S20000, .i1⟩) main_call6_v1) (TRef.of (T := ⟨S20000, .i32⟩) main_call6_v3) (TRef.of (T := ⟨S20000, .i32⟩) main_v140) (TRef.of (T := ⟨S20000, .i32⟩) main_call6_v4) select,
    TRef.unary (TRef.of (T := ⟨S20000, .i32⟩) main_call6_v4) (TRef.of (T := ⟨S20000x1, .i32⟩) main_call6_v5) (broadcastInDim S20000x1 ![0] bcast_S20000_S20000x1_0),
    TRef.nullary (TRef.of (T := ⟨S1, .i32⟩) main_call6_c_1) (constantI S1 32 127#32),
    TRef.nullary (TRef.of (T := ⟨S_, .i32⟩) main_call6_c_2) (constantI S_ 32 0#32),
    TRef.unary (TRef.of (T := ⟨S_, .i32⟩) main_call6_c_2) (TRef.of (T := ⟨S20000x1, .i32⟩) main_call6_v6) (broadcastInDim S20000x1 ![] bcast_S_S20000x1),
    TRef.binary (TRef.of (T := ⟨S20000x1, .i32⟩) main_call6_v5) (TRef.of (T := ⟨S20000x1, .i32⟩) main_call6_v6) (TRef.of (T := ⟨S20000x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S20000x1, .i32⟩) main_call6_v9) (broadcastInDim S20000x1 ![0, 1] bcast_S1x1_S20000x1_0_1),
    TRef.binary (TRef.of (T := ⟨S20000x1, .i32⟩) main_call6_v5) (TRef.of (T := ⟨S20000x1, .i32⟩) main_call6_v9) (TRef.of (T := ⟨S20000x1, .i1⟩) main_call6_v10) (cmpi .sle),
    TRef.binary (TRef.of (T := ⟨S20000x1, .i1⟩) main_call6_v7) (TRef.of (T := ⟨S20000x1, .i1⟩) main_call6_v10) (TRef.of (T := ⟨S20000x1, .i1⟩) main_call6_v11) andi,
    TRef.nullary (TRef.of (T := ⟨S_, .i1⟩) main_call6_c_3) (constantI S_ 1 1#1),
    TRef.binary (TRef.of (T := ⟨S20000x1, .i1⟩) main_call6_v11) (TRef.of (T := ⟨S_, .i1⟩) main_call6_c_3) (TRef.of (T := ⟨S20000, .i1⟩) main_call6_v12) (fun x v => Host.reduce IntOp.andi x v reducesTo_S20000x1_S20000_d1 h_S_),
    TRef.binary (TRef.of (T := ⟨S128, .i32⟩) main_arg2) (TRef.of (T := ⟨S20000x1, .i32⟩) main_call6_v5) (TRef.of (T := ⟨S20000, .i32⟩) main_call6_v13) (fun x i => Host.gather gather_S128_S20000x1_S20000_n_0_n_n_0_1_1 x i),
    TRef.nullary (TRef.of (T := ⟨S_, .i32⟩) main_call6_c_4) (constantI S_ 32 2147483648#32),
    TRef.unary (TRef.of (T := ⟨S_, .i32⟩) main_call6_c_4) (TRef.of (T := ⟨S20000, .i32⟩) main_call6_v14) (broadcastInDim S20000 ![] bcast_S_S20000),
    TRef.ternary (TRef.of (T := ⟨S20000, .i1⟩) main_call6_v12) (TRef.of (T := ⟨S20000, .i32⟩) main_call6_v13) (TRef.of (T := ⟨S20000, .i32⟩) main_call6_v14) (TRef.of (T := ⟨S20000, .i32⟩) main_v148) select,
    TRef.unary (TRef.of (T := ⟨S20000, .i32⟩) main_v145) (TRef.of (T := ⟨S20000, .i32⟩) main_call7_v0) id ]

/-- @main's operations 223 … 252 of 305 (window `main_part3`). -/
abbrev ops_part3_1 : List (HloOp τ sig (Elt F)) :=
  [ TRef.ternary (TRef.of (T := ⟨S20000, .i1⟩) main_v147) (TRef.of (T := ⟨S20000, .i32⟩) main_v148) (TRef.of (T := ⟨S20000, .i32⟩) main_call7_v0) (TRef.of (T := ⟨S20000, .i32⟩) main_v149) select,
    nullary main_c_35 (constantI S_ 32 0#32),
    unary main_c_35 main_v150 (broadcastInDim S128 ![] bcast_S_S128 : (⟨S_, .i32⟩ : BufTy).Contents (Elt F) → (⟨S128, .i32⟩ : BufTy).Contents (Elt F)),
    binary main_v142 main_v150 main_v151 (cmpi .slt : (⟨S128, .i32⟩ : BufTy).Contents (Elt F) → (⟨S128, .i32⟩ : BufTy).Contents (Elt F) → (⟨S128, .i1⟩ : BufTy).Contents (Elt F)),
    nullary main_c_36 (constantI S_ 32 20000#32),
    unary main_c_36 main_v152 (broadcastInDim S128 ![] bcast_S_S128 : (⟨S_, .i32⟩ : BufTy).Contents (Elt F) → (⟨S128, .i32⟩ : BufTy).Contents (Elt F)),
    binary main_v142 main_v152 main_v153 (addi : (⟨S128, .i32⟩ : BufTy).Contents (Elt F) → (⟨S128, .i32⟩ : BufTy).Contents (Elt F) → (⟨S128, .i32⟩ : BufTy).Contents (Elt F)),
    ternary main_v151 main_v153 main_v142 main_v154 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v154 main_v155 (broadcastInDim S128x1 ![0] bcast_S128_S128x1_0 : (⟨S128, .i32⟩ : BufTy).Contents (Elt F) → (⟨S128x1, .i32⟩ : BufTy).Contents (Elt F)),
    ternary main_v149 main_v155 main_arg2 main_v156 ((fun x i u => Host.scatter scatter_S20000_S128x1_S128_n_0_0_1 (fun _ b => b) x i u) : (⟨S20000, .i32⟩ : BufTy).Contents (Elt F) → (⟨S128x1, .i32⟩ : BufTy).Contents (Elt F) → (⟨S128, .i32⟩ : BufTy).Contents (Elt F) → (⟨S20000, .i32⟩ : BufTy).Contents (Elt F)),
    nullary main_v157 (iotaInDim S128 32 0),
    nullary main_c_37 (constantI S_ 32 0#32),
    unary main_c_37 main_v158 (broadcastInDim S128 ![] bcast_S_S128 : (⟨S_, .i32⟩ : BufTy).Contents (Elt F) → (⟨S128, .i32⟩ : BufTy).Contents (Elt F)),
    binary main_v142 main_v158 main_v159 (cmpi .slt : (⟨S128, .i32⟩ : BufTy).Contents (Elt F) → (⟨S128, .i32⟩ : BufTy).Contents (Elt F) → (⟨S128, .i1⟩ : BufTy).Contents (Elt F)),
    nullary main_c_38 (constantI S_ 32 20000#32),
    unary main_c_38 main_v160 (broadcastInDim S128 ![] bcast_S_S128 : (⟨S_, .i32⟩ : BufTy).Contents (Elt F) → (⟨S128, .i32⟩ : BufTy).Contents (Elt F)),
    binary main_v142 main_v160 main_v161 (addi : (⟨S128, .i32⟩ : BufTy).Contents (Elt F) → (⟨S128, .i32⟩ : BufTy).Contents (Elt F) → (⟨S128, .i32⟩ : BufTy).Contents (Elt F)),
    ternary main_v159 main_v161 main_v142 main_v162 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v162 main_v163 (broadcastInDim S128x1 ![0] bcast_S128_S128x1_0 : (⟨S128, .i32⟩ : BufTy).Contents (Elt F) → (⟨S128x1, .i32⟩ : BufTy).Contents (Elt F)),
    ternary main_v140 main_v163 main_v157 main_v164 ((fun x i u => Host.scatter scatter_S20000_S128x1_S128_n_0_0_1 (fun _ b => b) x i u) : (⟨S20000, .i32⟩ : BufTy).Contents (Elt F) → (⟨S128x1, .i32⟩ : BufTy).Contents (Elt F) → (⟨S128, .i32⟩ : BufTy).Contents (Elt F) → (⟨S20000, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S20000, .i32⟩) main_call8_v0) (broadcastInDim S20000 ![] bcast_S_S20000),
    TRef.binary (TRef.of (T := ⟨S20000, .i32⟩) main_v164) (TRef.of (T := ⟨S20000, .i32⟩) main_call8_v0) (TRef.of (T := ⟨S20000, .i1⟩) main_call8_v1) (cmpi .slt),
    TRef.nullary (TRef.of (T := ⟨S_, .i32⟩) main_call8_c_0) (constantI S_ 32 128#32),
    TRef.unary (TRef.of (T := ⟨S_, .i32⟩) main_call8_c_0) (TRef.of (T := ⟨S20000, .i32⟩) main_call8_v2) (broadcastInDim S20000 ![] bcast_S_S20000),
    TRef.binary (TRef.of (T := ⟨S20000, .i32⟩) main_v164) (TRef.of (T := ⟨S20000, .i32⟩) main_call8_v2) (TRef.of (T := ⟨S20000, .i32⟩) main_call8_v3) addi,
    TRef.ternary (TRef.of (T := ⟨S20000, .i1⟩) main_call8_v1) (TRef.of (T := ⟨S20000, .i32⟩) main_call8_v3) (TRef.of (T := ⟨S20000, .i32⟩) main_v164) (TRef.of (T := ⟨S20000, .i32⟩) main_call8_v4) select,
    TRef.unary (TRef.of (T := ⟨S20000, .i32⟩) main_call8_v4) (TRef.of (T := ⟨S20000x1, .i32⟩) main_call8_v5) (broadcastInDim S20000x1 ![0] bcast_S20000_S20000x1_0),
    TRef.nullary (TRef.of (T := ⟨S1, .i32⟩) main_call8_c_1) (constantI S1 32 127#32),
    TRef.nullary (TRef.of (T := ⟨S_, .i32⟩) main_call8_c_2) (constantI S_ 32 0#32) ]

/-- @main's operations 253 … 282 of 305 (window `main_part3`). -/
abbrev ops_part3_2 : List (HloOp τ sig (Elt F)) :=
  [ TRef.unary (TRef.of (T := ⟨S_, .i32⟩) main_call8_c_2) (TRef.of (T := ⟨S20000x1, .i32⟩) main_call8_v6) (broadcastInDim S20000x1 ![] bcast_S_S20000x1),
    TRef.binary (TRef.of (T := ⟨S20000x1, .i32⟩) main_call8_v5) (TRef.of (T := ⟨S20000x1, .i32⟩) main_call8_v6) (TRef.of (T := ⟨S20000x1, .i1⟩) main_call8_v7) (cmpi .sge),
    TRef.unary (TRef.of (T := ⟨S1, .i32⟩) main_call8_c_1) (TRef.of (T := ⟨S1x1, .i32⟩) main_call8_v8) (broadcastInDim S1x1 ![1] bcast_S1_S1x1_1),
    TRef.unary (TRef.of (T := ⟨S1x1, .i32⟩) main_call8_v8) (TRef.of (T := ⟨S20000x1, .i32⟩) main_call8_v9) (broadcastInDim S20000x1 ![0, 1] bcast_S1x1_S20000x1_0_1),
    TRef.binary (TRef.of (T := ⟨S20000x1, .i32⟩) main_call8_v5) (TRef.of (T := ⟨S20000x1, .i32⟩) main_call8_v9) (TRef.of (T := ⟨S20000x1, .i1⟩) main_call8_v10) (cmpi .sle),
    TRef.binary (TRef.of (T := ⟨S20000x1, .i1⟩) main_call8_v7) (TRef.of (T := ⟨S20000x1, .i1⟩) main_call8_v10) (TRef.of (T := ⟨S20000x1, .i1⟩) main_call8_v11) andi,
    TRef.nullary (TRef.of (T := ⟨S_, .i1⟩) main_call8_c_3) (constantI S_ 1 1#1),
    TRef.binary (TRef.of (T := ⟨S20000x1, .i1⟩) main_call8_v11) (TRef.of (T := ⟨S_, .i1⟩) main_call8_c_3) (TRef.of (T := ⟨S20000, .i1⟩) main_call8_v12) (fun x v => Host.reduce IntOp.andi x v reducesTo_S20000x1_S20000_d1 h_S_),
    TRef.binary (TRef.of (T := ⟨S128x7, .f32⟩) main_arg1) (TRef.of (T := ⟨S20000x1, .i32⟩) main_call8_v5) (TRef.of (T := ⟨S20000x7, .f32⟩) main_call8_v13) (fun x i => Host.gather gather_S128x7_S20000x1_S20000x7_1_0_n_n_0_1_17 x i),
    TRef.unary (TRef.of (T := ⟨S20000, .i1⟩) main_call8_v12) (TRef.of (T := ⟨S20000x7, .i1⟩) main_call8_v14) (broadcastInDim S20000x7 ![0] bcast_S20000_S20000x7_0),
    TRef.nullary (TRef.of (T := ⟨S_, .f32⟩) main_call8_cst) (constant S_ .f32 0x7FC00000#32),
    TRef.unary (TRef.of (T := ⟨S_, .f32⟩) main_call8_cst) (TRef.of (T := ⟨S20000x7, .f32⟩) main_call8_v15) (broadcastInDim S20000x7 ![] bcast_S_S20000x7),
    TRef.ternary (TRef.of (T := ⟨S20000x7, .i1⟩) main_call8_v14) (TRef.of (T := ⟨S20000x7, .f32⟩) main_call8_v13) (TRef.of (T := ⟨S20000x7, .f32⟩) main_call8_v15) (TRef.of (T := ⟨S20000x7, .f32⟩) main_v165) select,
    nullary main_c_39 (constantI S_ 32 0#32),
    unary main_c_39 main_v166 (broadcastInDim S20000 ![] bcast_S_S20000 : (⟨S_, .i32⟩ : BufTy).Contents (Elt F) → (⟨S20000, .i32⟩ : BufTy).Contents (Elt F)),
    binary main_v156 main_v166 main_v167 (cmpi .sgt : (⟨S20000, .i32⟩ : BufTy).Contents (Elt F) → (⟨S20000, .i32⟩ : BufTy).Contents (Elt F) → (⟨S20000, .i1⟩ : BufTy).Contents (Elt F)),
    unary main_arg0 main_v168 ((extractStridedSlice S20000x1 ![0, 0] · slices_S20000x7_S20000x1_0_0) : (⟨S20000x7, .f32⟩ : BufTy).Contents (Elt F) → (⟨S20000x1, .f32⟩ : BufTy).Contents (Elt F)),
    unary main_arg0 main_v169 ((extractStridedSlice S20000x1 ![0, 1] · slices_S20000x7_S20000x1_0_1) : (⟨S20000x7, .f32⟩ : BufTy).Contents (Elt F) → (⟨S20000x1, .f32⟩ : BufTy).Contents (Elt F)),
    unary main_arg0 main_v170 ((extractStridedSlice S20000x1 ![0, 2] · slices_S20000x7_S20000x1_0_2) : (⟨S20000x7, .f32⟩ : BufTy).Contents (Elt F) → (⟨S20000x1, .f32⟩ : BufTy).Contents (Elt F)),
    unary main_arg0 main_v171 ((extractStridedSlice S20000x1 ![0, 3] · slices_S20000x7_S20000x1_0_3) : (⟨S20000x7, .f32⟩ : BufTy).Contents (Elt F) → (⟨S20000x1, .f32⟩ : BufTy).Contents (Elt F)),
    unary main_arg0 main_v172 ((extractStridedSlice S20000x1 ![0, 4] · slices_S20000x7_S20000x1_0_4) : (⟨S20000x7, .f32⟩ : BufTy).Contents (Elt F) → (⟨S20000x1, .f32⟩ : BufTy).Contents (Elt F)),
    unary main_arg0 main_v173 ((extractStridedSlice S20000x1 ![0, 5] · slices_S20000x7_S20000x1_0_5) : (⟨S20000x7, .f32⟩ : BufTy).Contents (Elt F) → (⟨S20000x1, .f32⟩ : BufTy).Contents (Elt F)),
    unary main_arg0 main_v174 ((extractStridedSlice S20000x1 ![0, 6] · slices_S20000x7_S20000x1_0_6) : (⟨S20000x7, .f32⟩ : BufTy).Contents (Elt F) → (⟨S20000x1, .f32⟩ : BufTy).Contents (Elt F)),
    unary main_v165 main_v175 ((extractStridedSlice S20000x1 ![0, 0] · slices_S20000x7_S20000x1_0_0) : (⟨S20000x7, .f32⟩ : BufTy).Contents (Elt F) → (⟨S20000x1, .f32⟩ : BufTy).Contents (Elt F)),
    unary main_v165 main_v176 ((extractStridedSlice S20000x1 ![0, 1] · slices_S20000x7_S20000x1_0_1) : (⟨S20000x7, .f32⟩ : BufTy).Contents (Elt F) → (⟨S20000x1, .f32⟩ : BufTy).Contents (Elt F)),
    unary main_v165 main_v177 ((extractStridedSlice S20000x1 ![0, 2] · slices_S20000x7_S20000x1_0_2) : (⟨S20000x7, .f32⟩ : BufTy).Contents (Elt F) → (⟨S20000x1, .f32⟩ : BufTy).Contents (Elt F)),
    unary main_v165 main_v178 ((extractStridedSlice S20000x1 ![0, 3] · slices_S20000x7_S20000x1_0_3) : (⟨S20000x7, .f32⟩ : BufTy).Contents (Elt F) → (⟨S20000x1, .f32⟩ : BufTy).Contents (Elt F)),
    unary main_v165 main_v179 ((extractStridedSlice S20000x1 ![0, 4] · slices_S20000x7_S20000x1_0_4) : (⟨S20000x7, .f32⟩ : BufTy).Contents (Elt F) → (⟨S20000x1, .f32⟩ : BufTy).Contents (Elt F)),
    unary main_v165 main_v180 ((extractStridedSlice S20000x1 ![0, 5] · slices_S20000x7_S20000x1_0_5) : (⟨S20000x7, .f32⟩ : BufTy).Contents (Elt F) → (⟨S20000x1, .f32⟩ : BufTy).Contents (Elt F)),
    unary main_v165 main_v181 ((extractStridedSlice S20000x1 ![0, 6] · slices_S20000x7_S20000x1_0_6) : (⟨S20000x7, .f32⟩ : BufTy).Contents (Elt F) → (⟨S20000x1, .f32⟩ : BufTy).Contents (Elt F)) ]

/-- @main's operations 283 … 298 of 305 (window `main_part3`). -/
abbrev ops_part3_3 : List (HloOp τ sig (Elt F)) :=
  [ binary main_v172 main_v172 main_v182 (mulf : (⟨S20000x1, .f32⟩ : BufTy).Contents (Elt F) → (⟨S20000x1, .f32⟩ : BufTy).Contents (Elt F) → (⟨S20000x1, .f32⟩ : BufTy).Contents (Elt F)),
    binary main_v171 main_v171 main_v183 (mulf : (⟨S20000x1, .f32⟩ : BufTy).Contents (Elt F) → (⟨S20000x1, .f32⟩ : BufTy).Contents (Elt F) → (⟨S20000x1, .f32⟩ : BufTy).Contents (Elt F)),
    binary main_v182 main_v183 main_v184 (addf : (⟨S20000x1, .f32⟩ : BufTy).Contents (Elt F) → (⟨S20000x1, .f32⟩ : BufTy).Contents (Elt F) → (⟨S20000x1, .f32⟩ : BufTy).Contents (Elt F)),
    unary main_v184 main_v185 (Host.sqrt : (⟨S20000x1, .f32⟩ : BufTy).Contents (Elt F) → (⟨S20000x1, .f32⟩ : BufTy).Contents (Elt F)),
    binary main_v175 main_v168 main_v186 (subf : (⟨S20000x1, .f32⟩ : BufTy).Contents (Elt F) → (⟨S20000x1, .f32⟩ : BufTy).Contents (Elt F) → (⟨S20000x1, .f32⟩ : BufTy).Contents (Elt F)),
    binary main_v186 main_v185 main_v187 (Host.divf : (⟨S20000x1, .f32⟩ : BufTy).Contents (Elt F) → (⟨S20000x1, .f32⟩ : BufTy).Contents (Elt F) → (⟨S20000x1, .f32⟩ : BufTy).Contents (Elt F)),
    binary main_v176 main_v169 main_v188 (subf : (⟨S20000x1, .f32⟩ : BufTy).Contents (Elt F) → (⟨S20000x1, .f32⟩ : BufTy).Contents (Elt F) → (⟨S20000x1, .f32⟩ : BufTy).Contents (Elt F)),
    binary main_v188 main_v185 main_v189 (Host.divf : (⟨S20000x1, .f32⟩ : BufTy).Contents (Elt F) → (⟨S20000x1, .f32⟩ : BufTy).Contents (Elt F) → (⟨S20000x1, .f32⟩ : BufTy).Contents (Elt F)),
    binary main_v177 main_v170 main_v190 (subf : (⟨S20000x1, .f32⟩ : BufTy).Contents (Elt F) → (⟨S20000x1, .f32⟩ : BufTy).Contents (Elt F) → (⟨S20000x1, .f32⟩ : BufTy).Contents (Elt F)),
    binary main_v190 main_v173 main_v191 (Host.divf : (⟨S20000x1, .f32⟩ : BufTy).Contents (Elt F) → (⟨S20000x1, .f32⟩ : BufTy).Contents (Elt F) → (⟨S20000x1, .f32⟩ : BufTy).Contents (Elt F)),
    binary main_v178 main_v171 main_v192 (Host.divf : (⟨S20000x1, .f32⟩ : BufTy).Contents (Elt F) → (⟨S20000x1, .f32⟩ : BufTy).Contents (Elt F) → (⟨S20000x1, .f32⟩ : BufTy).Contents (Elt F)),
    unary main_v192 main_v193 (Host.log : (⟨S20000x1, .f32⟩ : BufTy).Contents (Elt F) → (⟨S20000x1, .f32⟩ : BufTy).Contents (Elt F)),
    binary main_v179 main_v172 main_v194 (Host.divf : (⟨S20000x1, .f32⟩ : BufTy).Contents (Elt F) → (⟨S20000x1, .f32⟩ : BufTy).Contents (Elt F) → (⟨S20000x1, .f32⟩ : BufTy).Contents (Elt F)),
    unary main_v194 main_v195 (Host.log : (⟨S20000x1, .f32⟩ : BufTy).Contents (Elt F) → (⟨S20000x1, .f32⟩ : BufTy).Contents (Elt F)),
    binary main_v180 main_v173 main_v196 (Host.divf : (⟨S20000x1, .f32⟩ : BufTy).Contents (Elt F) → (⟨S20000x1, .f32⟩ : BufTy).Contents (Elt F) → (⟨S20000x1, .f32⟩ : BufTy).Contents (Elt F)),
    unary main_v196 main_v197 (Host.log : (⟨S20000x1, .f32⟩ : BufTy).Contents (Elt F) → (⟨S20000x1, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2 ++ (ops_part3_3)))

/-- @main's operations 299 … 305 of 305 (window `main_part4`). -/
abbrev ops_part4 : List (HloOp τ sig (Elt F)) :=
  [ binary main_v181 main_v174 main_v198 (subf : (⟨S20000x1, .f32⟩ : BufTy).Contents (Elt F) → (⟨S20000x1, .f32⟩ : BufTy).Contents (Elt F) → (⟨S20000x1, .f32⟩ : BufTy).Contents (Elt F)),
    nary ![main_v187, main_v189, main_v191, main_v193, main_v195, main_v197, main_v198] main_v199 (fun u => fn_main_v199 (F := F) (u 0) (u 1) (u 2) (u 3) (u 4) (u 5) (u 6)),
    unary main_v167 main_v200 (broadcastInDim S20000x1 ![0] bcast_S20000_S20000x1_0 : (⟨S20000, .i1⟩ : BufTy).Contents (Elt F) → (⟨S20000x1, .i1⟩ : BufTy).Contents (Elt F)),
    unary main_v200 main_v201 (uitofp .f32 : (⟨S20000x1, .i1⟩ : BufTy).Contents (Elt F) → (⟨S20000x1, .f32⟩ : BufTy).Contents (Elt F)),
    unary main_v201 main_v202 (broadcastInDim S20000x7 ![0, 1] bcast_S20000x1_S20000x7_0_1 : (⟨S20000x1, .f32⟩ : BufTy).Contents (Elt F) → (⟨S20000x7, .f32⟩ : BufTy).Contents (Elt F)),
    binary main_v199 main_v202 main_v203 (mulf : (⟨S20000x7, .f32⟩ : BufTy).Contents (Elt F) → (⟨S20000x7, .f32⟩ : BufTy).Contents (Elt F) → (⟨S20000x7, .f32⟩ : BufTy).Contents (Elt F)),
    unary main_v167 main_v204 (uitofp .f32 : (⟨S20000, .i1⟩ : BufTy).Contents (Elt F) → (⟨S20000, .f32⟩ : BufTy).Contents (Elt F)) ]

/-- @main's 305 operations, in order (a called function's operations stand in its call's place, spelt `TRef.…`). -/
abbrev ops : List (HloOp τ sig (Elt F)) :=
  ops_part0 ++ (ops_part1 ++ (ops_part2 ++ (ops_part3 ++ (ops_part4))))

set_option maxRecDepth 65536 in
theorem main_part0_eq (c : Dev nD) : main_part0 (F := F) c = seq ops_part0 := rfl
set_option maxRecDepth 65536 in
set_option maxHeartbeats 4000000 in
theorem main_part1_eq (c : Dev nD) : main_part1 (F := F) c = seq ops_part1 := rfl
set_option maxRecDepth 65536 in
set_option maxHeartbeats 4000000 in
theorem main_part2_eq (c : Dev nD) : main_part2 (F := F) c = seq ops_part2 := rfl
set_option maxHeartbeats 4000000 in
/-- The first half of the fourth window: the labels' and the matches' scatters. -/
noncomputable def main_part3a : Dev nD → Prog (TpuEff nD τ sig (Elt F) (Pipeline.Sig Λ₀ (Fin 0) fun p => (pcfgs (F := F) p).Adm) .tc) PUnit := fun _ => do
  hlo rfl (StableHlo.nullary main_c_33 (constantI S_ 32 4294967295#32)) (fun _ => .ret ⟨⟩)
  fn_where_2.body (.of main_v144) (.of main_c_32) (.of main_c_33) main_call5
  hlo rfl (StableHlo.nullary main_cst_34 (constant S_ .f32 0x3F19999A#32)) (fun _ => .ret ⟨⟩)
  hlo rfl (StableHlo.unary main_cst_34 main_v146 (broadcastInDim S20000 ![] bcast_S_S20000 : (⟨S_, .f32⟩ : BufTy).Contents (Elt F) → (⟨S20000, .f32⟩ : BufTy).Contents (Elt F))) (fun _ => .ret ⟨⟩)
  hlo rfl (StableHlo.binary main_v141 main_v146 main_v147 (cmpf .oge : (⟨S20000, .f32⟩ : BufTy).Contents (Elt F) → (⟨S20000, .f32⟩ : BufTy).Contents (Elt F) → (⟨S20000, .i1⟩ : BufTy).Contents (Elt F))) (fun _ => .ret ⟨⟩)
  fn_take.body (.of main_arg2) (.of main_v140) main_call6
  fn_where_4.body (.of main_v147) (.of main_v148) (.of main_v145) main_call7
  hlo rfl (StableHlo.nullary main_c_35 (constantI S_ 32 0#32)) (fun _ => .ret ⟨⟩)
  hlo rfl (StableHlo.unary main_c_35 main_v150 (broadcastInDim S128 ![] bcast_S_S128 : (⟨S_, .i32⟩ : BufTy).Contents (Elt F) → (⟨S128, .i32⟩ : BufTy).Contents (Elt F))) (fun _ => .ret ⟨⟩)
  hlo rfl (StableHlo.binary main_v142 main_v150 main_v151 (cmpi .slt : (⟨S128, .i32⟩ : BufTy).Contents (Elt F) → (⟨S128, .i32⟩ : BufTy).Contents (Elt F) → (⟨S128, .i1⟩ : BufTy).Contents (Elt F))) (fun _ => .ret ⟨⟩)
  hlo rfl (StableHlo.nullary main_c_36 (constantI S_ 32 20000#32)) (fun _ => .ret ⟨⟩)
  hlo rfl (StableHlo.unary main_c_36 main_v152 (broadcastInDim S128 ![] bcast_S_S128 : (⟨S_, .i32⟩ : BufTy).Contents (Elt F) → (⟨S128, .i32⟩ : BufTy).Contents (Elt F))) (fun _ => .ret ⟨⟩)
  hlo rfl (StableHlo.binary main_v142 main_v152 main_v153 (addi : (⟨S128, .i32⟩ : BufTy).Contents (Elt F) → (⟨S128, .i32⟩ : BufTy).Contents (Elt F) → (⟨S128, .i32⟩ : BufTy).Contents (Elt F))) (fun _ => .ret ⟨⟩)
  hlo rfl (StableHlo.ternary main_v151 main_v153 main_v142 main_v154 (select : (⟨S128, .i1⟩ : BufTy).Contents (Elt F) → (⟨S128, .i32⟩ : BufTy).Contents (Elt F) → (⟨S128, .i32⟩ : BufTy).Contents (Elt F) → (⟨S128, .i32⟩ : BufTy).Contents (Elt F))) (fun _ => .ret ⟨⟩)
  hlo rfl (StableHlo.unary main_v154 main_v155 (broadcastInDim S128x1 ![0] bcast_S128_S128x1_0 : (⟨S128, .i32⟩ : BufTy).Contents (Elt F) → (⟨S128x1, .i32⟩ : BufTy).Contents (Elt F))) (fun _ => .ret ⟨⟩)
  hlo rfl (StableHlo.ternary main_v149 main_v155 main_arg2 main_v156 ((fun x i u => Host.scatter scatter_S20000_S128x1_S128_n_0_0_1 (fun _ b => b) x i u) : (⟨S20000, .i32⟩ : BufTy).Contents (Elt F) → (⟨S128x1, .i32⟩ : BufTy).Contents (Elt F) → (⟨S128, .i32⟩ : BufTy).Contents (Elt F) → (⟨S20000, .i32⟩ : BufTy).Contents (Elt F))) (fun _ => .ret ⟨⟩)
  hlo rfl (StableHlo.nullary main_v157 (iotaInDim S128 32 0)) (fun _ => .ret ⟨⟩)
  hlo rfl (StableHlo.nullary main_c_37 (constantI S_ 32 0#32)) (fun _ => .ret ⟨⟩)
  hlo rfl (StableHlo.unary main_c_37 main_v158 (broadcastInDim S128 ![] bcast_S_S128 : (⟨S_, .i32⟩ : BufTy).Contents (Elt F) → (⟨S128, .i32⟩ : BufTy).Contents (Elt F))) (fun _ => .ret ⟨⟩)
  hlo rfl (StableHlo.binary main_v142 main_v158 main_v159 (cmpi .slt : (⟨S128, .i32⟩ : BufTy).Contents (Elt F) → (⟨S128, .i32⟩ : BufTy).Contents (Elt F) → (⟨S128, .i1⟩ : BufTy).Contents (Elt F))) (fun _ => .ret ⟨⟩)
  hlo rfl (StableHlo.nullary main_c_38 (constantI S_ 32 20000#32)) (fun _ => .ret ⟨⟩)
  hlo rfl (StableHlo.unary main_c_38 main_v160 (broadcastInDim S128 ![] bcast_S_S128 : (⟨S_, .i32⟩ : BufTy).Contents (Elt F) → (⟨S128, .i32⟩ : BufTy).Contents (Elt F))) (fun _ => .ret ⟨⟩)
  hlo rfl (StableHlo.binary main_v142 main_v160 main_v161 (addi : (⟨S128, .i32⟩ : BufTy).Contents (Elt F) → (⟨S128, .i32⟩ : BufTy).Contents (Elt F) → (⟨S128, .i32⟩ : BufTy).Contents (Elt F))) (fun _ => .ret ⟨⟩)
  hlo rfl (StableHlo.ternary main_v159 main_v161 main_v142 main_v162 (select : (⟨S128, .i1⟩ : BufTy).Contents (Elt F) → (⟨S128, .i32⟩ : BufTy).Contents (Elt F) → (⟨S128, .i32⟩ : BufTy).Contents (Elt F) → (⟨S128, .i32⟩ : BufTy).Contents (Elt F))) (fun _ => .ret ⟨⟩)
  hlo rfl (StableHlo.unary main_v162 main_v163 (broadcastInDim S128x1 ![0] bcast_S128_S128x1_0 : (⟨S128, .i32⟩ : BufTy).Contents (Elt F) → (⟨S128x1, .i32⟩ : BufTy).Contents (Elt F))) (fun _ => .ret ⟨⟩)
  hlo rfl (StableHlo.ternary main_v140 main_v163 main_v157 main_v164 ((fun x i u => Host.scatter scatter_S20000_S128x1_S128_n_0_0_1 (fun _ b => b) x i u) : (⟨S20000, .i32⟩ : BufTy).Contents (Elt F) → (⟨S128x1, .i32⟩ : BufTy).Contents (Elt F) → (⟨S128, .i32⟩ : BufTy).Contents (Elt F) → (⟨S20000, .i32⟩ : BufTy).Contents (Elt F))) (fun _ => .ret ⟨⟩)
set_option maxHeartbeats 4000000 in
/-- The second half of the fourth window: the matched boxes and their encoding. -/
noncomputable def main_part3b : Dev nD → Prog (TpuEff nD τ sig (Elt F) (Pipeline.Sig Λ₀ (Fin 0) fun p => (pcfgs (F := F) p).Adm) .tc) PUnit := fun _ => do
  fn_take_5.body (.of main_arg1) (.of main_v164) main_call8
  hlo rfl (StableHlo.nullary main_c_39 (constantI S_ 32 0#32)) (fun _ => .ret ⟨⟩)
  hlo rfl (StableHlo.unary main_c_39 main_v166 (broadcastInDim S20000 ![] bcast_S_S20000 : (⟨S_, .i32⟩ : BufTy).Contents (Elt F) → (⟨S20000, .i32⟩ : BufTy).Contents (Elt F))) (fun _ => .ret ⟨⟩)
  hlo rfl (StableHlo.binary main_v156 main_v166 main_v167 (cmpi .sgt : (⟨S20000, .i32⟩ : BufTy).Contents (Elt F) → (⟨S20000, .i32⟩ : BufTy).Contents (Elt F) → (⟨S20000, .i1⟩ : BufTy).Contents (Elt F))) (fun _ => .ret ⟨⟩)
  hlo rfl (StableHlo.unary main_arg0 main_v168 ((extractStridedSlice S20000x1 ![0, 0] · slices_S20000x7_S20000x1_0_0) : (⟨S20000x7, .f32⟩ : BufTy).Contents (Elt F) → (⟨S20000x1, .f32⟩ : BufTy).Contents (Elt F))) (fun _ => .ret ⟨⟩)
  hlo rfl (StableHlo.unary main_arg0 main_v169 ((extractStridedSlice S20000x1 ![0, 1] · slices_S20000x7_S20000x1_0_1) : (⟨S20000x7, .f32⟩ : BufTy).Contents (Elt F) → (⟨S20000x1, .f32⟩ : BufTy).Contents (Elt F))) (fun _ => .ret ⟨⟩)
  hlo rfl (StableHlo.unary main_arg0 main_v170 ((extractStridedSlice S20000x1 ![0, 2] · slices_S20000x7_S20000x1_0_2) : (⟨S20000x7, .f32⟩ : BufTy).Contents (Elt F) → (⟨S20000x1, .f32⟩ : BufTy).Contents (Elt F))) (fun _ => .ret ⟨⟩)
  hlo rfl (StableHlo.unary main_arg0 main_v171 ((extractStridedSlice S20000x1 ![0, 3] · slices_S20000x7_S20000x1_0_3) : (⟨S20000x7, .f32⟩ : BufTy).Contents (Elt F) → (⟨S20000x1, .f32⟩ : BufTy).Contents (Elt F))) (fun _ => .ret ⟨⟩)
  hlo rfl (StableHlo.unary main_arg0 main_v172 ((extractStridedSlice S20000x1 ![0, 4] · slices_S20000x7_S20000x1_0_4) : (⟨S20000x7, .f32⟩ : BufTy).Contents (Elt F) → (⟨S20000x1, .f32⟩ : BufTy).Contents (Elt F))) (fun _ => .ret ⟨⟩)
  hlo rfl (StableHlo.unary main_arg0 main_v173 ((extractStridedSlice S20000x1 ![0, 5] · slices_S20000x7_S20000x1_0_5) : (⟨S20000x7, .f32⟩ : BufTy).Contents (Elt F) → (⟨S20000x1, .f32⟩ : BufTy).Contents (Elt F))) (fun _ => .ret ⟨⟩)
  hlo rfl (StableHlo.unary main_arg0 main_v174 ((extractStridedSlice S20000x1 ![0, 6] · slices_S20000x7_S20000x1_0_6) : (⟨S20000x7, .f32⟩ : BufTy).Contents (Elt F) → (⟨S20000x1, .f32⟩ : BufTy).Contents (Elt F))) (fun _ => .ret ⟨⟩)
  hlo rfl (StableHlo.unary main_v165 main_v175 ((extractStridedSlice S20000x1 ![0, 0] · slices_S20000x7_S20000x1_0_0) : (⟨S20000x7, .f32⟩ : BufTy).Contents (Elt F) → (⟨S20000x1, .f32⟩ : BufTy).Contents (Elt F))) (fun _ => .ret ⟨⟩)
  hlo rfl (StableHlo.unary main_v165 main_v176 ((extractStridedSlice S20000x1 ![0, 1] · slices_S20000x7_S20000x1_0_1) : (⟨S20000x7, .f32⟩ : BufTy).Contents (Elt F) → (⟨S20000x1, .f32⟩ : BufTy).Contents (Elt F))) (fun _ => .ret ⟨⟩)
  hlo rfl (StableHlo.unary main_v165 main_v177 ((extractStridedSlice S20000x1 ![0, 2] · slices_S20000x7_S20000x1_0_2) : (⟨S20000x7, .f32⟩ : BufTy).Contents (Elt F) → (⟨S20000x1, .f32⟩ : BufTy).Contents (Elt F))) (fun _ => .ret ⟨⟩)
  hlo rfl (StableHlo.unary main_v165 main_v178 ((extractStridedSlice S20000x1 ![0, 3] · slices_S20000x7_S20000x1_0_3) : (⟨S20000x7, .f32⟩ : BufTy).Contents (Elt F) → (⟨S20000x1, .f32⟩ : BufTy).Contents (Elt F))) (fun _ => .ret ⟨⟩)
  hlo rfl (StableHlo.unary main_v165 main_v179 ((extractStridedSlice S20000x1 ![0, 4] · slices_S20000x7_S20000x1_0_4) : (⟨S20000x7, .f32⟩ : BufTy).Contents (Elt F) → (⟨S20000x1, .f32⟩ : BufTy).Contents (Elt F))) (fun _ => .ret ⟨⟩)
  hlo rfl (StableHlo.unary main_v165 main_v180 ((extractStridedSlice S20000x1 ![0, 5] · slices_S20000x7_S20000x1_0_5) : (⟨S20000x7, .f32⟩ : BufTy).Contents (Elt F) → (⟨S20000x1, .f32⟩ : BufTy).Contents (Elt F))) (fun _ => .ret ⟨⟩)
  hlo rfl (StableHlo.unary main_v165 main_v181 ((extractStridedSlice S20000x1 ![0, 6] · slices_S20000x7_S20000x1_0_6) : (⟨S20000x7, .f32⟩ : BufTy).Contents (Elt F) → (⟨S20000x1, .f32⟩ : BufTy).Contents (Elt F))) (fun _ => .ret ⟨⟩)
  hlo rfl (StableHlo.binary main_v172 main_v172 main_v182 (mulf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v171 main_v171 main_v183 (mulf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v182 main_v183 main_v184 (addf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.unary main_v184 main_v185 (Host.sqrt : (⟨S20000x1, .f32⟩ : BufTy).Contents (Elt F) → (⟨S20000x1, .f32⟩ : BufTy).Contents (Elt F))) (fun _ => .ret ⟨⟩)
  hlo rfl (StableHlo.binary main_v175 main_v168 main_v186 (subf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v186 main_v185 main_v187 (Host.divf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v176 main_v169 main_v188 (subf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v188 main_v185 main_v189 (Host.divf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v177 main_v170 main_v190 (subf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v190 main_v173 main_v191 (Host.divf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.binary main_v178 main_v171 main_v192 (Host.divf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.unary main_v192 main_v193 (Host.log : (⟨S20000x1, .f32⟩ : BufTy).Contents (Elt F) → (⟨S20000x1, .f32⟩ : BufTy).Contents (Elt F))) (fun _ => .ret ⟨⟩)
  hlo rfl (StableHlo.binary main_v179 main_v172 main_v194 (Host.divf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.unary main_v194 main_v195 (Host.log : (⟨S20000x1, .f32⟩ : BufTy).Contents (Elt F) → (⟨S20000x1, .f32⟩ : BufTy).Contents (Elt F))) (fun _ => .ret ⟨⟩)
  hlo rfl (StableHlo.binary main_v180 main_v173 main_v196 (Host.divf : (⟨S20000x1, .f32⟩ : BufTy).Contents (Elt F) → (⟨S20000x1, .f32⟩ : BufTy).Contents (Elt F) → (⟨S20000x1, .f32⟩ : BufTy).Contents (Elt F))) (fun _ => .ret ⟨⟩)
  hlo rfl (StableHlo.unary main_v196 main_v197 (Host.log : (⟨S20000x1, .f32⟩ : BufTy).Contents (Elt F) → (⟨S20000x1, .f32⟩ : BufTy).Contents (Elt F))) (fun _ => .ret ⟨⟩)
set_option maxRecDepth 65536 in
set_option maxHeartbeats 4000000 in
theorem main_part3a_eq (c : Dev nD) : main_part3a (F := F) c = seq (ops_part3_0 ++ ops_part3_1.take 20) := rfl
set_option maxRecDepth 65536 in
set_option maxHeartbeats 4000000 in
theorem main_part3b_eq (c : Dev nD) : main_part3b (F := F) c = seq (ops_part3_1.drop 20 ++ (ops_part3_2 ++ ops_part3_3)) := rfl
set_option maxRecDepth 65536 in
set_option maxHeartbeats 4000000 in
theorem main_part3_split (c : Dev nD) : main_part3 (F := F) c = (main_part3a (F := F) c >>= fun _ => main_part3b (F := F) c) := by
  simp only [main_part3, main_part3a, main_part3b, bind_assoc]
set_option maxRecDepth 65536 in
theorem ops_part3_cut : (ops_part3 : List (HloOp τ sig (Elt F))) = (ops_part3_0 ++ ops_part3_1.take 20) ++ (ops_part3_1.drop 20 ++ (ops_part3_2 ++ ops_part3_3)) := by
  simp only [ops_part3, List.append_assoc]
  rw [← List.append_assoc (List.take 20 _), List.take_append_drop]
theorem main_part3_eq (c : Dev nD) : main_part3 (F := F) c = seq ops_part3 := by
  rw [main_part3_split, main_part3a_eq, main_part3b_eq, ops_part3_cut]
  exact (seq_append _ _).symm
set_option maxRecDepth 65536 in
theorem main_part4_eq (c : Dev nD) : main_part4 (F := F) c = seq ops_part4 := rfl
set_option maxRecDepth 65536 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_part0_sub : (ops_part0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 65536 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part1_0_sub : (ops_part1_0 : List (HloOp τ sig (Elt F))).Forall fun op => op.bufs ⊆ tcRefs τ sig :=
  ⟨binary_bufs_sub .., unary_bufs_sub .., ternary_bufs_sub .., nullary_bufs_sub .., unary_bufs_sub .., binary_bufs_sub .., binary_bufs_sub .., nullary_bufs_sub .., unary_bufs_sub .., binary_bufs_sub .., binary_bufs_sub .., binary_bufs_sub .., unary_bufs_sub .., reshape_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., unary_bufs_sub ..⟩
set_option maxRecDepth 65536 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part1_1_sub : (ops_part1_1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., ternary_bufs_sub .., nullary_bufs_sub .., unary_bufs_sub .., binary_bufs_sub .., binary_bufs_sub .., nullary_bufs_sub .., unary_bufs_sub .., binary_bufs_sub .., binary_bufs_sub .., binary_bufs_sub ..⟩
set_option maxRecDepth 65536 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part1_2_sub : (ops_part1_2 : List (HloOp τ sig (Elt F))).Forall fun op => op.bufs ⊆ tcRefs τ sig :=
  ⟨unary_bufs_sub .., unary_bufs_sub ..⟩
set_option maxRecDepth 65536 in
theorem ops_part1_2_fresh : (ops_part1_2 : List (HloOp τ sig (Elt F))).Forall fun op => op.fresh = ∅ :=
  ⟨rfl, rfl⟩
set_option maxRecDepth 65536 in
theorem ops_part2_0_sub : (ops_part2_0 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub ..⟩
set_option maxRecDepth 65536 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part2_1_sub : (ops_part2_1 : List (HloOp τ sig (Elt F))).Forall fun op => op.bufs ⊆ tcRefs τ sig :=
  ⟨reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub ..⟩
set_option maxRecDepth 65536 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part2_2_sub : (ops_part2_2 : List (HloOp τ sig (Elt F))).Forall fun op => op.bufs ⊆ tcRefs τ sig :=
  ⟨binary_bufs_sub .., nullary_bufs_sub .., nullary_bufs_sub .., nullary_bufs_sub .., quaternary_bufs_sub .., quaternary_bufs_sub .., nullary_bufs_sub .., unary_bufs_sub .., binary_bufs_sub .., nullary_bufs_sub ..⟩
set_option maxRecDepth 65536 in
theorem ops_part2_2_fresh : (ops_part2_2 : List (HloOp τ sig (Elt F))).Forall fun op => op.fresh = ∅ :=
  ⟨rfl, rfl, rfl, rfl, rfl, rfl, rfl, rfl, rfl, rfl⟩
set_option maxRecDepth 65536 in
theorem ops_part3_0_sub : (ops_part3_0 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub ..⟩
set_option maxRecDepth 65536 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part3_1_sub : (ops_part3_1 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub ..⟩
set_option maxRecDepth 65536 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part3_2_sub : (ops_part3_2 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 65536 in
theorem ops_part3_2_fresh : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem ops_part3_3_sub : (ops_part3_3 : List (HloOp τ sig (Elt F))).Forall fun op => op.bufs ⊆ tcRefs τ sig :=
  ⟨binary_bufs_sub .., binary_bufs_sub .., binary_bufs_sub .., unary_bufs_sub .., binary_bufs_sub .., binary_bufs_sub .., binary_bufs_sub .., binary_bufs_sub .., binary_bufs_sub .., binary_bufs_sub .., binary_bufs_sub .., unary_bufs_sub .., binary_bufs_sub .., unary_bufs_sub .., binary_bufs_sub .., unary_bufs_sub ..⟩
set_option maxRecDepth 65536 in
theorem ops_part3_3_fresh : (ops_part3_3 : List (HloOp τ sig (Elt F))).Forall fun op => op.fresh = ∅ :=
  ⟨rfl, rfl, rfl, rfl, rfl, rfl, rfl, rfl, rfl, rfl, rfl, rfl, rfl, rfl, rfl, rfl⟩
set_option maxRecDepth 65536 in
theorem ops_part4_sub : (ops_part4 : List (HloOp τ sig (Elt F))).Forall fun op => op.bufs ⊆ tcRefs τ sig :=
  ⟨binary_bufs_sub .., nary_bufs_sub .., unary_bufs_sub .., unary_bufs_sub .., unary_bufs_sub .., binary_bufs_sub .., unary_bufs_sub ..⟩
set_option maxRecDepth 65536 in
theorem ops_part4_fresh : (ops_part4 : List (HloOp τ sig (Elt F))).Forall fun op => op.fresh = ∅ :=
  ⟨rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, ops_part2, ops_part3, List.mem_append, or_assoc] at h
    rcases h with h | h | h | h | h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part3_3_sub op h, List.forall_iff_forall_mem.mp ops_part4_sub op h]
theorem ops_fresh : ∀ op ∈ (ops : List (HloOp τ sig (Elt F))), op.fresh = ∅ := fun op h => by
    simp only [ops, ops_part1, ops_part2, ops_part3, List.mem_append, or_assoc] at h
    rcases h with h | h | h | h | h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part3_3_fresh op h, List.forall_iff_forall_mem.mp ops_part4_fresh op h]

set_option maxRecDepth 65536 in
/-- `main_c`'s composed term of the arguments (named: it is used 3 times). -/
def res_main_c (V0 : Valuation τ sig (Elt F)) : (Proc.devRef .tc main_c : DevRef τ sig).ty.Contents (Elt F) :=
  (fun i => lit0 (S5.rowMajor i))

set_option maxRecDepth 65536 in
/-- `main_c_0`'s composed term of the arguments (named: it is used 3 times). -/
def res_main_c_0 (V0 : Valuation τ sig (Elt F)) : (Proc.devRef .tc main_c_0 : DevRef τ sig).ty.Contents (Elt F) :=
  (fun i => lit1 (S5.rowMajor i))

set_option maxRecDepth 65536 in
/-- `main_c_1`'s composed term of the arguments (named: it is used 3 times). -/
def res_main_c_1 (V0 : Valuation τ sig (Elt F)) : (Proc.devRef .tc main_c_1 : DevRef τ sig).ty.Contents (Elt F) :=
  (fun i => lit2 (S2.rowMajor i))

set_option maxRecDepth 65536 in
/-- `main_c_2`'s composed term of the arguments (named: it is used 3 times). -/
def res_main_c_2 (V0 : Valuation τ sig (Elt F)) : (Proc.devRef .tc main_c_2 : DevRef τ sig).ty.Contents (Elt F) :=
  (fun i => lit3 (S2.rowMajor i))

set_option maxRecDepth 65536 in
/-- `main_c_3`'s composed term of the arguments (named: it is used 3 times). -/
def res_main_c_3 (V0 : Valuation τ sig (Elt F)) : (Proc.devRef .tc main_c_3 : DevRef τ sig).ty.Contents (Elt F) :=
  (fun i => lit4 (S2.rowMajor i))

set_option maxRecDepth 65536 in
/-- `main_c_4`'s composed term of the arguments (named: it is used 3 times). -/
def res_main_c_4 (V0 : Valuation τ sig (Elt F)) : (Proc.devRef .tc main_c_4 : DevRef τ sig).ty.Contents (Elt F) :=
  (fun i => lit5 (S2.rowMajor i))

set_option maxRecDepth 65536 in
/-- `main_v6`'s composed term of the arguments (named: it is used 4 times). -/
def res_main_v6 (V0 : Valuation τ sig (Elt F)) : (Proc.devRef .tc main_v6 : DevRef τ sig).ty.Contents (Elt F) :=
  Host.gather gather_S20000x7_S5x1_S20000x5_0_1_n_n_1_1_200001 (V0 (Proc.devRef .tc main_arg0)) (broadcastInDim S5x1 ![0] bcast_S5_S5x1_0 (select (cmpi .slt (res_main_c V0) (broadcastInDim S5 ![] bcast_S_S5 (constantI S_ 32 0#32))) (addi (res_main_c V0) (broadcastInDim S5 ![] bcast_S_S5 (constantI S_ 32 7#32))) (res_main_c V0)))

set_option maxRecDepth 65536 in
/-- `main_v13`'s composed term of the arguments (named: it is used 4 times). -/
def res_main_v13 (V0 : Valuation τ sig (Elt F)) : (Proc.devRef .tc main_v13 : DevRef τ sig).ty.Contents (Elt F) :=
  Host.gather gather_S128x7_S5x1_S128x5_0_1_n_n_1_1_1281 (V0 (Proc.devRef .tc main_arg1)) (broadcastInDim S5x1 ![0] bcast_S5_S5x1_0 (select (cmpi .slt (res_main_c_0 V0) (broadcastInDim S5 ![] bcast_S_S5 (constantI S_ 32 0#32))) (addi (res_main_c_0 V0) (broadcastInDim S5 ![] bcast_S_S5 (constantI S_ 32 7#32))) (res_main_c_0 V0)))

set_option maxRecDepth 65536 in
/-- `main_v15`'s composed term of the arguments (named: it is used 2 times). -/
def res_main_v15 (V0 : Valuation τ sig (Elt F)) : (Proc.devRef .tc main_v15 : DevRef τ sig).ty.Contents (Elt F) :=
  shapeCast _ (extractStridedSlice S20000x1 ![0, 4] (res_main_v6 V0) slices_S20000x5_S20000x1_0_4) shapeCasts_S20000x1_S20000

set_option maxRecDepth 65536 in
/-- `main_v28`'s composed term of the arguments (named: it is used 2 times). -/
def res_main_v28 (V0 : Valuation τ sig (Elt F)) : (Proc.devRef .tc main_v28 : DevRef τ sig).ty.Contents (Elt F) :=
  extractStridedSlice S20000x2 ![0, 0] (res_main_v6 V0) slices_S20000x5_S20000x2_0_0

set_option maxRecDepth 65536 in
/-- `main_v43`'s composed term of the arguments (named: it is used 2 times). -/
def res_main_v43 (V0 : Valuation τ sig (Elt F)) : (Proc.devRef .tc main_v43 : DevRef τ sig).ty.Contents (Elt F) :=
  select (broadcastInDim S20000x2 ![0, 1] bcast_S20000x1_S20000x2_0_1 (broadcastInDim S20000x1 ![0] bcast_S20000_S20000x1_0 (cmpf .ogt (Host.absf (subf (res_main_v15 V0) (mulf (Host.floor (addf (Host.divf (res_main_v15 V0) (broadcastInDim S20000 ![] bcast_S_S20000 (constant S_ .f32 0x40490FDB#32))) (broadcastInDim S20000 ![] bcast_S_S20000 (constant S_ .f32 0x3F000000#32)))) (broadcastInDim S20000 ![] bcast_S_S20000 (constant S_ .f32 0x40490FDB#32))))) (broadcastInDim S20000 ![] bcast_S_S20000 (constant S_ .f32 0x3F490FDB#32))))) (Host.gather gather_S20000x5_S2x1_S20000x2_0_1_n_n_1_1_200001 (res_main_v6 V0) (broadcastInDim S2x1 ![0] bcast_S2_S2x1_0 (select (cmpi .slt (res_main_c_1 V0) (broadcastInDim S2 ![] bcast_S_S2 (constantI S_ 32 0#32))) (addi (res_main_c_1 V0) (broadcastInDim S2 ![] bcast_S_S2 (constantI S_ 32 5#32))) (res_main_c_1 V0)))) (Host.gather gather_S20000x5_S2x1_S20000x2_0_1_n_n_1_1_200001 (res_main_v6 V0) (broadcastInDim S2x1 ![0] bcast_S2_S2x1_0 (select (cmpi .slt (res_main_c_2 V0) (broadcastInDim S2 ![] bcast_S_S2 (constantI S_ 32 0#32))) (addi (res_main_c_2 V0) (broadcastInDim S2 ![] bcast_S_S2 (constantI S_ 32 5#32))) (res_main_c_2 V0))))

set_option maxRecDepth 65536 in
/-- `main_v50`'s composed term of the arguments (named: it is used 6 times). -/
def res_main_v50 (V0 : Valuation τ sig (Elt F)) : (Proc.devRef .tc main_v50 : DevRef τ sig).ty.Contents (Elt F) :=
  concatenate S20000x4 1 [⟨S20000x2, (subf (res_main_v28 V0) (Host.divf (res_main_v43 V0) (broadcastInDim S20000x2 ![] bcast_S_S20000x2 (constant S_ .f32 0x40000000#32))))⟩, ⟨S20000x2, (addf (res_main_v28 V0) (Host.divf (res_main_v43 V0) (broadcastInDim S20000x2 ![] bcast_S_S20000x2 (constant S_ .f32 0x40000000#32))))⟩] concatenates_S20000x2_S20000x2_S20000x4_d1

set_option maxRecDepth 65536 in
/-- `main_v52`'s composed term of the arguments (named: it is used 2 times). -/
def res_main_v52 (V0 : Valuation τ sig (Elt F)) : (Proc.devRef .tc main_v52 : DevRef τ sig).ty.Contents (Elt F) :=
  shapeCast _ (extractStridedSlice S128x1 ![0, 4] (res_main_v13 V0) slices_S128x5_S128x1_0_4) shapeCasts_S128x1_S128

set_option maxRecDepth 65536 in
/-- `main_v65`'s composed term of the arguments (named: it is used 2 times). -/
def res_main_v65 (V0 : Valuation τ sig (Elt F)) : (Proc.devRef .tc main_v65 : DevRef τ sig).ty.Contents (Elt F) :=
  extractStridedSlice S128x2 ![0, 0] (res_main_v13 V0) slices_S128x5_S128x2_0_0

set_option maxRecDepth 65536 in
/-- `main_v80`'s composed term of the arguments (named: it is used 2 times). -/
def res_main_v80 (V0 : Valuation τ sig (Elt F)) : (Proc.devRef .tc main_v80 : DevRef τ sig).ty.Contents (Elt F) :=
  select (broadcastInDim S128x2 ![0, 1] bcast_S128x1_S128x2_0_1 (broadcastInDim S128x1 ![0] bcast_S128_S128x1_0 (cmpf .ogt (Host.absf (subf (res_main_v52 V0) (mulf (Host.floor (addf (Host.divf (res_main_v52 V0) (broadcastInDim S128 ![] bcast_S_S128 (constant S_ .f32 0x40490FDB#32))) (broadcastInDim S128 ![] bcast_S_S128 (constant S_ .f32 0x3F000000#32)))) (broadcastInDim S128 ![] bcast_S_S128 (constant S_ .f32 0x40490FDB#32))))) (broadcastInDim S128 ![] bcast_S_S128 (constant S_ .f32 0x3F490FDB#32))))) (Host.gather gather_S128x5_S2x1_S128x2_0_1_n_n_1_1_1281 (res_main_v13 V0) (broadcastInDim S2x1 ![0] bcast_S2_S2x1_0 (select (cmpi .slt (res_main_c_3 V0) (broadcastInDim S2 ![] bcast_S_S2 (constantI S_ 32 0#32))) (addi (res_main_c_3 V0) (broadcastInDim S2 ![] bcast_S_S2 (constantI S_ 32 5#32))) (res_main_c_3 V0)))) (Host.gather gather_S128x5_S2x1_S128x2_0_1_n_n_1_1_1281 (res_main_v13 V0) (broadcastInDim S2x1 ![0] bcast_S2_S2x1_0 (select (cmpi .slt (res_main_c_4 V0) (broadcastInDim S2 ![] bcast_S_S2 (constantI S_ 32 0#32))) (addi (res_main_c_4 V0) (broadcastInDim S2 ![] bcast_S_S2 (constantI S_ 32 5#32))) (res_main_c_4 V0))))

set_option maxRecDepth 65536 in
/-- `main_v87`'s composed term of the arguments (named: it is used 6 times). -/
def res_main_v87 (V0 : Valuation τ sig (Elt F)) : (Proc.devRef .tc main_v87 : DevRef τ sig).ty.Contents (Elt F) :=
  concatenate S128x4 1 [⟨S128x2, (subf (res_main_v65 V0) (Host.divf (res_main_v80 V0) (broadcastInDim S128x2 ![] bcast_S_S128x2 (constant S_ .f32 0x40000000#32))))⟩, ⟨S128x2, (addf (res_main_v65 V0) (Host.divf (res_main_v80 V0) (broadcastInDim S128x2 ![] bcast_S_S128x2 (constant S_ .f32 0x40000000#32))))⟩] concatenates_S128x2_S128x2_S128x4_d1

set_option maxRecDepth 65536 in
/-- `main_v103`'s composed term of the arguments (named: it is used 2 times). -/
def res_main_v103 (V0 : Valuation τ sig (Elt F)) : (Proc.devRef .tc main_v103 : DevRef τ sig).ty.Contents (Elt F) :=
  maximumf (broadcastInDim S20000x128x2 ![] bcast_S_S20000x128x2 (id (constant S_ .f32 0x00000000#32))) (subf (minimumf (broadcastInDim S20000x128x2 ![0, 1, 2] bcast_S20000x1x2_S20000x128x2_0_1_2 (broadcastInDim S20000x1x2 ![0, 2] bcast_S20000x2_S20000x1x2_0_2 (extractStridedSlice S20000x2 ![0, 2] (res_main_v50 V0) slices_S20000x4_S20000x2_0_2))) (broadcastInDim S20000x128x2 ![0, 1, 2] bcast_S1x128x2_S20000x128x2_0_1_2 (broadcastInDim S1x128x2 ![1, 2] bcast_S128x2_S1x128x2_1_2 (extractStridedSlice S128x2 ![0, 2] (res_main_v87 V0) slices_S128x4_S128x2_0_2)))) (maximumf (broadcastInDim S20000x128x2 ![0, 1, 2] bcast_S20000x1x2_S20000x128x2_0_1_2 (broadcastInDim S20000x1x2 ![0, 2] bcast_S20000x2_S20000x1x2_0_2 (extractStridedSlice S20000x2 ![0, 0] (res_main_v50 V0) slices_S20000x4_S20000x2_0_0))) (broadcastInDim S20000x128x2 ![0, 1, 2] bcast_S1x128x2_S20000x128x2_0_1_2 (broadcastInDim S1x128x2 ![1, 2] bcast_S128x2_S1x128x2_1_2 (extractStridedSlice S128x2 ![0, 0] (res_main_v87 V0) slices_S128x4_S128x2_0_0)))))

set_option maxRecDepth 65536 in
/-- `main_v108`'s composed term of the arguments (named: it is used 2 times). -/
def res_main_v108 (V0 : Valuation τ sig (Elt F)) : (Proc.devRef .tc main_v108 : DevRef τ sig).ty.Contents (Elt F) :=
  mulf (shapeCast _ (extractStridedSlice S20000x128x1 ![0, 0, 0] (res_main_v103 V0) slices_S20000x128x2_S20000x128x1_0_0_0) shapeCasts_S20000x128x1_S20000x128) (shapeCast _ (extractStridedSlice S20000x128x1 ![0, 0, 1] (res_main_v103 V0) slices_S20000x128x2_S20000x128x1_0_0_1) shapeCasts_S20000x128x1_S20000x128)

set_option maxRecDepth 65536 in
/-- `main_v139`'s composed term of the arguments (named: it is used 5 times). -/
def res_main_v139 (V0 : Valuation τ sig (Elt F)) : (Proc.devRef .tc main_v139 : DevRef τ sig).ty.Contents (Elt F) :=
  Host.divf (res_main_v108 V0) (maximumf (subf (addf (broadcastInDim S20000x128 ![0, 1] bcast_S20000x1_S20000x128_0_1 (broadcastInDim S20000x1 ![0] bcast_S20000_S20000x1_0 (mulf (subf (shapeCast _ (extractStridedSlice S20000x1 ![0, 2] (res_main_v50 V0) slices_S20000x4_S20000x1_0_2) shapeCasts_S20000x1_S20000) (shapeCast _ (extractStridedSlice S20000x1 ![0, 0] (res_main_v50 V0) slices_S20000x4_S20000x1_0_0) shapeCasts_S20000x1_S20000)) (subf (shapeCast _ (extractStridedSlice S20000x1 ![0, 3] (res_main_v50 V0) slices_S20000x4_S20000x1_0_3) shapeCasts_S20000x1_S20000) (shapeCast _ (extractStridedSlice S20000x1 ![0, 1] (res_main_v50 V0) slices_S20000x4_S20000x1_0_1) shapeCasts_S20000x1_S20000))))) (broadcastInDim S20000x128 ![0, 1] bcast_S1x128_S20000x128_0_1 (broadcastInDim S1x128 ![1] bcast_S128_S1x128_1 (mulf (subf (shapeCast _ (extractStridedSlice S128x1 ![0, 2] (res_main_v87 V0) slices_S128x4_S128x1_0_2) shapeCasts_S128x1_S128) (shapeCast _ (extractStridedSlice S128x1 ![0, 0] (res_main_v87 V0) slices_S128x4_S128x1_0_0) shapeCasts_S128x1_S128)) (subf (shapeCast _ (extractStridedSlice S128x1 ![0, 3] (res_main_v87 V0) slices_S128x4_S128x1_0_3) shapeCasts_S128x1_S128) (shapeCast _ (extractStridedSlice S128x1 ![0, 1] (res_main_v87 V0) slices_S128x4_S128x1_0_1) shapeCasts_S128x1_S128)))))) (res_main_v108 V0)) (broadcastInDim S20000x128 ![] bcast_S_S20000x128 (constant S_ .f32 0x322BCC77#32)))

set_option maxRecDepth 65536 in
/-- `main_call3_v0`'s composed term of the arguments (named: it is used 2 times). -/
def res_main_call3_v0 (V0 : Valuation τ sig (Elt F)) : (Proc.devRef .tc main_call3_v0 : DevRef τ sig).ty.Contents (Elt F) :=
  iotaInDim S20000x128 32 1

set_option maxRecDepth 65536 in
/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

set_option maxRecDepth 65536 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 65536 in
/-- `main_v140`'s composed term of the arguments (named: it is used 4 times). -/
def res_main_v140 (V0 : Valuation τ sig (Elt F)) : (Proc.devRef .tc main_v140 : DevRef τ sig).ty.Contents (Elt F) :=
  (fun j => (Host.argReduce reducer_argmax_f32_i32 (res_main_v139 V0) (res_main_call3_v0 V0) (res_main_call3_cst V0) (res_main_call3_c V0) reducesTo_S20000x128_S20000_d1 h_S_ j).2)

set_option maxRecDepth 65536 in
/-- `main_v141`'s composed term of the arguments (named: it is used 2 times). -/
def res_main_v141 (V0 : Valuation τ sig (Elt F)) : (Proc.devRef .tc main_v141 : DevRef τ sig).ty.Contents (Elt F) :=
  Host.reduce FloatOps.maximumf (res_main_v139 V0) (constant S_ .f32 0xFF800000#32) reducesTo_S20000x128_S20000_d1 h_S_

set_option maxRecDepth 65536 in
/-- `main_call4_v0`'s composed term of the arguments (named: it is used 2 times). -/
def res_main_call4_v0 (V0 : Valuation τ sig (Elt F)) : (Proc.devRef .tc main_call4_v0 : DevRef τ sig).ty.Contents (Elt F) :=
  iotaInDim S20000x128 32 0

set_option maxRecDepth 65536 in
/-- `main_call4_cst`'s composed term of the arguments (named: it is used 2 times). -/
def res_main_call4_cst (V0 : Valuation τ sig (Elt F)) : (Proc.devRef .tc main_call4_cst : DevRef τ sig).ty.Contents (Elt F) :=
  constant S_ .f32 0xFF800000#32

set_option maxRecDepth 65536 in
/-- `main_call4_c`'s composed term of the arguments (named: it is used 2 times). -/
def res_main_call4_c (V0 : Valuation τ sig (Elt F)) : (Proc.devRef .tc main_call4_c : DevRef τ sig).ty.Contents (Elt F) :=
  constantI S_ 32 0#32

set_option maxRecDepth 65536 in
/-- `main_v142`'s composed term of the arguments (named: it is used 6 times). -/
def res_main_v142 (V0 : Valuation τ sig (Elt F)) : (Proc.devRef .tc main_v142 : DevRef τ sig).ty.Contents (Elt F) :=
  (fun j => (Host.argReduce reducer_argmax_f32_i32 (res_main_v139 V0) (res_main_call4_v0 V0) (res_main_call4_cst V0) (res_main_call4_c V0) reducesTo_S20000x128_S128_d0 h_S_ j).2)

set_option maxRecDepth 65536 in
/-- `main_call6_v5`'s composed term of the arguments (named: it is used 3 times). -/
def res_main_call6_v5 (V0 : Valuation τ sig (Elt F)) : (Proc.devRef .tc main_call6_v5 : DevRef τ sig).ty.Contents (Elt F) :=
  broadcastInDim S20000x1 ![0] bcast_S20000_S20000x1_0 (select (cmpi .slt (res_main_v140 V0) (broadcastInDim S20000 ![] bcast_S_S20000 (constantI S_ 32 0#32))) (addi (res_main_v140 V0) (broadcastInDim S20000 ![] bcast_S_S20000 (constantI S_ 32 128#32))) (res_main_v140 V0))

set_option maxRecDepth 65536 in
/-- `main_v164`'s composed term of the arguments (named: it is used 3 times). -/
def res_main_v164 (V0 : Valuation τ sig (Elt F)) : (Proc.devRef .tc main_v164 : DevRef τ sig).ty.Contents (Elt F) :=
  Host.scatter scatter_S20000_S128x1_S128_n_0_0_1 (fun _ b => b) (res_main_v140 V0) (broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0))) (iotaInDim S128 32 0)

set_option maxRecDepth 65536 in
/-- `main_call8_v5`'s composed term of the arguments (named: it is used 3 times). -/
def res_main_call8_v5 (V0 : Valuation τ sig (Elt F)) : (Proc.devRef .tc main_call8_v5 : DevRef τ sig).ty.Contents (Elt F) :=
  broadcastInDim S20000x1 ![0] bcast_S20000_S20000x1_0 (select (cmpi .slt (res_main_v164 V0) (broadcastInDim S20000 ![] bcast_S_S20000 (constantI S_ 32 0#32))) (addi (res_main_v164 V0) (broadcastInDim S20000 ![] bcast_S_S20000 (constantI S_ 32 128#32))) (res_main_v164 V0))

set_option maxRecDepth 65536 in
/-- `main_v165`'s composed term of the arguments (named: it is used 7 times). -/
def res_main_v165 (V0 : Valuation τ sig (Elt F)) : (Proc.devRef .tc main_v165 : DevRef τ sig).ty.Contents (Elt F) :=
  select (broadcastInDim S20000x7 ![0] bcast_S20000_S20000x7_0 (Host.reduce IntOp.andi (andi (cmpi .sge (res_main_call8_v5 V0) (broadcastInDim S20000x1 ![] bcast_S_S20000x1 (constantI S_ 32 0#32))) (cmpi .sle (res_main_call8_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_)) (Host.gather gather_S128x7_S20000x1_S20000x7_1_0_n_n_0_1_17 (V0 (Proc.devRef .tc main_arg1)) (res_main_call8_v5 V0)) (broadcastInDim S20000x7 ![] bcast_S_S20000x7 (constant S_ .f32 0x7FC00000#32))

set_option maxRecDepth 65536 in
/-- `main_v167`'s composed term of the arguments (named: it is used 2 times). -/
def res_main_v167 (V0 : Valuation τ sig (Elt F)) : (Proc.devRef .tc main_v167 : DevRef τ sig).ty.Contents (Elt F) :=
  cmpi .sgt (Host.scatter scatter_S20000_S128x1_S128_n_0_0_1 (fun _ b => b) (select (cmpf .oge (res_main_v141 V0) (broadcastInDim S20000 ![] bcast_S_S20000 (constant S_ .f32 0x3F19999A#32))) (select (Host.reduce IntOp.andi (andi (cmpi .sge (res_main_call6_v5 V0) (broadcastInDim S20000x1 ![] bcast_S_S20000x1 (constantI S_ 32 0#32))) (cmpi .sle (res_main_call6_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 (V0 (Proc.devRef .tc main_arg2)) (res_main_call6_v5 V0)) (broadcastInDim S20000 ![] bcast_S_S20000 (constantI S_ 32 2147483648#32))) (id (select (cmpf .olt (res_main_v141 V0) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))))) (broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0))) (V0 (Proc.devRef .tc main_arg2))) (broadcastInDim S20000 ![] bcast_S_S20000 (constantI S_ 32 0#32))

set_option maxRecDepth 65536 in
/-- `main_v171`'s composed term of the arguments (named: it is used 3 times). -/
def res_main_v171 (V0 : Valuation τ sig (Elt F)) : (Proc.devRef .tc main_v171 : DevRef τ sig).ty.Contents (Elt F) :=
  extractStridedSlice S20000x1 ![0, 3] (V0 (Proc.devRef .tc main_arg0)) slices_S20000x7_S20000x1_0_3

set_option maxRecDepth 65536 in
/-- `main_v172`'s composed term of the arguments (named: it is used 3 times). -/
def res_main_v172 (V0 : Valuation τ sig (Elt F)) : (Proc.devRef .tc main_v172 : DevRef τ sig).ty.Contents (Elt F) :=
  extractStridedSlice S20000x1 ![0, 4] (V0 (Proc.devRef .tc main_arg0)) slices_S20000x7_S20000x1_0_4

set_option maxRecDepth 65536 in
/-- `main_v173`'s composed term of the arguments (named: it is used 2 times). -/
def res_main_v173 (V0 : Valuation τ sig (Elt F)) : (Proc.devRef .tc main_v173 : DevRef τ sig).ty.Contents (Elt F) :=
  extractStridedSlice S20000x1 ![0, 5] (V0 (Proc.devRef .tc main_arg0)) slices_S20000x7_S20000x1_0_5

set_option maxRecDepth 65536 in
/-- `main_v185`'s composed term of the arguments (named: it is used 2 times). -/
def res_main_v185 (V0 : Valuation τ sig (Elt F)) : (Proc.devRef .tc main_v185 : DevRef τ sig).ty.Contents (Elt F) :=
  Host.sqrt (addf (mulf (res_main_v172 V0) (res_main_v172 V0)) (mulf (res_main_v171 V0) (res_main_v171 V0)))

end Cert.ReferenceIdeal.Value

end
-- ==== Proof.RefRun.lean ====
/- The run of the reference: every weakly fair execution of its @main terminates with each result buffer at the
   operations' composed term of the arguments' launch contents, and the arguments unchanged. -/
module

public import proofs.«01_k».proof.Proof.RefOps
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_c, main_c_0, main_c_1, main_c_2, main_c_3, main_c_4, main_c_5, main_v0, main_v1, main_c_6, main_v2, main_v3, main_v4, main_v5, main_v6, main_c_7, main_v7, main_v8, main_c_8, main_v9, main_v10, main_v11, main_v12, main_v13, main_v14, main_v15, main_cst, main_v16, main_v17, main_cst_9, main_v18, main_v19, main_v20, main_cst_10, main_v21, main_v22, main_v23, main_v24, main_cst_11, main_v25, main_v26, main_v27, main_v28, main_c_12, main_v29, main_v30, main_c_13, main_v31, main_v32, main_v33, main_v34, main_v35, main_c_14, main_v36, main_v37, main_c_15, main_v38, main_v39, main_v40, main_v41]
set_option maxRecDepth 65536 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
set_option maxRecDepth 65536 in
set_option maxHeartbeats 2000000 in
theorem val1_main_c_3 (V0 : Valuation τ sig (Elt F)) : val1 V0 (no_index (Proc.devRef .tc main_c_3)) = res_main_c_3 V0 := by
  unfold val1
  simp only [ops_part0]
  after_results_simp
  all_goals rfl
set_option maxRecDepth 65536 in
set_option maxHeartbeats 2000000 in
theorem val1_main_c_4 (V0 : Valuation τ sig (Elt F)) : val1 V0 (no_index (Proc.devRef .tc main_c_4)) = res_main_c_4 V0 := by
  unfold val1
  simp only [ops_part0]
  after_results_simp
  all_goals rfl
set_option maxRecDepth 65536 in
set_option maxHeartbeats 2000000 in
theorem val1_main_v6 (V0 : Valuation τ sig (Elt F)) : val1 V0 (no_index (Proc.devRef .tc main_v6)) = res_main_v6 V0 := by
  unfold val1
  simp only [ops_part0]
  after_results_simp
  simp only [val0_main_arg0] <;> rfl
set_option maxRecDepth 65536 in
set_option maxHeartbeats 2000000 in
theorem val1_main_v13 (V0 : Valuation τ sig (Elt F)) : val1 V0 (no_index (Proc.devRef .tc main_v13)) = res_main_v13 V0 := by
  unfold val1
  simp only [ops_part0]
  after_results_simp
  simp only [val0_main_arg1] <;> rfl
set_option maxRecDepth 65536 in
set_option maxHeartbeats 2000000 in
theorem val1_main_v27 (V0 : Valuation τ sig (Elt F)) : val1 V0 (no_index (Proc.devRef .tc main_v27)) = broadcastInDim S20000x1 ![0] bcast_S20000_S20000x1_0 (cmpf .ogt (Host.absf (subf (res_main_v15 V0) (mulf (Host.floor (addf (Host.divf (res_main_v15 V0) (broadcastInDim S20000 ![] bcast_S_S20000 (constant S_ .f32 0x40490FDB#32))) (broadcastInDim S20000 ![] bcast_S_S20000 (constant S_ .f32 0x3F000000#32)))) (broadcastInDim S20000 ![] bcast_S_S20000 (constant S_ .f32 0x40490FDB#32))))) (broadcastInDim S20000 ![] bcast_S_S20000 (constant S_ .f32 0x3F490FDB#32))) := by
  unfold val1
  simp only [ops_part0]
  after_results_simp
  simp only [val0_main_arg0] <;> rfl
set_option maxRecDepth 65536 in
set_option maxHeartbeats 2000000 in
theorem val1_main_v28 (V0 : Valuation τ sig (Elt F)) : val1 V0 (no_index (Proc.devRef .tc main_v28)) = res_main_v28 V0 := by
  unfold val1
  simp only [ops_part0]
  after_results_simp
  simp only [val0_main_arg0] <;> rfl
set_option maxRecDepth 65536 in
set_option maxHeartbeats 2000000 in
theorem val1_main_v35 (V0 : Valuation τ sig (Elt F)) : val1 V0 (no_index (Proc.devRef .tc main_v35)) = Host.gather gather_S20000x5_S2x1_S20000x2_0_1_n_n_1_1_200001 (res_main_v6 V0) (broadcastInDim S2x1 ![0] bcast_S2_S2x1_0 (select (cmpi .slt (res_main_c_1 V0) (broadcastInDim S2 ![] bcast_S_S2 (constantI S_ 32 0#32))) (addi (res_main_c_1 V0) (broadcastInDim S2 ![] bcast_S_S2 (constantI S_ 32 5#32))) (res_main_c_1 V0))) := by
  unfold val1
  simp only [ops_part0]
  after_results_simp
  simp only [val0_main_arg0] <;> rfl
set_option maxRecDepth 65536 in
set_option maxHeartbeats 2000000 in
theorem val1_main_v41 (V0 : Valuation τ sig (Elt F)) : val1 V0 (no_index (Proc.devRef .tc main_v41)) = broadcastInDim S2x1 ![0] bcast_S2_S2x1_0 (select (cmpi .slt (res_main_c_2 V0) (broadcastInDim S2 ![] bcast_S_S2 (constantI S_ 32 0#32))) (addi (res_main_c_2 V0) (broadcastInDim S2 ![] bcast_S_S2 (constantI S_ 32 5#32))) (res_main_c_2 V0)) := by
  unfold val1
  simp only [ops_part0]
  after_results_simp
  all_goals rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v42, main_call0_v0, main_v43, main_cst_16, main_v44, main_v45, main_v46, main_cst_17, main_v47, main_v48, main_v49, main_v50, main_v51, main_v52, main_cst_18, main_v53, main_v54, main_cst_19, main_v55, main_v56, main_v57, main_cst_20, main_v58, main_v59, main_v60, main_v61, main_cst_21, main_v62, main_v63, main_v64]
set_option maxRecDepth 65536 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_c_3 (V0 : Valuation τ sig (Elt F)) : val1_1 V0 (no_index (Proc.devRef .tc main_c_3)) = res_main_c_3 V0 :=
  (val1_1_keep V0 main_c_3 (by decide)).trans (val1_main_c_3 V0)
theorem val1_1_main_c_4 (V0 : Valuation τ sig (Elt F)) : val1_1 V0 (no_index (Proc.devRef .tc main_c_4)) = res_main_c_4 V0 :=
  (val1_1_keep V0 main_c_4 (by decide)).trans (val1_main_c_4 V0)
theorem val1_1_main_v13 (V0 : Valuation τ sig (Elt F)) : val1_1 V0 (no_index (Proc.devRef .tc main_v13)) = res_main_v13 V0 :=
  (val1_1_keep V0 main_v13 (by decide)).trans (val1_main_v13 V0)
set_option maxRecDepth 65536 in
set_option maxHeartbeats 2000000 in
theorem val1_1_main_v50 (V0 : Valuation τ sig (Elt F)) : val1_1 V0 (no_index (Proc.devRef .tc main_v50)) = res_main_v50 V0 := by
  unfold val1_1
  simp only [ops_part1_0, TRef.ternary, TRef.unary, TRef.toBuf, TRef.ofBuf, cast_eq]
  after_results_simp
  simp only [val1_main_v41, val1_main_v6, val1_main_v35, val1_main_v27, val1_main_v28] <;> rfl
set_option maxRecDepth 65536 in
set_option maxHeartbeats 2000000 in
theorem val1_1_main_v64 (V0 : Valuation τ sig (Elt F)) : val1_1 V0 (no_index (Proc.devRef .tc main_v64)) = broadcastInDim S128x1 ![0] bcast_S128_S128x1_0 (cmpf .ogt (Host.absf (subf (res_main_v52 V0) (mulf (Host.floor (addf (Host.divf (res_main_v52 V0) (broadcastInDim S128 ![] bcast_S_S128 (constant S_ .f32 0x40490FDB#32))) (broadcastInDim S128 ![] bcast_S_S128 (constant S_ .f32 0x3F000000#32)))) (broadcastInDim S128 ![] bcast_S_S128 (constant S_ .f32 0x40490FDB#32))))) (broadcastInDim S128 ![] bcast_S_S128 (constant S_ .f32 0x3F490FDB#32))) := by
  unfold val1_1
  simp only [ops_part1_0, TRef.ternary, TRef.unary, TRef.toBuf, TRef.ofBuf, cast_eq]
  after_results_simp
  simp only [val1_main_v13] <;> rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v65, main_c_22, main_v66, main_v67, main_c_23, main_v68, main_v69, main_v70, main_v71, main_v72, main_c_24, main_v73, main_v74, main_c_25, main_v75, main_v76, main_v77, main_v78, main_v79, main_call1_v0, main_v80, main_cst_26, main_v81, main_v82, main_v83, main_cst_27, main_v84, main_v85, main_v86, main_v87]
set_option maxRecDepth 65536 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v50 (V0 : Valuation τ sig (Elt F)) : val1_2 V0 (no_index (Proc.devRef .tc main_v50)) = res_main_v50 V0 :=
  (val1_2_keep V0 main_v50 (by decide)).trans (val1_1_main_v50 V0)
set_option maxRecDepth 65536 in
set_option maxHeartbeats 2000000 in
theorem val1_2_main_v87 (V0 : Valuation τ sig (Elt F)) : val1_2 V0 (no_index (Proc.devRef .tc main_v87)) = res_main_v87 V0 := by
  unfold val1_2
  simp only [ops_part1_1, TRef.ternary, TRef.unary, TRef.toBuf, TRef.ofBuf, cast_eq]
  after_results_simp
  simp only [val1_1_main_c_4, val1_1_main_v13, val1_1_main_c_3, val1_1_main_v64] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v88, main_v89]
set_option maxRecDepth 65536 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v50 (V0 : Valuation τ sig (Elt F)) : val2 V0 (no_index (Proc.devRef .tc main_v50)) = res_main_v50 V0 :=
  (val2_keep V0 main_v50 (by decide)).trans (val1_2_main_v50 V0)
theorem val2_main_v87 (V0 : Valuation τ sig (Elt F)) : val2 V0 (no_index (Proc.devRef .tc main_v87)) = res_main_v87 V0 :=
  (val2_keep V0 main_v87 (by decide)).trans (val1_2_main_v87 V0)
set_option maxRecDepth 65536 in
theorem val2_main_v89 (V0 : Valuation τ sig (Elt F)) : val2 V0 (no_index (Proc.devRef .tc main_v89)) = broadcastInDim S20000x1x2 ![0, 2] bcast_S20000x2_S20000x1x2_0_2 (extractStridedSlice S20000x2 ![0, 0] (res_main_v50 V0) slices_S20000x4_S20000x2_0_0) := by
  unfold val2
  simp only [ops_part1_2]
  after_results_simp
  simp only [val1_2_main_v50] <;> rfl

/-- The device's buffer contents after @main's first 152 operations. -/
def val2_1 (V0 : Valuation τ sig (Elt F)) : Valuation τ sig (Elt F) := after ops_part2_0 (val2 V0)
/-- The buffers that window `ops_part2_0`'s operations write. -/
abbrev ops_part2_0_W : List (Ref sig .tc) := [main_v90, main_v91, main_v92, main_v93, main_v94, main_v95, main_v96, main_v97, main_v98, main_v99, main_v100, main_v101, main_v102, main_cst_28, main_call2_v0, main_call2_v1, main_v103, main_v104, main_v105, main_v106, main_v107, main_v108, main_v109, main_v110, main_v111, main_v112, main_v113, main_v114, main_v115, main_v116]
set_option maxRecDepth 65536 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_v87 (V0 : Valuation τ sig (Elt F)) : val2_1 V0 (no_index (Proc.devRef .tc main_v87)) = res_main_v87 V0 :=
  (val2_1_keep V0 main_v87 (by decide)).trans (val2_main_v87 V0)
set_option maxRecDepth 65536 in
set_option maxHeartbeats 2000000 in
theorem val2_1_main_v108 (V0 : Valuation τ sig (Elt F)) : val2_1 V0 (no_index (Proc.devRef .tc main_v108)) = res_main_v108 V0 := by
  unfold val2_1
  simp only [ops_part2_0, TRef.binary, TRef.unary, TRef.toBuf, TRef.ofBuf, cast_eq]
  after_results_simp
  simp only [val2_main_v87, val2_main_v89, val2_main_v50] <;> rfl
set_option maxRecDepth 65536 in
set_option maxHeartbeats 2000000 in
theorem val2_1_main_v113 (V0 : Valuation τ sig (Elt F)) : val2_1 V0 (no_index (Proc.devRef .tc main_v113)) = subf (shapeCast _ (extractStridedSlice S20000x1 ![0, 2] (res_main_v50 V0) slices_S20000x4_S20000x1_0_2) shapeCasts_S20000x1_S20000) (shapeCast _ (extractStridedSlice S20000x1 ![0, 0] (res_main_v50 V0) slices_S20000x4_S20000x1_0_0) shapeCasts_S20000x1_S20000) := by
  unfold val2_1
  simp only [ops_part2_0, TRef.binary, TRef.unary, TRef.toBuf, TRef.ofBuf, cast_eq]
  after_results_simp
  simp only [val2_main_v50] <;> rfl
set_option maxRecDepth 65536 in
set_option maxHeartbeats 2000000 in
theorem val2_1_main_v115 (V0 : Valuation τ sig (Elt F)) : val2_1 V0 (no_index (Proc.devRef .tc main_v115)) = shapeCast _ (extractStridedSlice S20000x1 ![0, 3] (res_main_v50 V0) slices_S20000x4_S20000x1_0_3) shapeCasts_S20000x1_S20000 := by
  unfold val2_1
  simp only [ops_part2_0, TRef.binary, TRef.unary, TRef.toBuf, TRef.ofBuf, cast_eq]
  after_results_simp
  simp only [val2_main_v50] <;> rfl
set_option maxRecDepth 65536 in
set_option maxHeartbeats 2000000 in
theorem val2_1_main_v116 (V0 : Valuation τ sig (Elt F)) : val2_1 V0 (no_index (Proc.devRef .tc main_v116)) = extractStridedSlice S20000x1 ![0, 1] (res_main_v50 V0) slices_S20000x4_S20000x1_0_1 := by
  unfold val2_1
  simp only [ops_part2_0, TRef.binary, TRef.unary, TRef.toBuf, TRef.ofBuf, cast_eq]
  after_results_simp
  simp only [val2_main_v50] <;> rfl

/-- The device's buffer contents after @main's first 182 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v117, main_v118, main_v119, main_v120, main_v121, main_v122, main_v123, main_v124, main_v125, main_v126, main_v127, main_v128, main_v129, main_v130, main_v131, main_v132, main_v133, main_v134, main_v135, main_v136, main_cst_29, main_v137, main_v138, main_v139, main_call3_v0, main_call3_cst, main_call3_c, main_call3_v1_0, main_v140, main_cst_30]
set_option maxRecDepth 65536 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
set_option maxRecDepth 65536 in
set_option maxHeartbeats 2000000 in
theorem val2_2_main_v139 (V0 : Valuation τ sig (Elt F)) : val2_2 V0 (no_index (Proc.devRef .tc main_v139)) = res_main_v139 V0 := by
  unfold val2_2
  simp only [ops_part2_1, TRef.nullary, TRef.quaternary, TRef.toBuf, TRef.ofBuf, cast_eq]
  after_results_simp
  simp only [val2_1_main_v87, val2_1_main_v116, val2_1_main_v115, val2_1_main_v113, val2_1_main_v108] <;> rfl
set_option maxRecDepth 65536 in
set_option maxHeartbeats 2000000 in
theorem val2_2_main_v140 (V0 : Valuation τ sig (Elt F)) : val2_2 V0 (no_index (Proc.devRef .tc main_v140)) = res_main_v140 V0 := by
  unfold val2_2
  simp only [ops_part2_1, TRef.nullary, TRef.quaternary, TRef.toBuf, TRef.ofBuf, cast_eq]
  after_results_simp
  simp only [val2_1_main_v87, val2_1_main_v116, val2_1_main_v115, val2_1_main_v113, val2_1_main_v108] <;> rfl
set_option maxRecDepth 65536 in
set_option maxHeartbeats 2000000 in
theorem val2_2_main_cst_30 (V0 : Valuation τ sig (Elt F)) : val2_2 V0 (no_index (Proc.devRef .tc main_cst_30)) = constant S_ .f32 0xFF800000#32 := by
  unfold val2_2
  simp only [ops_part2_1, TRef.nullary, TRef.quaternary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v141, main_call4_v0, main_call4_cst, main_call4_c, main_call4_v1_0, main_v142, main_cst_31, main_v143, main_v144, main_c_32]
set_option maxRecDepth 65536 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_v140 (V0 : Valuation τ sig (Elt F)) : val3 V0 (no_index (Proc.devRef .tc main_v140)) = res_main_v140 V0 :=
  (val3_keep V0 main_v140 (by decide)).trans (val2_2_main_v140 V0)
set_option maxRecDepth 65536 in
set_option maxHeartbeats 1000000 in
theorem val3_main_v141 (V0 : Valuation τ sig (Elt F)) : val3 V0 (no_index (Proc.devRef .tc main_v141)) = res_main_v141 V0 := by
  unfold val3
  simp only [ops_part2_2, TRef.nullary, TRef.quaternary, TRef.toBuf, TRef.ofBuf, cast_eq]
  after_results_simp
  simp only [val2_2_main_cst_30, val2_2_main_v139] <;> rfl
set_option maxRecDepth 65536 in
set_option maxHeartbeats 1000000 in
theorem val3_main_v142 (V0 : Valuation τ sig (Elt F)) : val3 V0 (no_index (Proc.devRef .tc main_v142)) = res_main_v142 V0 := by
  unfold val3
  simp only [ops_part2_2, TRef.nullary, TRef.quaternary, TRef.toBuf, TRef.ofBuf, cast_eq]
  after_results_simp
  simp only [val2_2_main_v139] <;> rfl
set_option maxRecDepth 65536 in
set_option maxHeartbeats 1000000 in
theorem val3_main_v144 (V0 : Valuation τ sig (Elt F)) : val3 V0 (no_index (Proc.devRef .tc main_v144)) = cmpf .olt (res_main_v141 V0) (broadcastInDim S20000 ![] bcast_S_S20000 (constant S_ .f32 0x3EE66666#32)) := by
  unfold val3
  simp only [ops_part2_2, TRef.nullary, TRef.quaternary, TRef.toBuf, TRef.ofBuf, cast_eq]
  after_results_simp
  simp only [val2_2_main_cst_30, val2_2_main_v139] <;> rfl
set_option maxRecDepth 65536 in
set_option maxHeartbeats 1000000 in
theorem val3_main_c_32 (V0 : Valuation τ sig (Elt F)) : val3 V0 (no_index (Proc.devRef .tc main_c_32)) = constantI S_ 32 0#32 := by
  unfold val3
  simp only [ops_part2_2, TRef.nullary, TRef.quaternary, TRef.toBuf, TRef.ofBuf, cast_eq]
  after_results_simp
  all_goals rfl

/-- The device's buffer contents after @main's first 222 operations. -/
def val3_1 (V0 : Valuation τ sig (Elt F)) : Valuation τ sig (Elt F) := after ops_part3_0 (val3 V0)
/-- The buffers that window `ops_part3_0`'s operations write. -/
abbrev ops_part3_0_W : List (Ref sig .tc) := [main_c_33, main_call5_v0, main_call5_v1, main_v145, main_cst_34, main_v146, main_v147, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_c_4, main_call6_v14, main_v148, main_call7_v0]
set_option maxRecDepth 65536 in
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_v140 (V0 : Valuation τ sig (Elt F)) : val3_1 V0 (no_index (Proc.devRef .tc main_v140)) = res_main_v140 V0 :=
  (val3_1_keep V0 main_v140 (by decide)).trans (val3_main_v140 V0)
theorem val3_1_main_v142 (V0 : Valuation τ sig (Elt F)) : val3_1 V0 (no_index (Proc.devRef .tc main_v142)) = res_main_v142 V0 :=
  (val3_1_keep V0 main_v142 (by decide)).trans (val3_main_v142 V0)
set_option maxRecDepth 65536 in
set_option maxHeartbeats 2000000 in
theorem val3_1_main_v147 (V0 : Valuation τ sig (Elt F)) : val3_1 V0 (no_index (Proc.devRef .tc main_v147)) = cmpf .oge (res_main_v141 V0) (broadcastInDim S20000 ![] bcast_S_S20000 (constant S_ .f32 0x3F19999A#32)) := by
  unfold val3_1
  simp only [ops_part3_0, TRef.binary, TRef.nullary, TRef.ternary, TRef.unary, TRef.toBuf, TRef.ofBuf, cast_eq]
  after_results_simp
  simp only [val3_main_v141] <;> rfl
set_option maxRecDepth 65536 in
set_option maxHeartbeats 2000000 in
theorem val3_1_main_v148 (V0 : Valuation τ sig (Elt F)) : val3_1 V0 (no_index (Proc.devRef .tc main_v148)) = select (Host.reduce IntOp.andi (andi (cmpi .sge (res_main_call6_v5 V0) (broadcastInDim S20000x1 ![] bcast_S_S20000x1 (constantI S_ 32 0#32))) (cmpi .sle (res_main_call6_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 (V0 (Proc.devRef .tc main_arg2)) (res_main_call6_v5 V0)) (broadcastInDim S20000 ![] bcast_S_S20000 (constantI S_ 32 2147483648#32)) := by
  unfold val3_1
  simp only [ops_part3_0, TRef.binary, TRef.nullary, TRef.ternary, TRef.unary, TRef.toBuf, TRef.ofBuf, cast_eq]
  after_results_simp
  simp only [val3_main_v140, val3_main_arg2] <;> rfl
set_option maxRecDepth 65536 in
set_option maxHeartbeats 2000000 in
theorem val3_1_main_call7_v0 (V0 : Valuation τ sig (Elt F)) : val3_1 V0 (no_index (Proc.devRef .tc main_call7_v0)) = id (select (cmpf .olt (res_main_v141 V0) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))) := by
  unfold val3_1
  simp only [ops_part3_0, TRef.binary, TRef.nullary, TRef.ternary, TRef.unary, TRef.toBuf, TRef.ofBuf, cast_eq]
  after_results_simp
  simp only [val3_main_c_32, val3_main_v144] <;> rfl

/-- The device's buffer contents after @main's first 252 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v149, main_c_35, main_v150, main_v151, main_c_36, main_v152, main_v153, main_v154, main_v155, main_v156, main_v157, main_c_37, main_v158, main_v159, main_c_38, main_v160, main_v161, main_v162, main_v163, main_v164, main_call8_c, main_call8_v0, main_call8_v1, main_call8_c_0, main_call8_v2, main_call8_v3, main_call8_v4, main_call8_v5, main_call8_c_1, main_call8_c_2]
set_option maxRecDepth 65536 in
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
set_option maxRecDepth 65536 in
set_option maxHeartbeats 2000000 in
theorem val3_2_main_v156 (V0 : Valuation τ sig (Elt F)) : val3_2 V0 (no_index (Proc.devRef .tc main_v156)) = Host.scatter scatter_S20000_S128x1_S128_n_0_0_1 (fun _ b => b) (select (cmpf .oge (res_main_v141 V0) (broadcastInDim S20000 ![] bcast_S_S20000 (constant S_ .f32 0x3F19999A#32))) (select (Host.reduce IntOp.andi (andi (cmpi .sge (res_main_call6_v5 V0) (broadcastInDim S20000x1 ![] bcast_S_S20000x1 (constantI S_ 32 0#32))) (cmpi .sle (res_main_call6_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 (V0 (Proc.devRef .tc main_arg2)) (res_main_call6_v5 V0)) (broadcastInDim S20000 ![] bcast_S_S20000 (constantI S_ 32 2147483648#32))) (id (select (cmpf .olt (res_main_v141 V0) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))))) (broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0))) (V0 (Proc.devRef .tc main_arg2)) := by
  unfold val3_2
  simp only [ops_part3_1, TRef.binary, TRef.nullary, TRef.ternary, TRef.unary, TRef.toBuf, TRef.ofBuf, cast_eq]
  after_results_simp
  simp only [val3_1_main_arg2, val3_1_main_v142, val3_1_main_call7_v0, val3_1_main_v148, val3_1_main_v147] <;> rfl
set_option maxRecDepth 65536 in
set_option maxHeartbeats 2000000 in
theorem val3_2_main_call8_v5 (V0 : Valuation τ sig (Elt F)) : val3_2 V0 (no_index (Proc.devRef .tc main_call8_v5)) = res_main_call8_v5 V0 := by
  unfold val3_2
  simp only [ops_part3_1, TRef.binary, TRef.nullary, TRef.ternary, TRef.unary, TRef.toBuf, TRef.ofBuf, cast_eq]
  after_results_simp
  simp only [val3_1_main_v142, val3_1_main_v140] <;> rfl
set_option maxRecDepth 65536 in
set_option maxHeartbeats 2000000 in
theorem val3_2_main_call8_c_1 (V0 : Valuation τ sig (Elt F)) : val3_2 V0 (no_index (Proc.devRef .tc main_call8_c_1)) = constantI S1 32 127#32 := by
  unfold val3_2
  simp only [ops_part3_1, TRef.binary, TRef.nullary, TRef.ternary, TRef.unary, TRef.toBuf, TRef.ofBuf, cast_eq]
  after_results_simp
  all_goals rfl
set_option maxRecDepth 65536 in
set_option maxHeartbeats 2000000 in
theorem val3_2_main_call8_c_2 (V0 : Valuation τ sig (Elt F)) : val3_2 V0 (no_index (Proc.devRef .tc main_call8_c_2)) = constantI S_ 32 0#32 := by
  unfold val3_2
  simp only [ops_part3_1, TRef.binary, TRef.nullary, TRef.ternary, TRef.unary, TRef.toBuf, TRef.ofBuf, cast_eq]
  after_results_simp
  all_goals rfl

/-- The device's buffer contents after @main's first 282 operations. -/
def val3_3 (V0 : Valuation τ sig (Elt F)) : Valuation τ sig (Elt F) := after ops_part3_2 (val3_2 V0)
/-- The buffers that window `ops_part3_2`'s operations write. -/
abbrev ops_part3_2_W : List (Ref sig .tc) := [main_call8_v6, main_call8_v7, main_call8_v8, main_call8_v9, main_call8_v10, main_call8_v11, main_call8_c_3, main_call8_v12, main_call8_v13, main_call8_v14, main_call8_cst, main_call8_v15, main_v165, main_c_39, main_v166, main_v167, main_v168, main_v169, main_v170, main_v171, main_v172, main_v173, main_v174, main_v175, main_v176, main_v177, main_v178, main_v179, main_v180, main_v181]
set_option maxRecDepth 65536 in
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val3_3_keep (V0 : Valuation τ sig (Elt F)) (r : Ref sig .tc) (h : r ∉ ops_part3_2_W) :
    val3_3 V0 (Proc.devRef .tc r) = val3_2 V0 (Proc.devRef .tc r) :=
  after_of_writes_sub ops_part3_2 _ ops_part3_2_writes h
theorem val3_3_main_arg0 (V0 : Valuation τ sig (Elt F)) : val3_3 V0 (no_index (Proc.devRef .tc main_arg0)) = V0 (Proc.devRef .tc main_arg0) :=
  (val3_3_keep V0 main_arg0 (by decide)).trans (val3_2_main_arg0 V0)
theorem val3_3_main_arg1 (V0 : Valuation τ sig (Elt F)) : val3_3 V0 (no_index (Proc.devRef .tc main_arg1)) = V0 (Proc.devRef .tc main_arg1) :=
  (val3_3_keep V0 main_arg1 (by decide)).trans (val3_2_main_arg1 V0)
theorem val3_3_main_arg2 (V0 : Valuation τ sig (Elt F)) : val3_3 V0 (no_index (Proc.devRef .tc main_arg2)) = V0 (Proc.devRef .tc main_arg2) :=
  (val3_3_keep V0 main_arg2 (by decide)).trans (val3_2_main_arg2 V0)
theorem val3_3_main_v156 (V0 : Valuation τ sig (Elt F)) : val3_3 V0 (no_index (Proc.devRef .tc main_v156)) = Host.scatter scatter_S20000_S128x1_S128_n_0_0_1 (fun _ b => b) (select (cmpf .oge (res_main_v141 V0) (broadcastInDim S20000 ![] bcast_S_S20000 (constant S_ .f32 0x3F19999A#32))) (select (Host.reduce IntOp.andi (andi (cmpi .sge (res_main_call6_v5 V0) (broadcastInDim S20000x1 ![] bcast_S_S20000x1 (constantI S_ 32 0#32))) (cmpi .sle (res_main_call6_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 (V0 (Proc.devRef .tc main_arg2)) (res_main_call6_v5 V0)) (broadcastInDim S20000 ![] bcast_S_S20000 (constantI S_ 32 2147483648#32))) (id (select (cmpf .olt (res_main_v141 V0) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))))) (broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0))) (V0 (Proc.devRef .tc main_arg2)) :=
  (val3_3_keep V0 main_v156 (by decide)).trans (val3_2_main_v156 V0)
set_option maxRecDepth 65536 in
set_option maxHeartbeats 2000000 in
theorem val3_3_main_v167 (V0 : Valuation τ sig (Elt F)) : val3_3 V0 (no_index (Proc.devRef .tc main_v167)) = res_main_v167 V0 := by
  unfold val3_3
  simp only [ops_part3_2, TRef.binary, TRef.nullary, TRef.ternary, TRef.unary, TRef.toBuf, TRef.ofBuf, cast_eq]
  after_results_simp
  simp only [val3_2_main_v156] <;> rfl
set_option maxRecDepth 65536 in
set_option maxHeartbeats 2000000 in
theorem val3_3_main_v168 (V0 : Valuation τ sig (Elt F)) : val3_3 V0 (no_index (Proc.devRef .tc main_v168)) = extractStridedSlice S20000x1 ![0, 0] (V0 (Proc.devRef .tc main_arg0)) slices_S20000x7_S20000x1_0_0 := by
  unfold val3_3
  simp only [ops_part3_2, TRef.binary, TRef.nullary, TRef.ternary, TRef.unary, TRef.toBuf, TRef.ofBuf, cast_eq]
  after_results_simp
  simp only [val3_2_main_arg0] <;> rfl
set_option maxRecDepth 65536 in
set_option maxHeartbeats 2000000 in
theorem val3_3_main_v169 (V0 : Valuation τ sig (Elt F)) : val3_3 V0 (no_index (Proc.devRef .tc main_v169)) = extractStridedSlice S20000x1 ![0, 1] (V0 (Proc.devRef .tc main_arg0)) slices_S20000x7_S20000x1_0_1 := by
  unfold val3_3
  simp only [ops_part3_2, TRef.binary, TRef.nullary, TRef.ternary, TRef.unary, TRef.toBuf, TRef.ofBuf, cast_eq]
  after_results_simp
  simp only [val3_2_main_arg0] <;> rfl
set_option maxRecDepth 65536 in
set_option maxHeartbeats 2000000 in
theorem val3_3_main_v170 (V0 : Valuation τ sig (Elt F)) : val3_3 V0 (no_index (Proc.devRef .tc main_v170)) = extractStridedSlice S20000x1 ![0, 2] (V0 (Proc.devRef .tc main_arg0)) slices_S20000x7_S20000x1_0_2 := by
  unfold val3_3
  simp only [ops_part3_2, TRef.binary, TRef.nullary, TRef.ternary, TRef.unary, TRef.toBuf, TRef.ofBuf, cast_eq]
  after_results_simp
  simp only [val3_2_main_arg0] <;> rfl
set_option maxRecDepth 65536 in
set_option maxHeartbeats 2000000 in
theorem val3_3_main_v171 (V0 : Valuation τ sig (Elt F)) : val3_3 V0 (no_index (Proc.devRef .tc main_v171)) = res_main_v171 V0 := by
  unfold val3_3
  simp only [ops_part3_2, TRef.binary, TRef.nullary, TRef.ternary, TRef.unary, TRef.toBuf, TRef.ofBuf, cast_eq]
  after_results_simp
  simp only [val3_2_main_arg0] <;> rfl
set_option maxRecDepth 65536 in
set_option maxHeartbeats 2000000 in
theorem val3_3_main_v172 (V0 : Valuation τ sig (Elt F)) : val3_3 V0 (no_index (Proc.devRef .tc main_v172)) = res_main_v172 V0 := by
  unfold val3_3
  simp only [ops_part3_2, TRef.binary, TRef.nullary, TRef.ternary, TRef.unary, TRef.toBuf, TRef.ofBuf, cast_eq]
  after_results_simp
  simp only [val3_2_main_arg0] <;> rfl
set_option maxRecDepth 65536 in
set_option maxHeartbeats 2000000 in
theorem val3_3_main_v173 (V0 : Valuation τ sig (Elt F)) : val3_3 V0 (no_index (Proc.devRef .tc main_v173)) = res_main_v173 V0 := by
  unfold val3_3
  simp only [ops_part3_2, TRef.binary, TRef.nullary, TRef.ternary, TRef.unary, TRef.toBuf, TRef.ofBuf, cast_eq]
  after_results_simp
  simp only [val3_2_main_arg0] <;> rfl
set_option maxRecDepth 65536 in
set_option maxHeartbeats 2000000 in
theorem val3_3_main_v174 (V0 : Valuation τ sig (Elt F)) : val3_3 V0 (no_index (Proc.devRef .tc main_v174)) = extractStridedSlice S20000x1 ![0, 6] (V0 (Proc.devRef .tc main_arg0)) slices_S20000x7_S20000x1_0_6 := by
  unfold val3_3
  simp only [ops_part3_2, TRef.binary, TRef.nullary, TRef.ternary, TRef.unary, TRef.toBuf, TRef.ofBuf, cast_eq]
  after_results_simp
  simp only [val3_2_main_arg0] <;> rfl
set_option maxRecDepth 65536 in
set_option maxHeartbeats 2000000 in
theorem val3_3_main_v175 (V0 : Valuation τ sig (Elt F)) : val3_3 V0 (no_index (Proc.devRef .tc main_v175)) = extractStridedSlice S20000x1 ![0, 0] (res_main_v165 V0) slices_S20000x7_S20000x1_0_0 := by
  unfold val3_3
  simp only [ops_part3_2, TRef.binary, TRef.nullary, TRef.ternary, TRef.unary, TRef.toBuf, TRef.ofBuf, cast_eq]
  after_results_simp
  simp only [val3_2_main_call8_v5, val3_2_main_arg1, val3_2_main_call8_c_1, val3_2_main_call8_c_2] <;> rfl
set_option maxRecDepth 65536 in
set_option maxHeartbeats 2000000 in
theorem val3_3_main_v176 (V0 : Valuation τ sig (Elt F)) : val3_3 V0 (no_index (Proc.devRef .tc main_v176)) = extractStridedSlice S20000x1 ![0, 1] (res_main_v165 V0) slices_S20000x7_S20000x1_0_1 := by
  unfold val3_3
  simp only [ops_part3_2, TRef.binary, TRef.nullary, TRef.ternary, TRef.unary, TRef.toBuf, TRef.ofBuf, cast_eq]
  after_results_simp
  simp only [val3_2_main_call8_v5, val3_2_main_arg1, val3_2_main_call8_c_1, val3_2_main_call8_c_2] <;> rfl
set_option maxRecDepth 65536 in
set_option maxHeartbeats 2000000 in
theorem val3_3_main_v177 (V0 : Valuation τ sig (Elt F)) : val3_3 V0 (no_index (Proc.devRef .tc main_v177)) = extractStridedSlice S20000x1 ![0, 2] (res_main_v165 V0) slices_S20000x7_S20000x1_0_2 := by
  unfold val3_3
  simp only [ops_part3_2, TRef.binary, TRef.nullary, TRef.ternary, TRef.unary, TRef.toBuf, TRef.ofBuf, cast_eq]
  after_results_simp
  simp only [val3_2_main_call8_v5, val3_2_main_arg1, val3_2_main_call8_c_1, val3_2_main_call8_c_2] <;> rfl
set_option maxRecDepth 65536 in
set_option maxHeartbeats 2000000 in
theorem val3_3_main_v178 (V0 : Valuation τ sig (Elt F)) : val3_3 V0 (no_index (Proc.devRef .tc main_v178)) = extractStridedSlice S20000x1 ![0, 3] (res_main_v165 V0) slices_S20000x7_S20000x1_0_3 := by
  unfold val3_3
  simp only [ops_part3_2, TRef.binary, TRef.nullary, TRef.ternary, TRef.unary, TRef.toBuf, TRef.ofBuf, cast_eq]
  after_results_simp
  simp only [val3_2_main_call8_v5, val3_2_main_arg1, val3_2_main_call8_c_1, val3_2_main_call8_c_2] <;> rfl
set_option maxRecDepth 65536 in
set_option maxHeartbeats 2000000 in
theorem val3_3_main_v179 (V0 : Valuation τ sig (Elt F)) : val3_3 V0 (no_index (Proc.devRef .tc main_v179)) = extractStridedSlice S20000x1 ![0, 4] (res_main_v165 V0) slices_S20000x7_S20000x1_0_4 := by
  unfold val3_3
  simp only [ops_part3_2, TRef.binary, TRef.nullary, TRef.ternary, TRef.unary, TRef.toBuf, TRef.ofBuf, cast_eq]
  after_results_simp
  simp only [val3_2_main_call8_v5, val3_2_main_arg1, val3_2_main_call8_c_1, val3_2_main_call8_c_2] <;> rfl
set_option maxRecDepth 65536 in
set_option maxHeartbeats 2000000 in
theorem val3_3_main_v180 (V0 : Valuation τ sig (Elt F)) : val3_3 V0 (no_index (Proc.devRef .tc main_v180)) = extractStridedSlice S20000x1 ![0, 5] (res_main_v165 V0) slices_S20000x7_S20000x1_0_5 := by
  unfold val3_3
  simp only [ops_part3_2, TRef.binary, TRef.nullary, TRef.ternary, TRef.unary, TRef.toBuf, TRef.ofBuf, cast_eq]
  after_results_simp
  simp only [val3_2_main_call8_v5, val3_2_main_arg1, val3_2_main_call8_c_1, val3_2_main_call8_c_2] <;> rfl
set_option maxRecDepth 65536 in
set_option maxHeartbeats 2000000 in
theorem val3_3_main_v181 (V0 : Valuation τ sig (Elt F)) : val3_3 V0 (no_index (Proc.devRef .tc main_v181)) = extractStridedSlice S20000x1 ![0, 6] (res_main_v165 V0) slices_S20000x7_S20000x1_0_6 := by
  unfold val3_3
  simp only [ops_part3_2, TRef.binary, TRef.nullary, TRef.ternary, TRef.unary, TRef.toBuf, TRef.ofBuf, cast_eq]
  after_results_simp
  simp only [val3_2_main_call8_v5, val3_2_main_arg1, val3_2_main_call8_c_1, val3_2_main_call8_c_2] <;> rfl

/-- The device's buffer contents after @main's first 4 windows. -/
def val4 (V0 : Valuation τ sig (Elt F)) : Valuation τ sig (Elt F) := after ops_part3_3 (val3_3 V0)
/-- The buffers that window `ops_part3_3`'s operations write. -/
abbrev ops_part3_3_W : List (Ref sig .tc) := [main_v182, main_v183, main_v184, main_v185, main_v186, main_v187, main_v188, main_v189, main_v190, main_v191, main_v192, main_v193, main_v194, main_v195, main_v196, main_v197]
set_option maxRecDepth 65536 in
theorem ops_part3_3_writes : (ops_part3_3 : List (HloOp τ sig (Elt F))).Forall fun op => op.writes ⊆ (ops_part3_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_3` does not write keeps its contents through it. -/
theorem val4_keep (V0 : Valuation τ sig (Elt F)) (r : Ref sig .tc) (h : r ∉ ops_part3_3_W) :
    val4 V0 (Proc.devRef .tc r) = val3_3 V0 (Proc.devRef .tc r) :=
  after_of_writes_sub ops_part3_3 _ ops_part3_3_writes h
theorem val4_main_arg0 (V0 : Valuation τ sig (Elt F)) : val4 V0 (no_index (Proc.devRef .tc main_arg0)) = V0 (Proc.devRef .tc main_arg0) :=
  (val4_keep V0 main_arg0 (by decide)).trans (val3_3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_3_main_arg2 V0)
theorem val4_main_v156 (V0 : Valuation τ sig (Elt F)) : val4 V0 (no_index (Proc.devRef .tc main_v156)) = Host.scatter scatter_S20000_S128x1_S128_n_0_0_1 (fun _ b => b) (select (cmpf .oge (res_main_v141 V0) (broadcastInDim S20000 ![] bcast_S_S20000 (constant S_ .f32 0x3F19999A#32))) (select (Host.reduce IntOp.andi (andi (cmpi .sge (res_main_call6_v5 V0) (broadcastInDim S20000x1 ![] bcast_S_S20000x1 (constantI S_ 32 0#32))) (cmpi .sle (res_main_call6_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 (V0 (Proc.devRef .tc main_arg2)) (res_main_call6_v5 V0)) (broadcastInDim S20000 ![] bcast_S_S20000 (constantI S_ 32 2147483648#32))) (id (select (cmpf .olt (res_main_v141 V0) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))))) (broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0))) (V0 (Proc.devRef .tc main_arg2)) :=
  (val4_keep V0 main_v156 (by decide)).trans (val3_3_main_v156 V0)
theorem val4_main_v167 (V0 : Valuation τ sig (Elt F)) : val4 V0 (no_index (Proc.devRef .tc main_v167)) = res_main_v167 V0 :=
  (val4_keep V0 main_v167 (by decide)).trans (val3_3_main_v167 V0)
theorem val4_main_v174 (V0 : Valuation τ sig (Elt F)) : val4 V0 (no_index (Proc.devRef .tc main_v174)) = extractStridedSlice S20000x1 ![0, 6] (V0 (Proc.devRef .tc main_arg0)) slices_S20000x7_S20000x1_0_6 :=
  (val4_keep V0 main_v174 (by decide)).trans (val3_3_main_v174 V0)
theorem val4_main_v181 (V0 : Valuation τ sig (Elt F)) : val4 V0 (no_index (Proc.devRef .tc main_v181)) = extractStridedSlice S20000x1 ![0, 6] (res_main_v165 V0) slices_S20000x7_S20000x1_0_6 :=
  (val4_keep V0 main_v181 (by decide)).trans (val3_3_main_v181 V0)
set_option maxRecDepth 65536 in
set_option maxHeartbeats 1600000 in
theorem val4_main_v187 (V0 : Valuation τ sig (Elt F)) : val4 V0 (no_index (Proc.devRef .tc main_v187)) = Host.divf (subf (extractStridedSlice S20000x1 ![0, 0] (res_main_v165 V0) slices_S20000x7_S20000x1_0_0) (extractStridedSlice S20000x1 ![0, 0] (V0 (Proc.devRef .tc main_arg0)) slices_S20000x7_S20000x1_0_0)) (res_main_v185 V0) := by
  unfold val4
  simp only [ops_part3_3]
  after_results_simp
  simp only [val3_3_main_v171, val3_3_main_v172, val3_3_main_v168, val3_3_main_v175] <;> rfl
set_option maxRecDepth 65536 in
set_option maxHeartbeats 1600000 in
theorem val4_main_v189 (V0 : Valuation τ sig (Elt F)) : val4 V0 (no_index (Proc.devRef .tc main_v189)) = Host.divf (subf (extractStridedSlice S20000x1 ![0, 1] (res_main_v165 V0) slices_S20000x7_S20000x1_0_1) (extractStridedSlice S20000x1 ![0, 1] (V0 (Proc.devRef .tc main_arg0)) slices_S20000x7_S20000x1_0_1)) (res_main_v185 V0) := by
  unfold val4
  simp only [ops_part3_3]
  after_results_simp
  simp only [val3_3_main_v171, val3_3_main_v172, val3_3_main_v169, val3_3_main_v176] <;> rfl
set_option maxRecDepth 65536 in
set_option maxHeartbeats 1600000 in
theorem val4_main_v191 (V0 : Valuation τ sig (Elt F)) : val4 V0 (no_index (Proc.devRef .tc main_v191)) = Host.divf (subf (extractStridedSlice S20000x1 ![0, 2] (res_main_v165 V0) slices_S20000x7_S20000x1_0_2) (extractStridedSlice S20000x1 ![0, 2] (V0 (Proc.devRef .tc main_arg0)) slices_S20000x7_S20000x1_0_2)) (res_main_v173 V0) := by
  unfold val4
  simp only [ops_part3_3]
  after_results_simp
  simp only [val3_3_main_v173, val3_3_main_v170, val3_3_main_v177] <;> rfl
set_option maxRecDepth 65536 in
set_option maxHeartbeats 1600000 in
theorem val4_main_v193 (V0 : Valuation τ sig (Elt F)) : val4 V0 (no_index (Proc.devRef .tc main_v193)) = Host.log (Host.divf (extractStridedSlice S20000x1 ![0, 3] (res_main_v165 V0) slices_S20000x7_S20000x1_0_3) (res_main_v171 V0)) := by
  unfold val4
  simp only [ops_part3_3]
  after_results_simp
  simp only [val3_3_main_v171, val3_3_main_v178] <;> rfl
set_option maxRecDepth 65536 in
set_option maxHeartbeats 1600000 in
theorem val4_main_v195 (V0 : Valuation τ sig (Elt F)) : val4 V0 (no_index (Proc.devRef .tc main_v195)) = Host.log (Host.divf (extractStridedSlice S20000x1 ![0, 4] (res_main_v165 V0) slices_S20000x7_S20000x1_0_4) (res_main_v172 V0)) := by
  unfold val4
  simp only [ops_part3_3]
  after_results_simp
  simp only [val3_3_main_v172, val3_3_main_v179] <;> rfl
set_option maxRecDepth 65536 in
set_option maxHeartbeats 1600000 in
theorem val4_main_v197 (V0 : Valuation τ sig (Elt F)) : val4 V0 (no_index (Proc.devRef .tc main_v197)) = Host.log (Host.divf (extractStridedSlice S20000x1 ![0, 5] (res_main_v165 V0) slices_S20000x7_S20000x1_0_5) (res_main_v173 V0)) := by
  unfold val4
  simp only [ops_part3_3]
  after_results_simp
  simp only [val3_3_main_v173, val3_3_main_v180] <;> rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v198, main_v199, main_v200, main_v201, main_v202, main_v203, main_v204]
set_option maxRecDepth 65536 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_v156 (V0 : Valuation τ sig (Elt F)) : val5 V0 (no_index (Proc.devRef .tc main_v156)) = Host.scatter scatter_S20000_S128x1_S128_n_0_0_1 (fun _ b => b) (select (cmpf .oge (res_main_v141 V0) (broadcastInDim S20000 ![] bcast_S_S20000 (constant S_ .f32 0x3F19999A#32))) (select (Host.reduce IntOp.andi (andi (cmpi .sge (res_main_call6_v5 V0) (broadcastInDim S20000x1 ![] bcast_S_S20000x1 (constantI S_ 32 0#32))) (cmpi .sle (res_main_call6_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 (V0 (Proc.devRef .tc main_arg2)) (res_main_call6_v5 V0)) (broadcastInDim S20000 ![] bcast_S_S20000 (constantI S_ 32 2147483648#32))) (id (select (cmpf .olt (res_main_v141 V0) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))))) (broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0))) (V0 (Proc.devRef .tc main_arg2)) :=
  (val5_keep V0 main_v156 (by decide)).trans (val4_main_v156 V0)
set_option maxRecDepth 65536 in
theorem val5_main_v203 (V0 : Valuation τ sig (Elt F)) : val5 V0 (no_index (Proc.devRef .tc main_v203)) = mulf ((concatenate S20000x7 1 [⟨S20000x1, ((Host.divf (subf (extractStridedSlice S20000x1 ![0, 0] (res_main_v165 V0) slices_S20000x7_S20000x1_0_0) (extractStridedSlice S20000x1 ![0, 0] (V0 (Proc.devRef .tc main_arg0)) slices_S20000x7_S20000x1_0_0)) (res_main_v185 V0)) : (⟨S20000x1, .f32⟩ : BufTy).Contents (Elt F))⟩, ⟨S20000x1, ((Host.divf (subf (extractStridedSlice S20000x1 ![0, 1] (res_main_v165 V0) slices_S20000x7_S20000x1_0_1) (extractStridedSlice S20000x1 ![0, 1] (V0 (Proc.devRef .tc main_arg0)) slices_S20000x7_S20000x1_0_1)) (res_main_v185 V0)) : (⟨S20000x1, .f32⟩ : BufTy).Contents (Elt F))⟩, ⟨S20000x1, ((Host.divf (subf (extractStridedSlice S20000x1 ![0, 2] (res_main_v165 V0) slices_S20000x7_S20000x1_0_2) (extractStridedSlice S20000x1 ![0, 2] (V0 (Proc.devRef .tc main_arg0)) slices_S20000x7_S20000x1_0_2)) (res_main_v173 V0)) : (⟨S20000x1, .f32⟩ : BufTy).Contents (Elt F))⟩, ⟨S20000x1, ((Host.log (Host.divf (extractStridedSlice S20000x1 ![0, 3] (res_main_v165 V0) slices_S20000x7_S20000x1_0_3) (res_main_v171 V0))) : (⟨S20000x1, .f32⟩ : BufTy).Contents (Elt F))⟩, ⟨S20000x1, ((Host.log (Host.divf (extractStridedSlice S20000x1 ![0, 4] (res_main_v165 V0) slices_S20000x7_S20000x1_0_4) (res_main_v172 V0))) : (⟨S20000x1, .f32⟩ : BufTy).Contents (Elt F))⟩, ⟨S20000x1, ((Host.log (Host.divf (extractStridedSlice S20000x1 ![0, 5] (res_main_v165 V0) slices_S20000x7_S20000x1_0_5) (res_main_v173 V0))) : (⟨S20000x1, .f32⟩ : BufTy).Contents (Elt F))⟩, ⟨S20000x1, ((subf (extractStridedSlice S20000x1 ![0, 6] (res_main_v165 V0) slices_S20000x7_S20000x1_0_6) (extractStridedSlice S20000x1 ![0, 6] (V0 (Proc.devRef .tc main_arg0)) slices_S20000x7_S20000x1_0_6)) : (⟨S20000x1, .f32⟩ : BufTy).Contents (Elt F))⟩] concatenates_S20000x1_S20000x1_S20000x1_S20000x1_S20000x1_S20000x1_S20000x1_S20000x7_d1 : (⟨S20000x7, .f32⟩ : BufTy).Contents (Elt F))) (broadcastInDim S20000x7 ![0, 1] bcast_S20000x1_S20000x7_0_1 (uitofp .f32 (broadcastInDim S20000x1 ![0] bcast_S20000_S20000x1_0 (res_main_v167 V0)))) := by
  unfold val5
  simp only [ops_part4]
  after_results_simp
  try dsimp only [Matrix.cons_val]
  try after_results_simp
  simp only [val4_main_v167, val4_main_v174, val4_main_v181, val4_main_v197, val4_main_v195, val4_main_v193, val4_main_v191, val4_main_v189, val4_main_v187] <;> rfl
set_option maxRecDepth 65536 in
theorem val5_main_v204 (V0 : Valuation τ sig (Elt F)) : val5 V0 (no_index (Proc.devRef .tc main_v204)) = uitofp .f32 (res_main_v167 V0) := by
  unfold val5
  simp only [ops_part4]
  after_results_simp
  try dsimp only [Matrix.cons_val]
  try after_results_simp
  simp only [val4_main_v167] <;> rfl

theorem after_ops (V0 : Valuation τ sig (Elt F)) : after ops V0 = val5 V0 := by
  simp only [ops, ops_part1, ops_part2, ops_part3, after_append]
  rfl

set_option maxRecDepth 65536 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v203) = mulf ((concatenate S20000x7 1 [⟨S20000x1, ((Host.divf (subf (extractStridedSlice S20000x1 ![0, 0] (res_main_v165 (launchContents m c)) slices_S20000x7_S20000x1_0_0) (extractStridedSlice S20000x1 ![0, 0] ((launchContents m c) (Proc.devRef .tc main_arg0)) slices_S20000x7_S20000x1_0_0)) (res_main_v185 (launchContents m c))) : (⟨S20000x1, .f32⟩ : BufTy).Contents (Elt F))⟩, ⟨S20000x1, ((Host.divf (subf (extractStridedSlice S20000x1 ![0, 1] (res_main_v165 (launchContents m c)) slices_S20000x7_S20000x1_0_1) (extractStridedSlice S20000x1 ![0, 1] ((launchContents m c) (Proc.devRef .tc main_arg0)) slices_S20000x7_S20000x1_0_1)) (res_main_v185 (launchContents m c))) : (⟨S20000x1, .f32⟩ : BufTy).Contents (Elt F))⟩, ⟨S20000x1, ((Host.divf (subf (extractStridedSlice S20000x1 ![0, 2] (res_main_v165 (launchContents m c)) slices_S20000x7_S20000x1_0_2) (extractStridedSlice S20000x1 ![0, 2] ((launchContents m c) (Proc.devRef .tc main_arg0)) slices_S20000x7_S20000x1_0_2)) (res_main_v173 (launchContents m c))) : (⟨S20000x1, .f32⟩ : BufTy).Contents (Elt F))⟩, ⟨S20000x1, ((Host.log (Host.divf (extractStridedSlice S20000x1 ![0, 3] (res_main_v165 (launchContents m c)) slices_S20000x7_S20000x1_0_3) (res_main_v171 (launchContents m c)))) : (⟨S20000x1, .f32⟩ : BufTy).Contents (Elt F))⟩, ⟨S20000x1, ((Host.log (Host.divf (extractStridedSlice S20000x1 ![0, 4] (res_main_v165 (launchContents m c)) slices_S20000x7_S20000x1_0_4) (res_main_v172 (launchContents m c)))) : (⟨S20000x1, .f32⟩ : BufTy).Contents (Elt F))⟩, ⟨S20000x1, ((Host.log (Host.divf (extractStridedSlice S20000x1 ![0, 5] (res_main_v165 (launchContents m c)) slices_S20000x7_S20000x1_0_5) (res_main_v173 (launchContents m c)))) : (⟨S20000x1, .f32⟩ : BufTy).Contents (Elt F))⟩, ⟨S20000x1, ((subf (extractStridedSlice S20000x1 ![0, 6] (res_main_v165 (launchContents m c)) slices_S20000x7_S20000x1_0_6) (extractStridedSlice S20000x1 ![0, 6] ((launchContents m c) (Proc.devRef .tc main_arg0)) slices_S20000x7_S20000x1_0_6)) : (⟨S20000x1, .f32⟩ : BufTy).Contents (Elt F))⟩] concatenates_S20000x1_S20000x1_S20000x1_S20000x1_S20000x1_S20000x1_S20000x1_S20000x7_d1 : (⟨S20000x7, .f32⟩ : BufTy).Contents (Elt F))) (broadcastInDim S20000x7 ![0, 1] bcast_S20000x1_S20000x7_0_1 (uitofp .f32 (broadcastInDim S20000x1 ![0] bcast_S20000_S20000x1_0 (res_main_v167 (launchContents m c)))))
      ∧ r.2.mem ((c.tc : Thread nD τ).loc main_v156) = Host.scatter scatter_S20000_S128x1_S128_n_0_0_1 (fun _ b => b) (select (cmpf .oge (res_main_v141 (launchContents m c)) (broadcastInDim S20000 ![] bcast_S_S20000 (constant S_ .f32 0x3F19999A#32))) (select (Host.reduce IntOp.andi (andi (cmpi .sge (res_main_call6_v5 (launchContents m c)) (broadcastInDim S20000x1 ![] bcast_S_S20000x1 (constantI S_ 32 0#32))) (cmpi .sle (res_main_call6_v5 (launchContents m c)) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 ((launchContents m c) (Proc.devRef .tc main_arg2)) (res_main_call6_v5 (launchContents m c))) (broadcastInDim S20000 ![] bcast_S_S20000 (constantI S_ 32 2147483648#32))) (id (select (cmpf .olt (res_main_v141 (launchContents m c)) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))))) (broadcastInDim S128x1 ![0] bcast_S128_S128x1_0 (select (cmpi .slt (res_main_v142 (launchContents m c)) (broadcastInDim S128 ![] bcast_S_S128 (constantI S_ 32 0#32))) (addi (res_main_v142 (launchContents m c)) (broadcastInDim S128 ![] bcast_S_S128 (constantI S_ 32 20000#32))) (res_main_v142 (launchContents m c)))) ((launchContents m c) (Proc.devRef .tc main_arg2))
      ∧ r.2.mem ((c.tc : Thread nD τ).loc main_v204) = uitofp .f32 (res_main_v167 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v203).trans ((congrFun (after_ops (launchContents m c)) (Proc.devRef .tc main_v203)).trans (val5_main_v203 (launchContents m c))),
      (h c main_v156).trans ((congrFun (after_ops (launchContents m c)) (Proc.devRef .tc main_v156)).trans (val5_main_v156 (launchContents m c))),
      (h c main_v204).trans ((congrFun (after_ops (launchContents m c)) (Proc.devRef .tc main_v204)).trans (val5_main_v204 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c)))⟩)
    (run_seq scopedRefs_eq scopedSems_eq defs main (fun _ => ops) main_eq (fun _ => ops_sub) m ρ fun _ => ops_fresh)

end Cert.ReferenceIdeal.Value

end
-- ==== Proof.RBase.lean ====
/- Operations of the reference read at an index: rows and columns taken by number, the last of several writes to one
   place, and the place of the largest entry of a row or a column. -/
module

public import proofs.«01_k».proof.Proof.Spec
public import proofs.«01_k».proof.Proof.RefRun
public import Idealize.ShloMosaic.Lib.Pointwise
public import Idealize.ShloMosaic.Lib.Routing.Ops
public import Idealize.ShloMosaic.Lib.Routing.OpsPair

@[expose] public section

noncomputable section

namespace Cert.RBase

open Cert.Pick Cert.ReferenceIdeal Idealize.ShloMosaic Idealize.ShloMosaic.TcCoe

/-! ### Columns, rows and entries taken by number -/

/-- The numbers of a gather of columns: entry `(i, k)` is the operand's at row `i` and column `idx k`. -/
abbrev colDims (N C K : ℕ) (wf : GatherDims.WF ⟨2, ![N, C]⟩ ⟨2, ![K, 1]⟩ ⟨2, ![N, K]⟩ [0] [1] [] [1] [] 1 ![N, 1]) :
    GatherDims ⟨2, ![N, C]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- A gather of columns whose number at `k` is the small word `c` reads column `c`. -/
theorem gather_columns {α : Type} {N C K : ℕ}
    (wf : GatherDims.WF ⟨2, ![N, C]⟩ ⟨2, ![K, 1]⟩ ⟨2, ![N, K]⟩ [0] [1] [] [1] [] 1 ![N, 1])
    (x : (⟨2, ![N, C]⟩ : Shape).Idx → α) (idx : IVec ⟨2, ![K, 1]⟩ 32) (i : Fin N) (k : Fin K) (c : Fin C)
    (hc : (idx (ix2 k (0 : Fin 1))).toInt = c.val) :
    Host.gather (colDims N C K wf) x idx (ix2 i k) = x (ix2 i c) := by
  unfold Host.gather
  congr 1
  funext a
  refine Fin.ext ?_
  match a with
  | ⟨0, _⟩ =>
    show (colDims N C K wf).start (ix2 i k) idx 0 + (colDims N C K wf).batchCoord (ix2 i k) 0
      + (colDims N C K wf).offCoord (ix2 i k) 0 = i.val
    have hs : (0 : Fin 2) ∈ (colDims N C K wf).sKept := by
      rw [GatherDims.mem_sKept]; exact ⟨fun h => (by simp at h), List.not_mem_nil⟩
    have hn : (0 : Fin 2) ∉ (colDims N C K wf).startIndexMap := fun h => (by simp at h)
    rw [GatherDims.batchCoord_eq_zero _ _ _ List.not_mem_nil]
    unfold GatherDims.start GatherDims.offCoord
    rw [dif_neg hn, dif_pos hs]
    have e0 : ∀ X : Fin 2, X = 0 → (ix2 i k X).val = i.val := fun X h => by subst h; rfl
    simp only [Nat.zero_add]
    exact e0 _ (List.mem_singleton.1 (List.getElem_mem _))
  | ⟨1, _⟩ =>
    show (colDims N C K wf).start (ix2 i k) idx 1 + (colDims N C K wf).batchCoord (ix2 i k) 1
      + (colDims N C K wf).offCoord (ix2 i k) 1 = c.val
    have hm : (1 : Fin 2) ∈ (colDims N C K wf).startIndexMap := List.mem_singleton.2 rfl
    rw [GatherDims.batchCoord_eq_zero _ _ _ List.not_mem_nil,
      GatherDims.offCoord_eq_zero _ _ _ (fun h => ((GatherDims.mem_sKept _ _).1 h).1 (List.mem_singleton.2 rfl))]
    unfold GatherDims.start
    rw [dif_pos hm]
    have hsi : (colDims N C K wf).siIdx (ix2 i k) ⟨List.idxOf (1 : Fin 2) (colDims N C K wf).startIndexMap,
        List.idxOf_lt_length_iff.2 hm⟩ = ix2 k (0 : Fin 1) := by
      funext b
      refine Fin.ext ?_
      match b with
      | ⟨0, _⟩ => rfl
      | ⟨1, _⟩ => rfl
    rw [hsi, hc]
    show min ((c.val : ℤ)).toNat (C - 1) + 0 + 0 = c.val
    have := c.isLt
    omega

/-- The numbers of a gather of single entries: entry `i` is the operand's at `idx i`. -/
abbrev oneDims (N K : ℕ) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- A gather of entries whose number at `k` is the small word `c` reads entry `c`. -/
theorem gather_entries {α : Type} {N K : ℕ}
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ 32) (k : Fin K) (c : Fin N)
    (hc : (idx (ix2 k (0 : Fin 1))).toInt = c.val) :
    Host.gather (oneDims N K wf) x idx (ix1 k) = x (ix1 c) := by
  unfold Host.gather
  congr 1
  funext a
  refine Fin.ext ?_
  match a with
  | ⟨0, _⟩ =>
    show (oneDims N K wf).start (ix1 k) idx 0 + (oneDims N K wf).batchCoord (ix1 k) 0
      + (oneDims N K wf).offCoord (ix1 k) 0 = c.val
    have hm : (0 : Fin 1) ∈ (oneDims N K wf).startIndexMap := List.mem_singleton.2 rfl
    rw [GatherDims.batchCoord_eq_zero _ _ _ List.not_mem_nil,
      GatherDims.offCoord_eq_zero _ _ _ (fun h => ((GatherDims.mem_sKept _ _).1 h).1 (List.mem_singleton.2 rfl))]
    unfold GatherDims.start
    rw [dif_pos hm]
    have hsi : (oneDims N K wf).siIdx (ix1 k) ⟨List.idxOf (0 : Fin 1) (oneDims N K wf).startIndexMap,
        List.idxOf_lt_length_iff.2 hm⟩ = ix2 k (0 : Fin 1) := by
      funext b
      refine Fin.ext ?_
      match b with
      | ⟨0, _⟩ => rfl
      | ⟨1, _⟩ => rfl
    rw [hsi, hc]
    show min ((c.val : ℤ)).toNat (N - 1) + 0 + 0 = c.val
    have := c.isLt
    omega

/-! ### Several writes into one array -/

/-- The numbers of a scatter of single entries: update `k` goes to place `idx k`. -/
abbrev putDims (N K : ℕ) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- Update `k` lands at place `i` exactly when its number is `i`. -/
theorem put_lands {N K : ℕ} (wf : ScatterDims.WF ⟨1, ![N]⟩ ⟨2, ![K, 1]⟩ ⟨1, ![K]⟩ [] [0] [0] 1)
    (idx : IVec ⟨2, ![K, 1]⟩ 32) (k : Fin K) (i : Fin N) :
    (putDims N K wf).resultIdx? (ix1 k) idx = some (ix1 i) ↔ (idx (ix2 k (0 : Fin 1))).toInt = i.val := by
  have hm : (0 : Fin 1) ∈ (putDims N K wf).scatterDimsToOperandDims := List.mem_singleton.2 rfl
  have hw : (putDims N K wf).window (ix1 k) 0 = 0 := by
    unfold ScatterDims.window
    refine dif_neg fun h => ?_
    have h2 := of_decide_eq_true (p := (0 : Fin 1) ∉ [(0 : Fin 1)]) (List.mem_filter.1 h).2
    exact h2 (List.mem_singleton.2 rfl)
  have hs : (putDims N K wf).start (ix1 k) idx 0 = (idx (ix2 k (0 : Fin 1))).toInt := by
    unfold ScatterDims.start
    rw [dif_pos hm]
    congr 1
    congr 1
    funext b
    refine Fin.ext ?_
    match b with
    | ⟨0, _⟩ => rfl
    | ⟨1, _⟩ => rfl
  have hi := i.isLt
  have hall : (∀ a : Fin 1, 0 ≤ (putDims N K wf).start (ix1 k) idx a + (putDims N K wf).window (ix1 k) a ∧
      (putDims N K wf).start (ix1 k) idx a + (putDims N K wf).window (ix1 k) a < ((⟨1, ![N]⟩ : Shape).size a : ℤ)) ↔
      0 ≤ (idx (ix2 k (0 : Fin 1))).toInt ∧ (idx (ix2 k (0 : Fin 1))).toInt < N := by
    rw [Fin.forall_fin_one, hs, hw]
    show (0 ≤ _ + ((0 : ℕ) : ℤ) ∧ _ + ((0 : ℕ) : ℤ) < (N : ℤ)) ↔ _
    rw [Nat.cast_zero, add_zero]
  unfold ScatterDims.resultIdx?
  split
  · next h =>
    have h' := hall.1 h
    rw [Option.some_inj]
    constructor
    · intro e
      have e0 : ((putDims N K wf).start (ix1 k) idx 0 + (putDims N K wf).window (ix1 k) 0).toNat = i.val :=
        congrArg Fin.val (congrFun e 0)
      rw [hs, hw] at e0
      omega
    · intro e
      funext a
      refine Fin.ext ?_
      match a with
      | ⟨0, _⟩ =>
        show ((putDims N K wf).start (ix1 k) idx 0 + (putDims N K wf).window (ix1 k) 0).toNat = i.val
        rw [hs, hw, e]
        omega
  · next h =>
    refine ⟨fun e => by simp at e, fun e => absurd (hall.2 ?_) h⟩
    omega

/-- A place that some update goes to holds the last of them; any other keeps what it had. -/
theorem put_apply {α : Type} {N K : ℕ} (wf : ScatterDims.WF ⟨1, ![N]⟩ ⟨2, ![K, 1]⟩ ⟨1, ![K]⟩ [] [0] [0] 1)
    (x : (⟨1, ![N]⟩ : Shape).Idx → α) (idx : IVec ⟨2, ![K, 1]⟩ 32) (u : (⟨1, ![K]⟩ : Shape).Idx → α) (i : Fin N)
    (p : Fin K → Fin N) (hp : ∀ k, (idx (ix2 k (0 : Fin 1))).toInt = (p k).val) :
    (∀ k, p k = i → (∀ j, p j = i → j ≤ k) →
      Host.scatter (putDims N K wf) (fun _ b => b) x idx u (ix1 i) = u (ix1 k)) ∧
    ((∀ k, p k ≠ i) → Host.scatter (putDims N K wf) (fun _ b => b) x idx u (ix1 i) = x (ix1 i)) := by
  classical
  have hn : (⟨1, ![K]⟩ : Shape).numel = K := Routing.numel1 K
  have hsym : ∀ n : Fin (⟨1, ![K]⟩ : Shape).numel, (⟨1, ![K]⟩ : Shape).rowMajor.symm n = ix1 (Fin.cast hn n) := fun n => by
    rw [Equiv.symm_apply_eq]
    exact Fin.ext (Shape.rowMajor_val_one (ix1 (Fin.cast hn n))).symm
  have hland : ∀ n : Fin (⟨1, ![K]⟩ : Shape).numel,
      (putDims N K wf).resultIdx? ((⟨1, ![K]⟩ : Shape).rowMajor.symm n) idx = some (ix1 i) ↔ p (Fin.cast hn n) = i := fun n => by
    rw [hsym, put_lands, hp]
    constructor
    · intro h; exact Fin.ext (by exact_mod_cast h)
    · rintro rfl; rfl
  constructor
  · intro k hk hl
    rw [Routing.scatter_at]
    have := foldl_last (fun n : Fin (⟨1, ![K]⟩ : Shape).numel => p (Fin.cast hn n) = i)
      (fun n => u ((⟨1, ![K]⟩ : Shape).rowMajor.symm n)) (x (ix1 i)) (Fin.cast hn.symm k) (by simpa using hk)
      (fun j hj => by have := hl _ hj; exact Fin.le_def.2 (Fin.le_def.1 this))
    simp only [hland]
    refine this.trans ?_
    rw [hsym]; rfl
  · intro h
    rw [Routing.scatter_at]
    simp only [hland]
    exact foldl_none (fun n : Fin (⟨1, ![K]⟩ : Shape).numel => p (Fin.cast hn n) = i)
      (fun n => u ((⟨1, ![K]⟩ : Shape).rowMajor.symm n)) (x (ix1 i)) (fun n => h _)

/-! ### The largest entry's place -/

/-- The body of the search keeps the larger value, and of equal values the smaller number. -/
theorem reducer_eq (p q : EReal × BitVec 32) :
    reducer_argmax_f32_i32 (F := Ideal) p q =
      if q.1 < p.1 ∨ (p.1 = q.1 ∧ p.2.toInt < q.2.toInt) then p else q := by
  obtain ⟨a, m⟩ := p
  obtain ⟨b, n⟩ := q
  simp only [reducer_argmax_f32_i32, Ideal.cmpf_def, Ideal.cmp, IntOp.cmpi, IntOp.ori, IntOp.andi, Scalar.select, BitVec.slt]
  rcases lt_trichotomy a b with h | h | h
  · simp [h, h.ne, not_lt.2 h.le]
  · subst h
    by_cases hm : m.toInt < n.toInt <;> simp [hm]
  · simp [h, h.ne', not_lt.2 h.le]

/-- Over a list holding the best pair, all others being worse, the search ends at it. -/
theorem search_eq (b : EReal × BitVec 32) (L : List (EReal × BitVec 32)) (hL : ∀ q ∈ L, q = b ∨ Worse b q) (hb : b ∈ L)
    (a : EReal × BitVec 32) (ha : Worse b a) : L.foldl (reducer_argmax_f32_i32 (F := Ideal)) a = b := by
  refine foldl_best _ b (fun q hq => ?_) (fun q hq => ?_) ?_ (fun p q hp hq => ?_) L hL a (.inr ⟨ha, hb⟩)
  · rw [reducer_eq]
    rcases hq with h | ⟨h, h'⟩
    · rw [if_neg]; rintro (h2 | ⟨h2, _⟩); exacts [absurd h2 (not_lt.2 h.le), absurd h2 h.ne]
    · rw [if_neg]; rintro (h2 | ⟨_, h2⟩); exacts [absurd h2 (h ▸ lt_irrefl _), absurd h2 (not_lt.2 h'.le)]
  · rw [reducer_eq]
    rcases hq with h | ⟨h, h'⟩
    · rw [if_pos (.inl h)]
    · rw [if_pos (.inr ⟨h.symm, h'⟩)]
  · rw [reducer_eq]; split_ifs <;> rfl
  · rw [reducer_eq]; split_ifs <;> assumption

/-- The search along the columns finds the first largest place of each row. -/
theorem search_row {N K : ℕ} (hK : K < 2147483647) (x : FVec Ideal ⟨2, ![N, K + 1]⟩ .f32) (y : IVec ⟨2, ![N, K + 1]⟩ 32)
    (ix : FVec Ideal ⟨0, ![]⟩ .f32) (iy : IVec ⟨0, ![]⟩ 32) (h : (⟨2, ![N, K + 1]⟩ : Shape).ReducesTo [1] ⟨1, ![N]⟩) (hu)
    (f : Fin N → Fin (K + 1) → EReal) (hx : ∀ i g, x (ix2 i g) = f i g) (hy : ∀ i (g : Fin (K + 1)), y (ix2 i g) = BitVec.ofNat 32 g.val)
    (hi : ∀ j, ix j = ⊥) (hpos : ∀ i g, 0 ≤ f i g) (i : Fin N) :
    (Host.argReduce (reducer_argmax_f32_i32 (F := Ideal)) x y ix iy h hu (ix1 i)).2 = BitVec.ofNat 32 (first (f i)).val := by
  have hf := first_spec (f i)
  have hd : ∀ j g, h.drop (ix2 j g) = ix1 j := fun j g => by
    funext a
    match a with
    | ⟨0, _⟩ => exact Fin.ext (h.drop_apply_val_of_eq _ _ (0 : Fin 2) Nat.zero_lt_one rfl)
  rw [Ideal.argReduce_eq_reduce2, Host.reduce2_eq_foldl_fiber,
    search_eq (f i (first (f i)), BitVec.ofNat 32 (first (f i)).val)]
  · intro q hq
    unfold Host.argReduceFiber at hq
    rw [List.mem_map] at hq
    obtain ⟨n, hn, rfl⟩ := hq
    have hn' := of_decide_eq_true (List.mem_filter.1 hn).2
    generalize (⟨2, ![N, K + 1]⟩ : Shape).rowMajor.symm n = z at hn'
    obtain ⟨j, g, rfl⟩ : ∃ j g, z = ix2 j g := ⟨z 0, z 1, by funext a; match a with | ⟨0, _⟩ => rfl | ⟨1, _⟩ => rfl⟩
    rw [hd] at hn'
    obtain rfl : j = i := congrFun hn' 0
    rw [hx, hy]
    rcases lt_trichotomy g (first (f j)) with hl | rfl | hl
    · exact .inr (.inl (hf.2 g hl))
    · exact .inl rfl
    · right
      rcases (hf.1 g).lt_or_eq with h1 | h1
      · exact .inl h1
      · refine .inr ⟨h1, ?_⟩
        show (BitVec.ofNat 32 _).toInt < (BitVec.ofNat 32 _).toInt
        rw [toInt_ofNat (by omega), toInt_ofNat (by omega)]
        exact_mod_cast hl
  · unfold Host.argReduceFiber
    rw [List.mem_map]
    refine ⟨(⟨2, ![N, K + 1]⟩ : Shape).rowMajor (ix2 i (first (f i))), List.mem_filter.2 ⟨List.mem_finRange _, ?_⟩, ?_⟩
    · rw [Equiv.symm_apply_apply, hd]; exact decide_eq_true rfl
    · rw [Equiv.symm_apply_apply, hx, hy]
  · left
    show ix _ < f i _
    rw [hi]
    exact lt_of_lt_of_le (by simp) (hpos _ _)

/-- The search along the rows finds the first largest place of each column. -/
theorem search_col {N K : ℕ} (hN : N < 2147483647) (x : FVec Ideal ⟨2, ![N + 1, K]⟩ .f32) (y : IVec ⟨2, ![N + 1, K]⟩ 32)
    (ix : FVec Ideal ⟨0, ![]⟩ .f32) (iy : IVec ⟨0, ![]⟩ 32) (h : (⟨2, ![N + 1, K]⟩ : Shape).ReducesTo [0] ⟨1, ![K]⟩) (hu)
    (f : Fin (N + 1) → Fin K → EReal) (hx : ∀ i g, x (ix2 i g) = f i g) (hy : ∀ (i : Fin (N + 1)) g, y (ix2 i g) = BitVec.ofNat 32 i.val)
    (hi : ∀ j, ix j = ⊥) (hpos : ∀ i g, 0 ≤ f i g) (g : Fin K) :
    (Host.argReduce (reducer_argmax_f32_i32 (F := Ideal)) x y ix iy h hu (ix1 g)).2
      = BitVec.ofNat 32 (first fun i => f i g).val := by
  have hf := first_spec fun i => f i g
  have hd : ∀ j g, h.drop (ix2 j g) = ix1 g := fun j g => by
    funext a
    match a with
    | ⟨0, _⟩ => exact Fin.ext (h.drop_apply_val_of_eq _ _ (1 : Fin 2) Nat.zero_lt_one rfl)
  rw [Ideal.argReduce_eq_reduce2, Host.reduce2_eq_foldl_fiber,
    search_eq (f (first fun i => f i g) g, BitVec.ofNat 32 (first fun i => f i g).val)]
  · intro q hq
    unfold Host.argReduceFiber at hq
    rw [List.mem_map] at hq
    obtain ⟨n, hn, rfl⟩ := hq
    have hn' := of_decide_eq_true (List.mem_filter.1 hn).2
    generalize (⟨2, ![N + 1, K]⟩ : Shape).rowMajor.symm n = z at hn'
    obtain ⟨j, k, rfl⟩ : ∃ j k, z = ix2 j k := ⟨z 0, z 1, by funext a; match a with | ⟨0, _⟩ => rfl | ⟨1, _⟩ => rfl⟩
    rw [hd] at hn'
    obtain rfl : k = g := congrFun hn' 0
    rw [hx, hy]
    rcases lt_trichotomy j (first fun i => f i k) with hl | rfl | hl
    · exact .inr (.inl (hf.2 j hl))
    · exact .inl rfl
    · right
      rcases (hf.1 j).lt_or_eq with h1 | h1
      · exact .inl h1
      · refine .inr ⟨h1, ?_⟩
        show (BitVec.ofNat 32 _).toInt < (BitVec.ofNat 32 _).toInt
        rw [toInt_ofNat (by omega), toInt_ofNat (by omega)]
        exact_mod_cast hl
  · unfold Host.argReduceFiber
    rw [List.mem_map]
    refine ⟨(⟨2, ![N + 1, K]⟩ : Shape).rowMajor (ix2 (first fun i => f i g) g), List.mem_filter.2 ⟨List.mem_finRange _, ?_⟩, ?_⟩
    · rw [Equiv.symm_apply_apply, hd]; exact decide_eq_true rfl
    · rw [Equiv.symm_apply_apply, hx, hy]
  · left
    show ix _ < f _ g
    rw [hi]
    exact lt_of_lt_of_le (by simp) (hpos _ _)

/-- The same of any width: the number found in a row is that of the first largest entry. -/
theorem search_row_at {N M : ℕ} (hM : M ≤ 2147483647) (x : FVec Ideal ⟨2, ![N, M]⟩ .f32) (y : IVec ⟨2, ![N, M]⟩ 32)
    (ix : FVec Ideal ⟨0, ![]⟩ .f32) (iy : IVec ⟨0, ![]⟩ 32) (h : (⟨2, ![N, M]⟩ : Shape).ReducesTo [1] ⟨1, ![N]⟩) (hu)
    (f : Fin N → Fin M → EReal) (hx : ∀ i g, x (ix2 i g) = f i g) (hy : ∀ i (g : Fin M), y (ix2 i g) = BitVec.ofNat 32 g.val)
    (hi : ∀ j, ix j = ⊥) (hpos : ∀ i g, 0 ≤ f i g) (i : Fin N) (k : Fin M) (hk : First (f i) k) :
    (Host.argReduce (reducer_argmax_f32_i32 (F := Ideal)) x y ix iy h hu (ix1 i)).2 = BitVec.ofNat 32 k.val := by
  obtain _ | K := M
  · exact k.elim0
  · rw [search_row (by omega) x y ix iy h hu f hx hy hi hpos i, First.unique hk (first_spec (f i))]

/-- The same of any height: the number found in a column is that of the first largest entry. -/
theorem search_col_at {M K : ℕ} (hM : M ≤ 2147483647) (x : FVec Ideal ⟨2, ![M, K]⟩ .f32) (y : IVec ⟨2, ![M, K]⟩ 32)
    (ix : FVec Ideal ⟨0, ![]⟩ .f32) (iy : IVec ⟨0, ![]⟩ 32) (h : (⟨2, ![M, K]⟩ : Shape).ReducesTo [0] ⟨1, ![K]⟩) (hu)
    (f : Fin M → Fin K → EReal) (hx : ∀ i g, x (ix2 i g) = f i g) (hy : ∀ (i : Fin M) g, y (ix2 i g) = BitVec.ofNat 32 i.val)
    (hi : ∀ j, ix j = ⊥) (hpos : ∀ i g, 0 ≤ f i g) (g : Fin K) (k : Fin M) (hk : First (fun i => f i g) k) :
    (Host.argReduce (reducer_argmax_f32_i32 (F := Ideal)) x y ix iy h hu (ix1 g)).2 = BitVec.ofNat 32 k.val := by
  obtain _ | N := M
  · exact k.elim0
  · rw [search_col (by omega) x y ix iy h hu f hx hy hi hpos g, First.unique hk (first_spec fun i => f i g)]

end Cert.RBase
-- ==== Proof.RBoxes.lean ====
/- The reference's boxes: the columns it takes, the turn of each box, and the ends of its sides. -/
module

public import proofs.«01_k».proof.Proof.RBase

@[expose] public section

noncomputable section

namespace Cert.RVal

open Cert.Pick Cert.Spec Cert.RBase Cert.ReferenceIdeal Cert.ReferenceIdeal.Gen Cert.ReferenceIdeal.Value
open Idealize.ShloMosaic Idealize.ShloMosaic.TcCoe

variable (V0 : Valuation τ sig (Elt Ideal))

/-- The anchors by row. -/
abbrev a (i : Fin 20000) (k : Fin 7) : EReal := (V0 (Proc.devRef .tc main_arg0) : Vec Ideal S20000x7 .f32) (ix2 i k)
/-- The boxes by row. -/
abbrev b (g : Fin 128) (k : Fin 7) : EReal := (V0 (Proc.devRef .tc main_arg1) : Vec Ideal S128x7 .f32) (ix2 g k)
/-- The classes. -/
abbrev cl (g : Fin 128) : BitVec 32 := (V0 (Proc.devRef .tc main_arg2) : Vec Ideal S128 .i32) (ix1 g)

/-- The five columns taken of seven. -/
abbrev five : Fin 5 → Fin 7 := ![0, 1, 3, 4, 6]

/-- The five column numbers of the anchors, as words. -/
theorem five_word (k : Fin 5) : (broadcastInDim S5x1 ![0] bcast_S5_S5x1_0 (select (cmpi .slt (res_main_c V0) (broadcastInDim S5 ![] bcast_S_S5 (constantI S_ 32 0#32))) (addi (res_main_c V0) (broadcastInDim S5 ![] bcast_S_S5 (constantI S_ 32 7#32))) (res_main_c V0)) (ix2 k (0 : Fin 1))).toInt = (five k).val := by
  unfold res_main_c
  fin_cases k <;> decide

/-- The five column numbers of the boxes, as words. -/
theorem five_word' (k : Fin 5) : (broadcastInDim S5x1 ![0] bcast_S5_S5x1_0 (select (cmpi .slt (res_main_c_0 V0) (broadcastInDim S5 ![] bcast_S_S5 (constantI S_ 32 0#32))) (addi (res_main_c_0 V0) (broadcastInDim S5 ![] bcast_S_S5 (constantI S_ 32 7#32))) (res_main_c_0 V0)) (ix2 k (0 : Fin 1))).toInt = (five k).val := by
  unfold res_main_c_0
  fin_cases k <;> decide

/-- The five columns taken of the anchors. -/
theorem v6_at (i : Fin 20000) (k : Fin 5) : (res_main_v6 V0 : Vec Ideal S20000x5 .f32) (ix2 i k) = a V0 i (five k) := by
  unfold res_main_v6
  exact gather_columns _ _ _ i k (five k) (five_word V0 k)

/-- The five columns taken of the boxes. -/
theorem v13_at (g : Fin 128) (k : Fin 5) : (res_main_v13 V0 : Vec Ideal S128x5 .f32) (ix2 g k) = b V0 g (five k) := by
  unfold res_main_v13
  exact gather_columns _ _ _ g k (five k) (five_word' V0 k)

/-- The two lengths of an anchor swapped, as words. -/
theorem two_32 (k : Fin 2) : (broadcastInDim S2x1 ![0] bcast_S2_S2x1_0 (select (cmpi .slt (res_main_c_1 V0) (broadcastInDim S2 ![] bcast_S_S2 (constantI S_ 32 0#32))) (addi (res_main_c_1 V0) (broadcastInDim S2 ![] bcast_S_S2 (constantI S_ 32 5#32))) (res_main_c_1 V0)) (ix2 k (0 : Fin 1))).toInt = ((![3, 2] : Fin 2 → Fin 5) k).val := by
  unfold res_main_c_1
  fin_cases k <;> decide

/-- The two lengths of an anchor in order, as words. -/
theorem two_23 (k : Fin 2) : (broadcastInDim S2x1 ![0] bcast_S2_S2x1_0 (select (cmpi .slt (res_main_c_2 V0) (broadcastInDim S2 ![] bcast_S_S2 (constantI S_ 32 0#32))) (addi (res_main_c_2 V0) (broadcastInDim S2 ![] bcast_S_S2 (constantI S_ 32 5#32))) (res_main_c_2 V0)) (ix2 k (0 : Fin 1))).toInt = ((![2, 3] : Fin 2 → Fin 5) k).val := by
  unfold res_main_c_2
  fin_cases k <;> decide

/-- The two lengths of a box swapped, as words. -/
theorem two_32' (k : Fin 2) : (broadcastInDim S2x1 ![0] bcast_S2_S2x1_0 (select (cmpi .slt (res_main_c_3 V0) (broadcastInDim S2 ![] bcast_S_S2 (constantI S_ 32 0#32))) (addi (res_main_c_3 V0) (broadcastInDim S2 ![] bcast_S_S2 (constantI S_ 32 5#32))) (res_main_c_3 V0)) (ix2 k (0 : Fin 1))).toInt = ((![3, 2] : Fin 2 → Fin 5) k).val := by
  unfold res_main_c_3
  fin_cases k <;> decide

/-- The two lengths of a box in order, as words. -/
theorem two_23' (k : Fin 2) : (broadcastInDim S2x1 ![0] bcast_S2_S2x1_0 (select (cmpi .slt (res_main_c_4 V0) (broadcastInDim S2 ![] bcast_S_S2 (constantI S_ 32 0#32))) (addi (res_main_c_4 V0) (broadcastInDim S2 ![] bcast_S_S2 (constantI S_ 32 5#32))) (res_main_c_4 V0)) (ix2 k (0 : Fin 1))).toInt = ((![2, 3] : Fin 2 → Fin 5) k).val := by
  unfold res_main_c_4
  fin_cases k <;> decide

/-- The angles of the anchors. -/
theorem v15_at (i : Fin 20000) : (res_main_v15 V0 : Vec Ideal S20000 .f32) (ix1 i) = a V0 i 6 := by
  unfold res_main_v15
  refine Eq.trans ?_ (v6_at V0 i 4)
  pointwise

/-- The angles of the boxes. -/
theorem v52_at (g : Fin 128) : (res_main_v52 V0 : Vec Ideal S128 .f32) (ix1 g) = b V0 g 6 := by
  unfold res_main_v52
  refine Eq.trans ?_ (v13_at V0 g 4)
  pointwise

/-- The centres of the anchors. -/
theorem v28_at (i : Fin 20000) (k : Fin 2) : (res_main_v28 V0 : Vec Ideal S20000x2 .f32) (ix2 i k) = a V0 i ((![0, 1] : Fin 2 → Fin 7) k) := by
  unfold res_main_v28
  fin_cases k
  · exact Eq.trans (by pointwise) (v6_at V0 i 0)
  · exact Eq.trans (by pointwise) (v6_at V0 i 1)

/-- The centres of the boxes. -/
theorem v65_at (g : Fin 128) (k : Fin 2) : (res_main_v65 V0 : Vec Ideal S128x2 .f32) (ix2 g k) = b V0 g ((![0, 1] : Fin 2 → Fin 7) k) := by
  unfold res_main_v65
  fin_cases k
  · exact Eq.trans (by pointwise) (v13_at V0 g 0)
  · exact Eq.trans (by pointwise) (v13_at V0 g 1)

/-- The two lengths of the anchors, by the turn. -/
theorem v43_at (i : Fin 20000) (k : Fin 2) : (res_main_v43 V0 : Vec Ideal S20000x2 .f32) (ix2 i k)
    = if Turned (a V0 i 6) then a V0 i ((![4, 3] : Fin 2 → Fin 7) k) else a V0 i ((![3, 4] : Fin 2 → Fin 7) k) := by
  have h1 := gather_columns (gather_S20000x5_S2x1_S20000x2_0_1_n_n_1_1_200001).wf (res_main_v6 V0 : Vec Ideal S20000x5 .f32) _ i k _ (two_32 V0 k)
  have h2 := gather_columns (gather_S20000x5_S2x1_S20000x2_0_1_n_n_1_1_200001).wf (res_main_v6 V0 : Vec Ideal S20000x5 .f32) _ i k _ (two_23 V0 k)
  rw [v6_at] at h1 h2
  unfold res_main_v43
  show Scalar.select _ _ _ = _
  refine (congrArg₂ (Scalar.select _) h1 h2).trans ?_
  pointwise
  rw [v15_at]
  fin_cases k <;> exact if_congr Iff.rfl rfl rfl

/-- The two lengths of the boxes, by the turn. -/
theorem v80_at (g : Fin 128) (k : Fin 2) : (res_main_v80 V0 : Vec Ideal S128x2 .f32) (ix2 g k)
    = if Turned (b V0 g 6) then b V0 g ((![4, 3] : Fin 2 → Fin 7) k) else b V0 g ((![3, 4] : Fin 2 → Fin 7) k) := by
  have h1 := gather_columns (gather_S128x5_S2x1_S128x2_0_1_n_n_1_1_1281).wf (res_main_v13 V0 : Vec Ideal S128x5 .f32) _ g k _ (two_32' V0 k)
  have h2 := gather_columns (gather_S128x5_S2x1_S128x2_0_1_n_n_1_1_1281).wf (res_main_v13 V0 : Vec Ideal S128x5 .f32) _ g k _ (two_23' V0 k)
  rw [v13_at] at h1 h2
  unfold res_main_v80
  show Scalar.select _ _ _ = _
  refine (congrArg₂ (Scalar.select _) h1 h2).trans ?_
  pointwise
  rw [v52_at]
  fin_cases k <;> exact if_congr Iff.rfl rfl rfl

/-- The four ends of a box's sides: the two low ones, then the two high ones. -/
abbrev ends (r : Fin 7 → EReal) : Fin 4 → EReal :=
  ![lo (r 0) (r 3) (r 4) (r 6), lo (r 1) (r 4) (r 3) (r 6), hi (r 0) (r 3) (r 4) (r 6), hi (r 1) (r 4) (r 3) (r 6)]

/-- The ends of the anchors. -/
theorem v50_at (i : Fin 20000) (j : Fin 4) : (res_main_v50 V0 : Vec Ideal S20000x4 .f32) (ix2 i j) = ends (a V0 i) j := by
  have e0 := v28_at V0 i 0
  have e1 := v28_at V0 i 1
  have f0 := v43_at V0 i 0
  have f1 := v43_at V0 i 1
  unfold res_main_v50
  fin_cases j <;> (pointwise; simp only [e0, e1, f0, f1]; rfl)

/-- The ends of the boxes. -/
theorem v87_at (g : Fin 128) (j : Fin 4) : (res_main_v87 V0 : Vec Ideal S128x4 .f32) (ix2 g j) = ends (b V0 g) j := by
  have e0 := v65_at V0 g 0
  have e1 := v65_at V0 g 1
  have f0 := v80_at V0 g 0
  have f1 := v80_at V0 g 1
  unfold res_main_v87
  fin_cases j <;> (pointwise; simp only [e0, e1, f0, f1]; rfl)

/-- The sides of each overlap, kept from going below zero. -/
theorem v103_at (i : Fin 20000) (g : Fin 128) (k : Fin 2) : (res_main_v103 V0 : Vec Ideal S20000x128x2 .f32) (ix3 i g k)
    = max 0 (min (ends (a V0 i) ⟨k.val + 2, by omega⟩) (ends (b V0 g) ⟨k.val + 2, by omega⟩)
        - max (ends (a V0 i) ⟨k.val, by omega⟩) (ends (b V0 g) ⟨k.val, by omega⟩)) := by
  have e := v50_at V0 i
  have f := v87_at V0 g
  unfold res_main_v103
  have z : (id (constant (F := Ideal) S_ .f32 0x00000000#32) : Vec Ideal S_ .f32) ix0 = (0 : EReal) := by
    simp only [id_eq]
    pointwise
  fin_cases k <;> (pointwise; simp only [e, f]; exact congrArg (fun t : EReal => max t _) z)

/-- The area of each overlap. -/
theorem v108_at (i : Fin 20000) (g : Fin 128) : (res_main_v108 V0 : Vec Ideal S20000x128 .f32) (ix2 i g)
    = inter (ends (a V0 i) 0) (ends (a V0 i) 1) (ends (a V0 i) 2) (ends (a V0 i) 3)
        (ends (b V0 g) 0) (ends (b V0 g) 1) (ends (b V0 g) 2) (ends (b V0 g) 3) := by
  have e0 := v103_at V0 i g 0
  have e1 := v103_at V0 i g 1
  unfold res_main_v108
  pointwise
  exact congrArg₂ (· * ·) e0 e1

/-- The reference's table of ratios. -/
theorem v139_at (i : Fin 20000) (g : Fin 128) : (res_main_v139 V0 : Vec Ideal S20000x128 .f32) (ix2 i g) = iou (a V0 i) (b V0 g) := by
  have e := v50_at V0 i
  have f := v87_at V0 g
  have h := v108_at V0 i g
  unfold res_main_v139
  pointwise
  simp only [e, f, h]
  rfl

end Cert.RVal

end
-- ==== Proof.RPick.lean ====
/- The reference's picks: the box each anchor overlaps most, the anchor each box takes, the label and the box of every anchor,
   and its three results. -/
module

public import proofs.«01_k».proof.Proof.RBoxes
public import proofs.«01_k».proof.Proof.Upto
public import Idealize.ShloMosaic.Lib.ValueIdx

@[expose] public section

noncomputable section

namespace Cert.RVal

open Cert.Pick Cert.Spec Cert.RBase Cert.ReferenceIdeal Cert.ReferenceIdeal.Gen Cert.ReferenceIdeal.Value
open Idealize.ShloMosaic Idealize.ShloMosaic.TcCoe

variable (V0 : Valuation τ sig (Elt Ideal))

/-- The numbers along a row count from zero. -/
theorem count_row (i : Fin 20000) (g : Fin 128) : (res_main_call3_v0 V0 : Vec Ideal S20000x128 .i32) (ix2 i g) = BitVec.ofNat 32 g.val := by
  unfold res_main_call3_v0
  rfl

/-- The numbers along a column count from zero. -/
theorem count_col (i : Fin 20000) (g : Fin 128) : (res_main_call4_v0 V0 : Vec Ideal S20000x128 .i32) (ix2 i g) = BitVec.ofNat 32 i.val := by
  unfold res_main_call4_v0
  rfl

/-- The search along a row starts at minus infinity. -/
theorem start_row (j : S_.Idx) : (res_main_call3_cst V0 : Vec Ideal S_ .f32) j = (⊥ : EReal) := by
  unfold res_main_call3_cst
  exact Upto.neg_inf

/-- The search along a column starts at minus infinity. -/
theorem start_col (j : S_.Idx) : (res_main_call4_cst V0 : Vec Ideal S_ .f32) j = (⊥ : EReal) := by
  unfold res_main_call4_cst
  exact Upto.neg_inf

/-- The ratio of two boxes is never below zero. -/
theorem iou_nonneg (r t : Fin 7 → EReal) : 0 ≤ iou r t := iouE_nonneg _ _ _ _ _ _ _ _

/-- The largest of a row, from minus infinity, is its first largest entry. -/
theorem max_row {N M : ℕ} (X : FVec Ideal ⟨2, ![N, M]⟩ .f32) (z : FVec Ideal ⟨0, ![]⟩ .f32)
    (h : (⟨2, ![N, M]⟩ : Shape).ReducesTo [1] ⟨1, ![N]⟩) (hu) (f : Fin N → Fin M → EReal) (hx : ∀ i g, X (ix2 i g) = f i g)
    (hz : ∀ j, z j = ⊥) (i : Fin N) (k : Fin M) (hk : First (f i) k) :
    Host.reduce (FloatOps.maximumf (F := Ideal) (φ := .f32)) X z h hu (ix1 i) = f i k := by
  have e : Host.reduce (FloatOps.maximumf (F := Ideal) (φ := .f32)) X z h hu (ix1 i)
      = (Finset.univ.filter fun j => h.drop j = ix1 i).fold (max : EReal → EReal → EReal) (z (Shape.Idx.first hu)) X :=
    Host.reduce_eq_fold (max : EReal → EReal → EReal) X z h hu (ix1 i)
  rw [e, Shape.ReducesTo.fold_fiber_r2_a1, hz, ← fold_max _ _ hk]
  exact congrArg (Finset.fold max ⊥ · Finset.univ) (funext fun g => hx i g)

section
variable (A : Fin 20000 → Fin 7 → EReal) (G : Fin 128 → Fin 7 → EReal) (X : FVec Ideal S20000x128 .f32) (Y : IVec S20000x128 32)
  (ix : FVec Ideal S_ .f32) (iy : IVec S_ 32) (hX : ∀ i g, X (ix2 i g) = iou (A i) (G g)) (hi : ∀ j, ix j = ⊥)
include hX hi

/-- The number found in a row of a table of ratios. -/
theorem table_row (hY : ∀ (i : Fin 20000) (g : Fin 128), Y (ix2 i g) = BitVec.ofNat 32 g.val) (i : Fin 20000) :
    (Host.argReduce (reducer_argmax_f32_i32 (F := Ideal)) X Y ix iy reducesTo_S20000x128_S20000_d1 h_S_ (ix1 i)).2
      = BitVec.ofNat 32 (row A G i).val :=
  search_row_at (N := 20000) (M := 128) (by norm_num) _ _ _ _ _ _ (fun i g => iou (A i) (G g)) hX hY hi
    (fun _ _ => iou_nonneg _ _) i _ (first_spec _)

/-- The number found in a column of a table of ratios. -/
theorem table_col (hY : ∀ (i : Fin 20000) (g : Fin 128), Y (ix2 i g) = BitVec.ofNat 32 i.val) (g : Fin 128) :
    (Host.argReduce (reducer_argmax_f32_i32 (F := Ideal)) X Y ix iy reducesTo_S20000x128_S128_d0 h_S_ (ix1 g)).2
      = BitVec.ofNat 32 (col A G g).val :=
  search_col_at (M := 20000) (K := 128) (by norm_num) _ _ _ _ _ _ (fun i g => iou (A i) (G g)) hX hY hi
    (fun _ _ => iou_nonneg _ _) g _ (first_spec fun i => iou (A i) (G g))

/-- The largest of a row of a table of ratios. -/
theorem table_best (i : Fin 20000) :
    Host.reduce (FloatOps.maximumf (F := Ideal) (φ := .f32)) X ix reducesTo_S20000x128_S20000_d1 h_S_ (ix1 i) = best A G i :=
  max_row X ix reducesTo_S20000x128_S20000_d1 h_S_ (fun i g => iou (A i) (G g)) hX hi i _ (first_spec _)
end

/-- The numbers found along the rows, as the search gives them. -/
theorem v140_eq : (res_main_v140 V0 : Vec Ideal S20000 .i32)
    = fun j => (Host.argReduce (reducer_argmax_f32_i32 (F := Ideal)) (res_main_v139 V0 : FVec Ideal S20000x128 .f32) (res_main_call3_v0 V0 : IVec S20000x128 32) (res_main_call3_cst V0 : FVec Ideal S_ .f32)
      (res_main_call3_c V0 : IVec S_ 32) reducesTo_S20000x128_S20000_d1 h_S_ j).2 := rfl

/-- The numbers found along the columns, as the search gives them. -/
theorem v142_eq : (res_main_v142 V0 : Vec Ideal S128 .i32)
    = fun j => (Host.argReduce (reducer_argmax_f32_i32 (F := Ideal)) (res_main_v139 V0 : FVec Ideal S20000x128 .f32) (res_main_call4_v0 V0 : IVec S20000x128 32) (res_main_call4_cst V0 : FVec Ideal S_ .f32)
      (res_main_call4_c V0 : IVec S_ 32) reducesTo_S20000x128_S128_d0 h_S_ j).2 := rfl

/-- Each anchor's number of the box it overlaps most. -/
theorem v140_at (i : Fin 20000) : (res_main_v140 V0 : Vec Ideal S20000 .i32) (ix1 i) = BitVec.ofNat 32 (row (a V0) (b V0) i).val :=
  (congrFun (v140_eq V0) (ix1 i)).trans
    (table_row (a V0) (b V0) (res_main_v139 V0) (res_main_call3_v0 V0) (res_main_call3_cst V0) (res_main_call3_c V0)
      (v139_at V0) (start_row V0) (count_row V0) i)

/-- Each box's number of the anchor it overlaps most. -/
theorem v142_at (g : Fin 128) : (res_main_v142 V0 : Vec Ideal S128 .i32) (ix1 g) = BitVec.ofNat 32 (col (a V0) (b V0) g).val :=
  (congrFun (v142_eq V0) (ix1 g)).trans
    (table_col (a V0) (b V0) (res_main_v139 V0) (res_main_call4_v0 V0) (res_main_call4_cst V0) (res_main_call4_c V0)
      (v139_at V0) (start_col V0) (count_col V0) g)

/-- How much each anchor overlaps the box it overlaps most. -/
theorem v141_at (i : Fin 20000) : (res_main_v141 V0 : Vec Ideal S20000 .f32) (ix1 i) = best (a V0) (b V0) i := by
  unfold res_main_v141
  exact table_best _ _ _ _ (v139_at V0) (fun _ => Upto.neg_inf) i

/-- A word below the number of boxes is not taken as counted from the end. -/
theorem take_word (x : BitVec 32) (n : ℕ) (hn : n < 20000) (hx : x = BitVec.ofNat 32 n) (w : BitVec 32) :
    Scalar.select (IntOp.cmpi .slt x 0#32) w x = x :=
  Routing.wrap_of_lt x w (by subst hx; rw [BitVec.toNat_ofNat]; omega)

/-- The places of the writes. -/
theorem put_word (g : Fin 128) : (broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0)) (ix2 g (0 : Fin 1))).toInt
    = (col (a V0) (b V0) g).val := by
  have e := v142_at V0 g
  pointwise
  exact (congrArg BitVec.toInt ((take_word _ _ (col (a V0) (b V0) g).isLt e _).trans e)).trans
    (Cert.Pick.toInt_ofNat (lt_trans (col (a V0) (b V0) g).isLt (by norm_num)))

/-- Each anchor's number of the box it goes to. -/
theorem v164_at (i : Fin 20000) : (res_main_v164 V0 : Vec Ideal S20000 .i32) (ix1 i) = BitVec.ofNat 32 (goes (a V0) (b V0) i).val := by
  unfold res_main_v164
  obtain ⟨h1, h2⟩ := put_apply (scatter_S20000_S128x1_S128_n_0_0_1).wf (res_main_v140 V0) _ (iotaInDim S128 32 0) i (col (a V0) (b V0)) (put_word V0)
  unfold goes
  by_cases h : Forced (a V0) (b V0) i
  · rw [dif_pos h]
    exact h1 _ (Classical.choose_spec (exists_last h)).1 (Classical.choose_spec (exists_last h)).2
  · rw [dif_neg h]
    exact (h2 fun k e => h ⟨k, e⟩).trans (v140_at V0 i)

/-- The place the class is read from. -/
theorem call6_at (i : Fin 20000) : (res_main_call6_v5 V0 : Vec Ideal S20000x1 .i32) (ix2 i (0 : Fin 1)) = BitVec.ofNat 32 (row (a V0) (b V0) i).val := by
  have e := v140_at V0 i
  unfold res_main_call6_v5
  pointwise
  exact (take_word _ _ (lt_trans (row (a V0) (b V0) i).isLt (by norm_num)) e _).trans e

/-- The place the box is read from. -/
theorem call8_at (i : Fin 20000) : (res_main_call8_v5 V0 : Vec Ideal S20000x1 .i32) (ix2 i (0 : Fin 1)) = BitVec.ofNat 32 (goes (a V0) (b V0) i).val := by
  have e := v164_at V0 i
  unfold res_main_call8_v5
  pointwise
  exact (take_word _ _ (lt_trans (goes (a V0) (b V0) i).isLt (by norm_num)) e _).trans e

/-- A word below a hundred and twenty-eight lies between the two ends. -/
theorem small (n : Fin 128) : IntOp.andi (IntOp.andi (IntOp.cmpi .sge (BitVec.ofNat 32 n.val) 0#32)
    (IntOp.cmpi .sle (BitVec.ofNat 32 n.val) 127#32)) 1#1 = 1#1 := by
  revert n
  decide

/-- The check that a place is between the ends passes for a small word. -/
theorem inside (X : IVec S20000x1 32) (i : Fin 20000) (n : Fin 128) (h : X (ix2 i (0 : Fin 1)) = BitVec.ofNat 32 n.val) :
    Host.reduce IntOp.andi (andi (cmpi .sge X (broadcastInDim S20000x1 ![] bcast_S_S20000x1 (constantI S_ 32 0#32))) (cmpi .sle X (broadcastInDim S20000x1 ![0, 1] bcast_S1x1_S20000x1_0_1 (broadcastInDim S1x1 ![1] bcast_S1_S1x1_1 (constantI S1 32 127#32))))) (constantI S_ 1 1#1) reducesTo_S20000x1_S20000_d1 h_S_ (ix1 i) = 1#1 := by
  pointwise
  rw [(by decide : (Finset.univ : Finset (Fin 1)) = {0}), Finset.fold_singleton]
  rw [h]
  exact small n

end Cert.RVal

end
-- ==== Proof.RVal.lean ====
/- What the reference computes: the labels, their flags and the offsets. -/
module

public import proofs.«01_k».proof.Proof.RPick
public import Idealize.ShloMosaic.Lib.Routing.OpsSet

@[expose] public section

noncomputable section

namespace Cert.RVal

open Cert.Pick Cert.Spec Cert.RBase Cert.ReferenceIdeal Cert.ReferenceIdeal.Gen Cert.ReferenceIdeal.Value
open Idealize.ShloMosaic Idealize.ShloMosaic.TcCoe

/-- A word read out of the classes at a place that is in range. -/
theorem class_read (X : IVec S20000x1 32) (i : Fin 20000) (n : Fin 128) (h : X (ix2 i (0 : Fin 1)) = BitVec.ofNat 32 n.val)
    (C : IVec S128 32) :
    (select (Host.reduce IntOp.andi (andi (cmpi .sge X (broadcastInDim S20000x1 ![] bcast_S_S20000x1 (constantI S_ 32 0#32))) (cmpi .sle X (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 C X) (broadcastInDim S20000 ![] bcast_S_S20000 (constantI S_ 32 2147483648#32))) (ix1 i)
      = C (ix1 n) := by
  have e : Host.gather gather_S128_S20000x1_S20000_n_0_n_n_0_1_1 C X (ix1 i) = C (ix1 n) :=
    Routing.gather_take1 _ rfl rfl rfl rfl C X i n h (by norm_num)
  exact (congrFun (congrFun (congrArg Scalar.select (inside X i n h)) _) _).trans e

/-- A row read out of the boxes at a place that is in range. -/
theorem box_read (X : IVec S20000x1 32) (i : Fin 20000) (n : Fin 128) (h : X (ix2 i (0 : Fin 1)) = BitVec.ofNat 32 n.val)
    (B : FVec Ideal S128x7 .f32) (k : Fin 7) :
    (select (broadcastInDim S20000x7 ![0] bcast_S20000_S20000x7_0 (Host.reduce IntOp.andi (andi (cmpi .sge X (broadcastInDim S20000x1 ![] bcast_S_S20000x1 (constantI S_ 32 0#32))) (cmpi .sle X (broadcastInDim S20000x1 ![0, 1] bcast_S1x1_S20000x1_0_1 (broadcastInDim S1x1 ![1] bcast_S1_S1x1_1 (constantI S1 32 127#32))))) (constantI S_ 1 1#1) reducesTo_S20000x1_S20000_d1 h_S_)) (Host.gather gather_S128x7_S20000x1_S20000x7_1_0_n_n_0_1_17 B X) (broadcastInDim S20000x7 ![] bcast_S_S20000x7 (constant S_ .f32 0x7FC00000#32)) : FVec Ideal S20000x7 .f32) (ix2 i k)
      = B (ix2 n k) := by
  have e : Host.gather gather_S128x7_S20000x1_S20000x7_1_0_n_n_0_1_17 B X (ix2 i k) = B (ix2 n k) :=
    Routing.gather_row _ rfl rfl rfl rfl rfl B X i k n h (by norm_num)
  have f : (broadcastInDim S20000x7 ![0] bcast_S20000_S20000x7_0 (Host.reduce IntOp.andi (andi (cmpi .sge X (broadcastInDim S20000x1 ![] bcast_S_S20000x1 (constantI S_ 32 0#32))) (cmpi .sle X (broadcastInDim S20000x1 ![0, 1] bcast_S1x1_S20000x1_0_1 (broadcastInDim S1x1 ![1] bcast_S1_S1x1_1 (constantI S1 32 127#32))))) (constantI S_ 1 1#1) reducesTo_S20000x1_S20000_d1 h_S_)) (ix2 i k) = 1#1 := by
    refine Eq.trans ?_ (inside X i n h)
    generalize Host.reduce IntOp.andi _ _ _ _ = R
    pointwise
  exact (congrFun (congrFun (congrArg Scalar.select f) _) _).trans e

variable (V0 : Valuation τ sig (Elt Ideal))

/-- The box read for each anchor. -/
theorem v165_at (i : Fin 20000) (k : Fin 7) :
    (res_main_v165 V0 : Vec Ideal S20000x7 .f32) (ix2 i k) = b V0 (goes (a V0) (b V0) i) k := by
  unfold res_main_v165
  exact box_read (res_main_call8_v5 V0) i _ (call8_at V0 i) _ k

/-- The label of an anchor as the ratio decides it. -/
theorem label_form (B : FVec Ideal S20000 .f32) (R : IVec S20000 32) (i : Fin 20000) :
    (select (cmpf .oge B (broadcastInDim S20000 ![] bcast_S_S20000 (constant S_ .f32 0x3F19999A#32))) R (id (select (cmpf .olt B (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32)))) : IVec S20000 32) (ix1 i)
      = if K 0x3F19999A#32 ≤ B (ix1 i) then R (ix1 i) else if B (ix1 i) < K 0x3EE66666#32 then 0#32 else 4294967295#32 := by
  simp only [id_eq]
  pointwise

/-- The class of the box each anchor overlaps most. -/
def classes : IVec S20000 32 :=
  select (Host.reduce IntOp.andi (andi (cmpi .sge (res_main_call6_v5 V0) (broadcastInDim S20000x1 ![] bcast_S_S20000x1 (constantI S_ 32 0#32))) (cmpi .sle (res_main_call6_v5 V0) (broadcastInDim S20000x1 ![0, 1] bcast_S1x1_S20000x1_0_1 (broadcastInDim S1x1 ![1] bcast_S1_S1x1_1 (constantI S1 32 127#32))))) (constantI S_ 1 1#1) reducesTo_S20000x1_S20000_d1 h_S_) (Host.gather gather_S128_S20000x1_S20000_n_0_n_n_0_1_1 (V0 (Proc.devRef .tc main_arg2)) (res_main_call6_v5 V0)) (broadcastInDim S20000 ![] bcast_S_S20000 (constantI S_ 32 2147483648#32))

/-- An entry of the classes. -/
theorem classes_at (i : Fin 20000) : classes V0 (ix1 i) = cl V0 (row (a V0) (b V0) i) :=
  class_read (res_main_call6_v5 V0) i _ (call6_at V0 i) (V0 (Proc.devRef .tc main_arg2))

/-- The labels before the writes. -/
def labels : IVec S20000 32 :=
  select (cmpf .oge (res_main_v141 V0) (broadcastInDim S20000 ![] bcast_S_S20000 (constant S_ .f32 0x3F19999A#32))) (classes V0) (id (select (cmpf .olt (res_main_v141 V0) (broadcastInDim S20000 ![] bcast_S_S20000 (constant S_ .f32 0x3EE66666#32))) (broadcastInDim S20000 ![] bcast_S_S20000 (constantI S_ 32 0#32)) (broadcastInDim S20000 ![] bcast_S_S20000 (constantI S_ 32 4294967295#32))))

/-- A label before the writes goes by the best ratio. -/
theorem labels_at (i : Fin 20000) : labels V0 (ix1 i)
    = if K 0x3F19999A#32 ≤ best (a V0) (b V0) i then cl V0 (row (a V0) (b V0) i)
      else if best (a V0) (b V0) i < K 0x3EE66666#32 then 0#32 else 4294967295#32 := by
  refine (label_form (res_main_v141 V0) (classes V0) i).trans ?_
  rw [v141_at V0 i, classes_at V0 i]

/-- The places of the writes. -/
def places : IVec S128x1 32 :=
  broadcastInDim S128x1 ![0] bcast_S128_S128x1_0 (select (cmpi .slt (res_main_v142 V0) (broadcastInDim S128 ![] bcast_S_S128 (constantI S_ 32 0#32))) (addi (res_main_v142 V0) (broadcastInDim S128 ![] bcast_S_S128 (constantI S_ 32 20000#32))) (res_main_v142 V0))

/-- The labels after the writes. -/
def written : IVec S20000 32 :=
  Host.scatter scatter_S20000_S128x1_S128_n_0_0_1 (fun _ b => b) (labels V0) (places V0) (V0 (Proc.devRef .tc main_arg2))

/-- A label after the writes is the class of the last box that takes the anchor, if one does. -/
theorem written_at (i : Fin 20000) : written V0 (ix1 i) = lab (a V0) (b V0) (cl V0) i := by
  obtain ⟨h1, h2⟩ := put_apply (scatter_S20000_S128x1_S128_n_0_0_1).wf (labels V0) (places V0) (V0 (Proc.devRef .tc main_arg2)) i (col (a V0) (b V0)) (put_word V0)
  unfold lab goes
  by_cases h : Forced (a V0) (b V0) i
  · rw [if_pos h, dif_pos h]
    exact h1 _ (Classical.choose_spec (exists_last h)).1 (Classical.choose_spec (exists_last h)).2
  · rw [if_neg h, dif_neg h]
    exact (h2 fun k e => h ⟨k, e⟩).trans (labels_at V0 i)

set_option maxRecDepth 65536 in
/-- The comparison of the labels with zero. -/
theorem v167_eq : (res_main_v167 V0 : Vec Ideal S20000 .i1)
    = cmpi .sgt (written V0) (broadcastInDim S20000 ![] bcast_S_S20000 (constantI S_ 32 0#32)) := by
  unfold res_main_v167 written labels classes places
  rfl

/-- Whether each label is above zero. -/
theorem v167_at (i : Fin 20000) : (res_main_v167 V0 : Vec Ideal S20000 .i1) (ix1 i)
    = IntOp.cmpi .sgt (lab (a V0) (b V0) (cl V0) i) 0#32 :=
  (congrFun (v167_eq V0) (ix1 i)).trans (congrArg (fun x => IntOp.cmpi .sgt x 0#32) (written_at V0 i))

/-- A word's flag as a number. -/
theorem flag_num (x : BitVec 32) : (FloatOps.uitofp (F := Ideal) .f32 (IntOp.cmpi .sgt x 0#32) : EReal) = if 0 < x.toInt then 1 else 0 := by
  have hc : IntOp.cmpi .sgt x 0#32 = if 0 < x.toInt then 1#1 else 0#1 := by
    unfold IntOp.cmpi
    by_cases h : 0 < x.toInt
    · have : (0#32).slt x = true := by rw [BitVec.slt_iff_toInt_lt]; simpa using h
      simp [this, h]
    · have : (0#32).slt x = false := by
        rw [Bool.eq_false_iff]; intro h'; rw [BitVec.slt_iff_toInt_lt] at h'; exact h (by simpa using h')
      simp [this, h]
  rw [hc]
  show (((if 0 < x.toInt then 1#1 else 0#1 : BitVec 1).toNat : ℝ) : EReal) = _
  split <;> norm_num

/-- The last result: the flags as numbers. -/
theorem v204_at (i : Fin 20000) : (uitofp .f32 (res_main_v167 V0 : Vec Ideal S20000 .i1) : FVec Ideal S20000 .f32) (ix1 i)
    = flag (a V0) (b V0) (cl V0) i :=
  (congrArg (FloatOps.uitofp (F := Ideal) .f32) (v167_at V0 i)).trans (flag_num _)

/-- The seven columns of offsets side by side, each times the flag. -/
def table (B P : FVec Ideal S20000x7 .f32) (f : IVec S20000 1) : FVec Ideal S20000x7 .f32 :=
  mulf (concatenate S20000x7 1 [⟨S20000x1, (Host.divf (subf (extractStridedSlice S20000x1 ![0, 0] B slices_S20000x7_S20000x1_0_0) (extractStridedSlice S20000x1 ![0, 0] P slices_S20000x7_S20000x1_0_0)) (Host.sqrt (addf (mulf (extractStridedSlice S20000x1 ![0, 4] P slices_S20000x7_S20000x1_0_4) (extractStridedSlice S20000x1 ![0, 4] P slices_S20000x7_S20000x1_0_4)) (mulf (extractStridedSlice S20000x1 ![0, 3] P slices_S20000x7_S20000x1_0_3) (extractStridedSlice S20000x1 ![0, 3] P slices_S20000x7_S20000x1_0_3)))) : FVec Ideal S20000x1 .f32)⟩,
      ⟨S20000x1, (Host.divf (subf (extractStridedSlice S20000x1 ![0, 1] B slices_S20000x7_S20000x1_0_1) (extractStridedSlice S20000x1 ![0, 1] P slices_S20000x7_S20000x1_0_1)) (Host.sqrt (addf (mulf (extractStridedSlice S20000x1 ![0, 4] P slices_S20000x7_S20000x1_0_4) (extractStridedSlice S20000x1 ![0, 4] P slices_S20000x7_S20000x1_0_4)) (mulf (extractStridedSlice S20000x1 ![0, 3] P slices_S20000x7_S20000x1_0_3) (extractStridedSlice S20000x1 ![0, 3] P slices_S20000x7_S20000x1_0_3)))) : FVec Ideal S20000x1 .f32)⟩,
      ⟨S20000x1, (Host.divf (subf (extractStridedSlice S20000x1 ![0, 2] B slices_S20000x7_S20000x1_0_2) (extractStridedSlice S20000x1 ![0, 2] P slices_S20000x7_S20000x1_0_2)) (extractStridedSlice S20000x1 ![0, 5] P slices_S20000x7_S20000x1_0_5) : FVec Ideal S20000x1 .f32)⟩,
      ⟨S20000x1, (Host.log (Host.divf (extractStridedSlice S20000x1 ![0, 3] B slices_S20000x7_S20000x1_0_3) (extractStridedSlice S20000x1 ![0, 3] P slices_S20000x7_S20000x1_0_3)) : FVec Ideal S20000x1 .f32)⟩,
      ⟨S20000x1, (Host.log (Host.divf (extractStridedSlice S20000x1 ![0, 4] B slices_S20000x7_S20000x1_0_4) (extractStridedSlice S20000x1 ![0, 4] P slices_S20000x7_S20000x1_0_4)) : FVec Ideal S20000x1 .f32)⟩,
      ⟨S20000x1, (Host.log (Host.divf (extractStridedSlice S20000x1 ![0, 5] B slices_S20000x7_S20000x1_0_5) (extractStridedSlice S20000x1 ![0, 5] P slices_S20000x7_S20000x1_0_5)) : FVec Ideal S20000x1 .f32)⟩,
      ⟨S20000x1, (subf (extractStridedSlice S20000x1 ![0, 6] B slices_S20000x7_S20000x1_0_6) (extractStridedSlice S20000x1 ![0, 6] P slices_S20000x7_S20000x1_0_6) : FVec Ideal S20000x1 .f32)⟩]
      concatenates_S20000x1_S20000x1_S20000x1_S20000x1_S20000x1_S20000x1_S20000x1_S20000x7_d1)
      (broadcastInDim S20000x7 ![0, 1] bcast_S20000x1_S20000x7_0_1 (uitofp .f32 (broadcastInDim S20000x1 ![0] bcast_S20000_S20000x1_0 f)))

/-- An entry of the table of offsets. -/
theorem table_at (B P : FVec Ideal S20000x7 .f32) (f : IVec S20000 1) (i : Fin 20000) (k : Fin 7) :
    table B P f (ix2 i k) = offs (fun j => P (ix2 i j)) (fun j => B (ix2 i j)) k * FloatOps.uitofp (F := Ideal) .f32 (f (ix1 i)) := by
  have s (p q d r : EReal) : Ideal.div d (Ideal.sqrt (p + q)) * r = Ideal.div d (Ideal.sqrt (q + p)) * r := by rw [add_comm]
  unfold table
  fin_cases k <;> pointwise
  · exact s _ _ _ _
  · exact s _ _ _ _
  all_goals rfl

/-- The first result: the offsets. -/
theorem v203_at (i : Fin 20000) (k : Fin 7) :
    table (res_main_v165 V0) (V0 (Proc.devRef .tc main_arg0)) (res_main_v167 V0) (ix2 i k) = bbox (a V0) (b V0) (cl V0) i k := by
  rw [table_at, v167_at, flag_num]
  have e : (fun j => (res_main_v165 V0 : Vec Ideal S20000x7 .f32) (ix2 i j)) = b V0 (goes (a V0) (b V0) i) := funext fun j => v165_at V0 i j
  exact congrArg (fun t => offs (a V0 i) t k * flag (a V0) (b V0) (cl V0) i) e

variable (m : (ℓ : Loc nD τ sig) → Buf (Elt Ideal) ℓ)

set_option maxRecDepth 65536 in
/-- What the reference's run leaves: the three results entry by entry, the arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v203) = table (res_main_v165 (StableHlo.launchContents m c)) (StableHlo.launchContents m c (Proc.devRef .tc main_arg0)) (res_main_v167 (StableHlo.launchContents m c))
      ∧ r.2.mem ((c.tc : Thread nD τ).loc main_v156) = written (StableHlo.launchContents m c)
      ∧ r.2.mem ((c.tc : Thread nD τ).loc main_v204) = (uitofp .f32 (res_main_v167 (StableHlo.launchContents m c) : Vec Ideal S20000 .i1) : FVec Ideal S20000 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (Value.run m ρ)
  obtain ⟨h0, h1, h2, h3⟩ := h c
  refine ⟨h0.trans ?_, h1.trans ?_, h2, h3⟩
  · unfold table res_main_v185 res_main_v173 res_main_v172 res_main_v171
    rfl
  · unfold written labels classes places
    rfl

end Cert.RVal

end
-- ==== Proof.Meet.lean ====
/- The two programs' results are the same, when the boxes' numbers are below plus infinity. -/
module

public import proofs.«01_k».proof.Defs
public import proofs.«01_k».proof.Proof.KRun
public import proofs.«01_k».proof.Proof.RVal
public import Idealize.ShloMosaic.Lib.ReduceAll
public import Idealize.ShloMosaic.Lib.ValueIdx
public import Idealize.ShloMosaic.Lib.Quiescent

@[expose] public section

noncomputable section

namespace Cert.Meet

open Idealize.ShloMosaic Idealize.ShloMosaic.TcCoe Idealize.SL.Sem Cert.Spec

/-- The precondition's own side conditions. -/
theorem pre_facts : Cert.Pre_gt_boxes_below_infinity.Facts where
  bcast_S_S128x7 := by decide
  reducesTo_S128x7_S_d0_1 := by decide
  h_S_ := by decide

/-- The precondition says that no number of a box is plus infinity. -/
theorem boxes_below [Cert.Pre_gt_boxes_below_infinity.Facts] (A : FVec Ideal Cert.Pre_gt_boxes_below_infinity.S20000x7 .f32)
    (B : FVec Ideal Cert.Pre_gt_boxes_below_infinity.S128x7 .f32) (C : IVec Cert.Pre_gt_boxes_below_infinity.S128 32)
    (h : Cert.Pre_gt_boxes_below_infinity.fn (F := Ideal) A B C = fun _ => 1#1) (g : Fin 128) (k : Fin 7) :
    B (ix2 g k) ≠ (⊤ : EReal) := by
  intro hB
  haveI : Subsingleton Cert.Pre_gt_boxes_below_infinity.S_.Idx := ⟨fun a b => funext fun x => Fin.elim0 x⟩
  have h1 := Host.reduce_andi_all _ _ _ _ _ (congrFun h fun x => Fin.elim0 x) (ix2 g k)
  have h2 : BitVec.ofBool (decide ((B (ix2 g k) : EReal) < K 0x7F800000#32)) = 1#1 := h1
  rw [hB] at h2
  simp at h2

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's launch contents. -/
abbrev W : Valuation Cert.ReferenceIdeal.τ Cert.ReferenceIdeal.sig (Elt Ideal) := StableHlo.launchContents m' c

/-- The same anchors. -/
theorem same_a (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.RVal.a (W m' c) = Cert.KRun.rowsA m c :=
  funext fun i => funext fun k => congrFun h (ix2 i k)

/-- The same boxes. -/
theorem same_b (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.RVal.b (W m' c) = Cert.KRun.rowsG m c :=
  funext fun i => funext fun k => congrFun h (ix2 i k)

/-- The same classes. -/
theorem same_c (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.RVal.cl (W m' c) = Cert.KRun.rowsC m c :=
  funext fun i => congrFun h (ix1 i)

open Cert.KernelIdeal Cert.KernelIdeal.Gen in
/-- What the kernel leaves in one of its result arrays. -/
abbrev left (b : Ref Cert.KernelIdeal.sig .tc) : Buf (Elt Ideal) ((c.tc : Thread Cert.KernelIdeal.nD Cert.KernelIdeal.τ).loc b) :=
  Pipeline.afterTail₀ cfgs (dats m) 0 (V0 m) [hostOps1] c b

section
variable (ha : Cert.RVal.a (W m' c) = Cert.KRun.rowsA m c) (hb : Cert.RVal.b (W m' c) = Cert.KRun.rowsG m c)
  (hc : Cert.RVal.cl (W m' c) = Cert.KRun.rowsC m c) (h : ∀ g k, Cert.KRun.rowsG m c g k ≠ ⊤)
include ha hb hc h

/-- The offsets are the same. -/
theorem same_boxes : Cert.RVal.table (Cert.ReferenceIdeal.Value.res_main_v165 (W m' c))
      (W m' c (Proc.devRef .tc Cert.ReferenceIdeal.main_arg0)) (Cert.ReferenceIdeal.Value.res_main_v167 (W m' c))
    = (left m c Cert.KernelIdeal.main_v6 : Vec Ideal Cert.ReferenceIdeal.S20000x7 .f32) := by
  funext j
  obtain ⟨i, k, rfl⟩ : ∃ (i : Fin 20000) (k : Fin 7), j = ix2 i k := ⟨j 0, j 1, eq_ix2 j⟩
  refine (Cert.RVal.v203_at (W m' c) i k).trans (Eq.trans ?_ (Cert.KRun.res6_apply m c h i k).symm)
  rw [ha, hb, hc]

/-- The labels are the same. -/
theorem same_labels : Cert.RVal.written (W m' c) = (left m c Cert.KernelIdeal.main_v7 : Vec Ideal Cert.ReferenceIdeal.S20000 .i32) := by
  funext j
  obtain ⟨i, rfl⟩ : ∃ i : Fin 20000, j = ix1 i := ⟨j 0, eq_ix1 j⟩
  refine (Cert.RVal.written_at (W m' c) i).trans (Eq.trans ?_ (Cert.KRun.res7_apply m c h i).symm)
  rw [ha, hb, hc]

/-- The flags are the same. -/
theorem same_flags : (uitofp .f32 (Cert.ReferenceIdeal.Value.res_main_v167 (W m' c) : Vec Ideal Cert.ReferenceIdeal.S20000 .i1) : FVec Ideal Cert.ReferenceIdeal.S20000 .f32)
    = (left m c Cert.KernelIdeal.main_v8 : Vec Ideal Cert.ReferenceIdeal.S20000 .f32) := by
  funext j
  obtain ⟨i, rfl⟩ : ∃ i : Fin 20000, j = ix1 i := ⟨j 0, eq_ix1 j⟩
  refine (Cert.RVal.v204_at (W m' c) i).trans (Eq.trans ?_ (Cert.KRun.res8_apply m c h i).symm)
  rw [ha, hb, hc]
end

/-- The reference runs, keeps its arguments and ends with every counter at zero. -/
theorem ref_frame (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r => (∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, sem_eq_zero_of_no_sems (by decide) r.2⟩) (Cert.RVal.run m' ρ)

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The kernel and the reference end with the same three results. -/
theorem equal : @Cert.algebraic_KernelIdeal_ReferenceIdeal_pre_gt_boxes_below_infinity Cert.KernelIdeal.Gen.facts
    Cert.ReferenceIdeal.Gen.facts Cert.Meet.pre_facts := by
  intro m g m' g' hpre hagree
  have h : ∀ (c : Dev Cert.KernelIdeal.nD) g k, Cert.KRun.rowsG m c g k ≠ ⊤ := fun c g k =>
    @Cert.Meet.boxes_below Cert.Meet.pre_facts _ _ _ (hpre c) g k
  have ha := fun c => Cert.Meet.same_a m m' c (hagree c).1
  have hb := fun c => Cert.Meet.same_b m m' c (hagree c).2.1
  have hc := fun c => Cert.Meet.same_c m m' c (hagree c).2.2
  refine ⟨fun c => Cert.Meet.left m c Cert.KernelIdeal.main_v6, fun c => Cert.Meet.left m c Cert.KernelIdeal.main_v7,
    fun c => Cert.Meet.left m c Cert.KernelIdeal.main_v8, Cert.KRun.run m g, ?_⟩
  exact (θ_run _ _ _).mono (fun r hr c =>
    ⟨(hr c).1.trans (Cert.Meet.same_boxes m m' c (ha c) (hb c) (hc c) (h c)),
      (hr c).2.1.trans (Cert.Meet.same_labels m m' c (ha c) (hb c) (hc c) (h c)),
      (hr c).2.2.1.trans (Cert.Meet.same_flags m m' c (ha c) (hb c) (hc c) (h c)), (hr c).2.2.2⟩) (Cert.RVal.run m' g')

/-- All the claims together. -/
theorem claim : Cert.Claim :=
  ⟨Cert.Kernel.Gen.facts, Cert.KernelIdeal.Gen.facts, Cert.ReferenceIdeal.Gen.facts, Cert.Meet.pre_facts,
    fun m ρ _ => Cert.Kernel.Gen.frame m ρ, fun m ρ _ => Cert.KernelIdeal.Gen.frame m ρ, fun m ρ _ => Cert.KernelIdeal.Gen.frame m ρ,
    fun m ρ _ => Cert.Meet.ref_frame m ρ, fun m ρ _ => Cert.Meet.ref_frame m ρ, trivial, equal⟩

end Cert.Proof

end
